-- ==== Defs.lean ====
def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReference (m : (ℓ : Loc Cert.GatherReference.nD Cert.GatherReference.τ Cert.GatherReference.sig) → Buf (Elt Bits) ℓ) : Prop :=
  True

def Pre_GatherReference_in_range [hPre_in_range : Cert.Pre_in_range.Facts] (m : (ℓ : Loc Cert.GatherReference.nD Cert.GatherReference.τ Cert.GatherReference.sig) → Buf (Elt Bits) ℓ) : Prop :=
  ∀ c : Dev Cert.GatherReference.nD,
    (Cert.Pre_in_range.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReference_pre_in_range [hGatherReference : Cert.GatherReference.Facts] [hPre_in_range : Cert.Pre_in_range.Facts] : Prop :=
  ∀ (m : (ℓ : Loc Cert.GatherReference.nD Cert.GatherReference.τ Cert.GatherReference.sig) → Buf (Elt Bits) ℓ) (g : Dev Cert.GatherReference.nD → PrngReg), Pre_GatherReference_in_range m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Gather_GatherIdeal : Prop :=
  True

def bitexact_Gather_GatherReference [hGather : Cert.Gather.Facts] [hGatherReference : Cert.GatherReference.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v3)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v3) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v0) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v3)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v3) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v0) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hGather : Cert.Gather.Facts) (hGatherIdeal : Cert.GatherIdeal.Facts) (hGatherReference : Cert.GatherReference.Facts) (hGatherReferenceIdeal : Cert.GatherReferenceIdeal.Facts) (hKernelIdeal : Cert.KernelIdeal.Facts) (hReferenceIdeal : Cert.ReferenceIdeal.Facts) (hPre_in_range : Cert.Pre_in_range.Facts) (hPre_finite : Cert.Pre_finite.Facts),
    quiescent_Gather (hGather := hGather) (hPre_in_range := hPre_in_range)
    ∧ quiescent_GatherIdeal (hGatherIdeal := hGatherIdeal) (hPre_in_range := hPre_in_range)
    ∧ quiescent_GatherReference (hGatherReference := hGatherReference)
    ∧ quiescent_GatherReference_pre_in_range (hGatherReference := hGatherReference) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Gather_GatherIdeal
    ∧ bitexact_Gather_GatherReference (hGather := hGather) (hGatherReference := hGatherReference) (hPre_in_range := hPre_in_range)
    ∧ algebraic_GatherIdeal_GatherReferenceIdeal (hGatherIdeal := hGatherIdeal) (hGatherReferenceIdeal := hGatherReferenceIdeal) (hPre_in_range := hPre_in_range)
    ∧ algebraic_KernelIdeal_ReferenceIdeal_pre_finite (hKernelIdeal := hKernelIdeal) (hReferenceIdeal := hReferenceIdeal) (hPre_finite := hPre_finite)
-- ==== Pre_finite.lean ====
abbrev S4096x32 : Shape := ⟨2, ![4096, 32]⟩
abbrev S1024x32 : Shape := ⟨2, ![1024, 32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4096x32 .f32) (main_arg1 : FVec F S1024x32 .f32) : IVec S_ 1 × IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  (main_v3, main_v7)
-- ==== Pre_in_range.lean ====
abbrev S1024x32 : Shape := ⟨2, ![1024, 32]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S1024x32 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 1024#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Gather.lean ====
abbrev S1024x32 : Shape := ⟨2, ![1024, 32]⟩
abbrev S4096 : Shape := ⟨1, ![4096]⟩
abbrev S_ : Shape := ⟨0, ![]⟩
abbrev S1024x128 : Shape := ⟨2, ![1024, 128]⟩
abbrev S1x4096 : Shape := ⟨2, ![1, 4096]⟩
abbrev S4096x128 : Shape := ⟨2, ![4096, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4096x32 : Shape := ⟨2, ![4096, 32]⟩

abbrev nBuf : Table → Nat
  | .hbm => 8
  | .local .scVector .vmem => 2
  | _ => 0

abbrev bufTy : (tb : Table) → Fin (nBuf tb) → BufTy
  | .hbm, ⟨0, _⟩ => ⟨S1024x32, .f32⟩
  | .hbm, ⟨1, _⟩ => ⟨S4096, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S1x4096, .i32⟩
  | .hbm, ⟨6, _⟩ => ⟨S4096x128, .f32⟩
  | .hbm, ⟨7, _⟩ => ⟨S4096x32, .f32⟩
  | .local .scVector .vmem, ⟨0, _⟩ => ⟨S2x1x128, .i32⟩
  | .local .scVector .vmem, ⟨1, _⟩ => ⟨S2x128x128, .f32⟩
  | _, _ => ⟨S1024x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_12_r0 : BitVec 32 := 0#32
  let c2_i32_13_r0 : BitVec 32 := 2#32
  let v17_r0 : BitVec 32 := Scalar.remui c0_i32_12_r0 c2_i32_13_r0
  let c0_i32_14_r0 : BitVec 32 := 0#32
  let c0_i32_15_r0 : BitVec 32 := 0#32
  ![v17_r0.toNat, 0, 0]
def k0_off2 (i : grid0.Coords) : Fin 2 → Nat :=
  let c0_i32_16_r0 : BitVec 32 := 0#32
  let c128_i32_r0 : BitVec 32 := 128#32
  let c0_i32_r0 : BitVec 32 := 0#32
  let arg1 : BitVec 32 := BitVec.ofNat 32 (i 1).val
  let c2_i32 : BitVec 32 := 2#32
  let v0 : BitVec 32 := Scalar.muli arg1 c2_i32
  let v3_r0 : BitVec 32 := Scalar.addi c0_i32_r0 v0
  let v18_r0 : BitVec 32 := Scalar.muli c128_i32_r0 v3_r0
  ![0, v18_r0.toNat]
def k0_off3 : Fin 1 → Nat :=
  let c0_i32_12_r0 : BitVec 32 := 0#32
  let c2_i32_13_r0 : BitVec 32 := 2#32
  let v17_r0 : BitVec 32 := Scalar.remui c0_i32_12_r0 c2_i32_13_r0
  ![v17_r0.toNat]
@[reducible] def k0_t1_loop : Scf.Loop 32 :=
  let c0_i32_26_r0 : BitVec 32 := 0#32
  let c2_i32_27_r0 : BitVec 32 := 2#32
  let v28_r0 : BitVec 32 := Scalar.addi c0_i32_26_r0 c2_i32_27_r0
  let c1_i32_28_r0 : BitVec 32 := 1#32
  ⟨c0_i32_26_r0, v28_r0, c1_i32_28_r0⟩
def k0_off4 (arg6_r0 : BitVec 32) : Fin 3 → Nat :=
  let c2_i32_99_r0 : BitVec 32 := 2#32
  let v140_r0 : BitVec 32 := Scalar.remui arg6_r0 c2_i32_99_r0
  let c0_i32_101_r0 : BitVec 32 := 0#32
  let c0_i32_102_r0 : BitVec 32 := 0#32
  ![v140_r0.toNat, 0, 0]
def k0_cond1 (i : grid0.Coords) (k0_t1 : Fin k0_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let v72_r0 : BitVec 32 := Scalar.addi v71_r0 v0
  let v78_r0 : BitVec 1 := Scalar.cmpi .ne v62_r0 v72_r0
  let c0_i32_26_r0 : BitVec 32 := 0#32
  let c1_i32_28_r0 : BitVec 32 := 1#32
  let arg5_r0 : BitVec 32 := Scf.iv c0_i32_26_r0 c1_i32_28_r0 k0_t1
  let c1_i32_68_r0 : BitVec 32 := 1#32
  let v79_r0 : BitVec 1 := Scalar.cmpi .sge arg5_r0 c1_i32_68_r0
  let true_69_r0 : BitVec 1 := 1#1
  let v80_r0 : BitVec 1 := Scalar.xori v79_r0 true_69_r0
  let v81_r0 : BitVec 1 := Scalar.andi v78_r0 v80_r0
  let true_70_r0 : BitVec 1 := 1#1
  let v82_r0 : BitVec 1 := Scalar.andi v81_r0 true_70_r0
  let v83_r0 : BitVec 32 := Scalar.extui v82_r0
  let c0_i32_71_r0 : BitVec 32 := 0#32
  let v84_r0 : BitVec 1 := Scalar.cmpi .ne v83_r0 c0_i32_71_r0
  v84_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let arg1 : BitVec 32 := BitVec.ofNat 32 (i 1).val
  let c2_i32 : BitVec 32 := 2#32
  let v0 : BitVec 32 := Scalar.muli arg1 c2_i32
  let v72_r0 : BitVec 32 := Scalar.addi v71_r0 v0
  let v141_r0 : BitVec 32 := Scalar.muli c128_i32_100_r0 v72_r0
  ![0, v141_r0.toNat]
def k0_off6 (arg6_r0 : BitVec 32) : Fin 1 → Nat :=
  let c2_i32_99_r0 : BitVec 32 := 2#32
  let v140_r0 : BitVec 32 := Scalar.remui arg6_r0 c2_i32_99_r0
  ![v140_r0.toNat]
def k0_off7 (arg7_r0 : BitVec 32) : Fin 3 → Nat :=
  let c2_i32_100_r0 : BitVec 32 := 2#32
  let v141_r0 : BitVec 32 := Scalar.remui arg7_r0 c2_i32_100_r0
  let c0_i32_101_r0 : BitVec 32 := 0#32
  let c0_i32_102_r0 : BitVec 32 := 0#32
  ![v141_r0.toNat, 0, 0]
def k0_cond2 (i : grid0.Coords) (k0_t1 : Fin k0_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let v67_r0 : BitVec 32 := Scalar.addi v66_r0 v0
  let v92_r0 : BitVec 1 := Scalar.cmpi .ne v62_r0 v67_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v60_r0 : BitVec 1 := Scalar.cmpi .eq arg5_r0 c0_i32_54_r0
  let v93_r0 : BitVec 1 := Scalar.ori v92_r0 v60_r0
  let c0_i32_76_r0 : BitVec 32 := 0#32
  let v94_r0 : BitVec 1 := Scalar.cmpi .sge arg5_r0 c0_i32_76_r0
  let v95_r0 : BitVec 1 := Scalar.andi v93_r0 v94_r0
  let v96_r0 : BitVec 32 := Scalar.extui v95_r0
  let c0_i32_77_r0 : BitVec 32 := 0#32
  let v97_r0 : BitVec 1 := Scalar.cmpi .ne v96_r0 c0_i32_77_r0
  v97_r0

def k0_off8 (i : grid0.Coords) (arg10_r0 : BitVec 32) : Fin 2 → Nat :=
  let c0_i32_103_r0 : BitVec 32 := 0#32
  let c128_i32_99_r0 : BitVec 32 := 128#32
  let arg1 : BitVec 32 := BitVec.ofNat 32 (i 1).val
  let c2_i32 : BitVec 32 := 2#32
  let v0 : BitVec 32 := Scalar.muli arg1 c2_i32
  let v62_r0 : BitVec 32 := Scalar.addi arg10_r0 v0
  let v140_r0 : BitVec 32 := Scalar.muli c128_i32_99_r0 v62_r0
  ![0, v140_r0.toNat]
def k0_off9 (arg7_r0 : BitVec 32) : Fin 1 → Nat :=
  let c2_i32_100_r0 : BitVec 32 := 2#32
  let v141_r0 : BitVec 32 := Scalar.remui arg7_r0 c2_i32_100_r0
  ![v141_r0.toNat]
def k0_off10 (arg8_r0 : BitVec 32) : Fin 3 → Nat :=
  let c2_i32_81_r0 : BitVec 32 := 2#32
  let v105_r0 : BitVec 32 := Scalar.remui arg8_r0 c2_i32_81_r0
  let c0_i32_99_r1 : BitVec 32 := 0#32
  let c0_i32_100_r1 : BitVec 32 := 0#32
  ![v105_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v104_r0 : BitVec 32 := Scalar.remui arg7_r0 c2_i32_80_r0
  let c0_i32_101_r1 : BitVec 32 := 0#32
  let c0_i32_102_r1 : BitVec 32 := 0#32
  ![v104_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v140_r0 : BitVec 32 := Scalar.remui arg8_r0 c2_i32_99_r0
  let c0_i32_101_r0 : BitVec 32 := 0#32
  let c0_i32_102_r0 : BitVec 32 := 0#32
  ![v140_r0.toNat, 0, 0]
def k0_cond5 (i : grid0.Coords) (k0_t1 : Fin k0_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let v72_r0 : BitVec 32 := Scalar.addi v71_r0 v0
  let v111_r0 : BitVec 1 := Scalar.cmpi .ne v62_r0 v72_r0
  let c0_i32_26_r0 : BitVec 32 := 0#32
  let c1_i32_28_r0 : BitVec 32 := 1#32
  let arg5_r0 : BitVec 32 := Scf.iv c0_i32_26_r0 c1_i32_28_r0 k0_t1
  let c1_i32_55_r0 : BitVec 32 := 1#32
  let v61_r0 : BitVec 1 := Scalar.cmpi .eq arg5_r0 c1_i32_55_r0
  let v112_r0 : BitVec 1 := Scalar.ori v111_r0 v61_r0
  let v113_r0 : BitVec 32 := Scalar.extui v112_r0
  let c0_i32_84_r0 : BitVec 32 := 0#32
  let v114_r0 : BitVec 1 := Scalar.cmpi .ne v113_r0 c0_i32_84_r0
  v114_r0

def k0_off13 (i : grid0.Coords) (arg10_r0 : BitVec 32) : Fin 2 → Nat :=
  let c128_i32_100_r0 : BitVec 32 := 128#32
  let arg1 : BitVec 32 := BitVec.ofNat 32 (i 1).val
  let c2_i32 : BitVec 32 := 2#32
  let v0 : BitVec 32 := Scalar.muli arg1 c2_i32
  let v62_r0 : BitVec 32 := Scalar.addi arg10_r0 v0
  let v141_r0 : BitVec 32 := Scalar.muli c128_i32_100_r0 v62_r0
  let c0_i32_103_r0 : BitVec 32 := 0#32
  ![v141_r0.toNat, 0]
def k0_off14 (arg8_r0 : BitVec 32) : Fin 1 → Nat :=
  let c2_i32_99_r0 : BitVec 32 := 2#32
  let v140_r0 : BitVec 32 := Scalar.remui arg8_r0 c2_i32_99_r0
  ![v140_r0.toNat]
def k0_off15 (arg9_r0 : BitVec 32) : Fin 3 → Nat :=
  let c2_i32_99_r0 : BitVec 32 := 2#32
  let v140_r0 : BitVec 32 := Scalar.remui arg9_r0 c2_i32_99_r0
  let c0_i32_101_r0 : BitVec 32 := 0#32
  let c0_i32_102_r0 : BitVec 32 := 0#32
  ![v140_r0.toNat, 0, 0]
def k0_cond7 (i : grid0.Coords) (k0_t1 : Fin k0_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let v67_r0 : BitVec 32 := Scalar.addi v66_r0 v0
  let v124_r0 : BitVec 1 := Scalar.cmpi .ne v62_r0 v67_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v60_r0 : BitVec 1 := Scalar.cmpi .eq arg5_r0 c0_i32_54_r0
  let true_90_r0 : BitVec 1 := 1#1
  let v125_r0 : BitVec 1 := Scalar.xori v60_r0 true_90_r0
  let v126_r0 : BitVec 1 := Scalar.andi v124_r0 v125_r0
  let v127_r0 : BitVec 32 := Scalar.extui v126_r0
  let c0_i32_91_r0 : BitVec 32 := 0#32
  let v128_r0 : BitVec 1 := Scalar.cmpi .ne v127_r0 c0_i32_91_r0
  v128_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let arg1 : BitVec 32 := BitVec.ofNat 32 (i 1).val
  let c2_i32 : BitVec 32 := 2#32
  let v0 : BitVec 32 := Scalar.muli arg1 c2_i32
  let v67_r0 : BitVec 32 := Scalar.addi v66_r0 v0
  let v141_r0 : BitVec 32 := Scalar.muli c128_i32_100_r0 v67_r0
  let c0_i32_103_r0 : BitVec 32 := 0#32
  ![v141_r0.toNat, 0]
def k0_off17 (arg9_r0 : BitVec 32) : Fin 1 → Nat :=
  let c2_i32_99_r0 : BitVec 32 := 2#32
  let v140_r0 : BitVec 32 := Scalar.remui arg9_r0 c2_i32_99_r0
  ![v140_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x4096.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x4096.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S4096x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S4096x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x4096.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x4096.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S4096x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S4096x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v29_3_r0 : BitVec 32) : Fin 3 → Nat :=
  let c2_i32_46_r0 : BitVec 32 := 2#32
  let v50_r0 : BitVec 32 := Scalar.remui v29_3_r0 c2_i32_46_r0
  let c0_i32_48_r0 : BitVec 32 := 0#32
  let c0_i32_49_r0 : BitVec 32 := 0#32
  ![v50_r0.toNat, 0, 0]

def k0_off19 (i : grid0.Coords) (v29_4_r0 : BitVec 32) : Fin 2 → Nat :=
  let c128_i32_47_r0 : BitVec 32 := 128#32
  let true_31_r0 : BitVec 1 := 1#1
  let c1_i32_30_r0 : BitVec 32 := 1#32
  let v30_r0 : BitVec 32 := Scalar.subi v29_4_r0 c1_i32_30_r0
  let v31_r0 : BitVec 32 := Scalar.select true_31_r0 v30_r0 v29_4_r0
  let c_m1_i32_32_r0 : BitVec 32 := 4294967295#32
  let v32_r0 : BitVec 1 := Scalar.cmpi .eq v31_r0 c_m1_i32_32_r0
  let c1_i32_33_r0 : BitVec 32 := 1#32
  let v33_r0 : BitVec 32 := Scalar.select v32_r0 c1_i32_33_r0 v31_r0
  let arg1 : BitVec 32 := BitVec.ofNat 32 (i 1).val
  let c2_i32 : BitVec 32 := 2#32
  let v0 : BitVec 32 := Scalar.muli arg1 c2_i32
  let v34_r0 : BitVec 32 := Scalar.addi v33_r0 v0
  let v51_r0 : BitVec 32 := Scalar.muli c128_i32_47_r0 v34_r0
  let c0_i32_50_r0 : BitVec 32 := 0#32
  ![v51_r0.toNat, 0]

def k0_chk5 (i : grid0.Coords) (v29_4_r0 : BitVec 32) : Prop :=
  (∀ a, (k0_off19 i v29_4_r0) a + S128x128.size a ≤ S4096x128.size a)
theorem k0_off19_inb : ∀ (i : grid0.Coords) (v29_4_r0 : BitVec 32) (k0_hw5 : k0_chk5 i v29_4_r0), ∀ a, (k0_off19 i v29_4_r0) a + S128x128.size a ≤ S4096x128.size a := fun i v29_4_r0 k0_hw5 => k0_hw5

def k0_off20 (v29_3_r0 : BitVec 32) : Fin 1 → Nat :=
  let c2_i32_46_r0 : BitVec 32 := 2#32
  let v50_r0 : BitVec 32 := Scalar.remui v29_3_r0 c2_i32_46_r0
  ![v50_r0.toNat]
def k0_off21 (v29_3_r0 : BitVec 32) : Fin 3 → Nat :=
  let c2_i32_46_r0 : BitVec 32 := 2#32
  let v50_r0 : BitVec 32 := Scalar.remui v29_3_r0 c2_i32_46_r0
  let c0_i32_52_r0 : BitVec 32 := 0#32
  let c0_i32_53_r0 : BitVec 32 := 0#32
  ![v50_r0.toNat, 0, 0]

def k0_chk4 (v29_3_r0 : BitVec 32) : Prop :=
  (∀ a, (k0_off18 v29_3_r0) a + S1x128x128.size a ≤ S2x128x128.size a) ∧
  (∀ a, (k0_off20 v29_3_r0) a + S1.size a ≤ S2.size a) ∧
  (∀ a, (k0_off21 v29_3_r0) a + S1x128x128.size a ≤ S2x128x128.size a)
theorem k0_off18_inb : ∀ (v29_3_r0 : BitVec 32) (k0_hw4 : k0_chk4 v29_3_r0), ∀ a, (k0_off18 v29_3_r0) a + S1x128x128.size a ≤ S2x128x128.size a := fun v29_3_r0 k0_hw4 => k0_hw4.1
theorem k0_off20_inb : ∀ (v29_3_r0 : BitVec 32) (k0_hw4 : k0_chk4 v29_3_r0), ∀ a, (k0_off20 v29_3_r0) a + S1.size a ≤ S2.size a := fun v29_3_r0 k0_hw4 => k0_hw4.2.1
theorem k0_off21_inb : ∀ (v29_3_r0 : BitVec 32) (k0_hw4 : k0_chk4 v29_3_r0), ∀ a, (k0_off21 v29_3_r0) a + S1x128x128.size a ≤ S2x128x128.size a := fun v29_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S1024x32 : Shape := ⟨2, ![1024, 32]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32 : Shape := ⟨2, ![4096, 32]⟩

abbrev nBuf : Space → Nat
  | .hbm => 25
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x32, .f32⟩
  | .hbm, ⟨21, _⟩ => ⟨S4096x32, .i1⟩
  | .hbm, ⟨22, _⟩ => ⟨S_, .f32⟩
  | .hbm, ⟨23, _⟩ => ⟨S4096x32, .f32⟩
  | .hbm, ⟨24, _⟩ => ⟨S4096x32, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== KernelIdeal.lean ====
abbrev S4096x32 : Shape := ⟨2, ![4096, 32]⟩
abbrev S1024x32 : Shape := ⟨2, ![1024, 32]⟩
abbrev S32x4096 : Shape := ⟨2, ![32, 4096]⟩
abbrev S32x1024 : Shape := ⟨2, ![32, 1024]⟩
abbrev S1x4096 : Shape := ⟨2, ![1, 4096]⟩
abbrev S1x1 : Shape := ⟨2, ![1, 1]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩
abbrev S4096 : Shape := ⟨1, ![4096]⟩
abbrev S_ : Shape := ⟨0, ![]⟩
abbrev S1024x128 : Shape := ⟨2, ![1024, 128]⟩
abbrev S4096x128 : Shape := ⟨2, ![4096, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Table → Nat
  | .hbm => 16
  | .local .tc .vmem => 7
  | .local .scVector .vmem => 2
  | _ => 0

abbrev bufTy : (tb : Table) → Fin (nBuf tb) → BufTy
  | .hbm, ⟨0, _⟩ => ⟨S4096x32, .f32⟩
  | .hbm, ⟨1, _⟩ => ⟨S1024x32, .f32⟩
  | .hbm, ⟨2, _⟩ => ⟨S32x4096, .f32⟩
  | .hbm, ⟨3, _⟩ => ⟨S32x1024, .f32⟩
  | .hbm, ⟨4, _⟩ => ⟨S1x4096, .i32⟩
  | .hbm, ⟨5, _⟩ => ⟨S1x1, .f32⟩
  | .hbm, ⟨6, _⟩ => ⟨S4096, .i32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1x4096, .i32⟩
  | .hbm, ⟨12, _⟩ => ⟨S4096x128, .f32⟩
  | .hbm, ⟨13, _⟩ => ⟨S4096x32, .f32⟩
  | .hbm, ⟨14, _⟩ => ⟨S_, .f32⟩
  | .hbm, ⟨15, _⟩ => ⟨S_, .f32⟩
  | .local .tc .vmem, ⟨0, _⟩ => ⟨S32x1024, .f32⟩
  | .local .tc .vmem, ⟨1, _⟩ => ⟨S32x1024, .f32⟩
  | .local .tc .vmem, ⟨2, _⟩ => ⟨S1024x32, .f32⟩
  | .local .tc .vmem, ⟨3, _⟩ => ⟨S32x1024, .f32⟩
  | .local .tc .vmem, ⟨4, _⟩ => ⟨S1x1024, .i32⟩
  | .local .tc .vmem, ⟨5, _⟩ => ⟨S1x1024, .i32⟩
  | .local .tc .vmem, ⟨6, _⟩ => ⟨S1x1, .f32⟩
  | .local .scVector .vmem, ⟨0, _⟩ => ⟨S2x1x128, .i32⟩
  | .local .scVector .vmem, ⟨1, _⟩ => ⟨S2x128x128, .f32⟩
  | _, _ => ⟨S4096x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v5_scv : Ref sig .scVector := ⟨.hbm, 10, rfl⟩
abbrev main_v6_scv : Ref sig .scVector := ⟨.hbm, 11, rfl⟩
abbrev main_v7_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 : Fin 3 → Nat :=
  let c0_i32_12_r0 : BitVec 32 := 0#32
  let c2_i32_13_r0 : BitVec 32 := 2#32
  let v17_r0 : BitVec 32 := Scalar.remui c0_i32_12_r0 c2_i32_13_r0
  let c0_i32_14_r0 : BitVec 32 := 0#32
  let c0_i32_15_r0 : BitVec 32 := 0#32
  ![v17_r0.toNat, 0, 0]
def k1_off2 (i : grid1.Coords) : Fin 2 → Nat :=
  let c0_i32_16_r0 : BitVec 32 := 0#32
  let c128_i32_r0 : BitVec 32 := 128#32
  let c0_i32_r0 : BitVec 32 := 0#32
  let arg1 : BitVec 32 := BitVec.ofNat 32 (i 1).val
  let c2_i32 : BitVec 32 := 2#32
  let v0 : BitVec 32 := Scalar.muli arg1 c2_i32
  let v3_r0 : BitVec 32 := Scalar.addi c0_i32_r0 v0
  let v18_r0 : BitVec 32 := Scalar.muli c128_i32_r0 v3_r0
  ![0, v18_r0.toNat]
def k1_off3 : Fin 1 → Nat :=
  let c0_i32_12_r0 : BitVec 32 := 0#32
  let c2_i32_13_r0 : BitVec 32 := 2#32
  let v17_r0 : BitVec 32 := Scalar.remui c0_i32_12_r0 c2_i32_13_r0
  ![v17_r0.toNat]
@[reducible] def k1_t1_loop : Scf.Loop 32 :=
  let c0_i32_26_r0 : BitVec 32 := 0#32
  let c2_i32_27_r0 : BitVec 32 := 2#32
  let v28_r0 : BitVec 32 := Scalar.addi c0_i32_26_r0 c2_i32_27_r0
  let c1_i32_28_r0 : BitVec 32 := 1#32
  ⟨c0_i32_26_r0, v28_r0, c1_i32_28_r0⟩
def k1_off4 (arg6_r0 : BitVec 32) : Fin 3 → Nat :=
  let c2_i32_99_r0 : BitVec 32 := 2#32
  let v140_r0 : BitVec 32 := Scalar.remui arg6_r0 c2_i32_99_r0
  let c0_i32_101_r0 : BitVec 32 := 0#32
  let c0_i32_102_r0 : BitVec 32 := 0#32
  ![v140_r0.toNat, 0, 0]
def k1_cond1 (i : grid1.Coords) (k1_t1 : Fin k1_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let v72_r0 : BitVec 32 := Scalar.addi v71_r0 v0
  let v78_r0 : BitVec 1 := Scalar.cmpi .ne v62_r0 v72_r0
  let c0_i32_26_r0 : BitVec 32 := 0#32
  let c1_i32_28_r0 : BitVec 32 := 1#32
  let arg5_r0 : BitVec 32 := Scf.iv c0_i32_26_r0 c1_i32_28_r0 k1_t1
  let c1_i32_68_r0 : BitVec 32 := 1#32
  let v79_r0 : BitVec 1 := Scalar.cmpi .sge arg5_r0 c1_i32_68_r0
  let true_69_r0 : BitVec 1 := 1#1
  let v80_r0 : BitVec 1 := Scalar.xori v79_r0 true_69_r0
  let v81_r0 : BitVec 1 := Scalar.andi v78_r0 v80_r0
  let true_70_r0 : BitVec 1 := 1#1
  let v82_r0 : BitVec 1 := Scalar.andi v81_r0 true_70_r0
  let v83_r0 : BitVec 32 := Scalar.extui v82_r0
  let c0_i32_71_r0 : BitVec 32 := 0#32
  let v84_r0 : BitVec 1 := Scalar.cmpi .ne v83_r0 c0_i32_71_r0
  v84_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let arg1 : BitVec 32 := BitVec.ofNat 32 (i 1).val
  let c2_i32 : BitVec 32 := 2#32
  let v0 : BitVec 32 := Scalar.muli arg1 c2_i32
  let v72_r0 : BitVec 32 := Scalar.addi v71_r0 v0
  let v141_r0 : BitVec 32 := Scalar.muli c128_i32_100_r0 v72_r0
  ![0, v141_r0.toNat]
def k1_off6 (arg6_r0 : BitVec 32) : Fin 1 → Nat :=
  let c2_i32_99_r0 : BitVec 32 := 2#32
  let v140_r0 : BitVec 32 := Scalar.remui arg6_r0 c2_i32_99_r0
  ![v140_r0.toNat]
def k1_off7 (arg7_r0 : BitVec 32) : Fin 3 → Nat :=
  let c2_i32_100_r0 : BitVec 32 := 2#32
  let v141_r0 : BitVec 32 := Scalar.remui arg7_r0 c2_i32_100_r0
  let c0_i32_101_r0 : BitVec 32 := 0#32
  let c0_i32_102_r0 : BitVec 32 := 0#32
  ![v141_r0.toNat, 0, 0]
def k1_cond2 (i : grid1.Coords) (k1_t1 : Fin k1_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let v67_r0 : BitVec 32 := Scalar.addi v66_r0 v0
  let v92_r0 : BitVec 1 := Scalar.cmpi .ne v62_r0 v67_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v60_r0 : BitVec 1 := Scalar.cmpi .eq arg5_r0 c0_i32_54_r0
  let v93_r0 : BitVec 1 := Scalar.ori v92_r0 v60_r0
  let c0_i32_76_r0 : BitVec 32 := 0#32
  let v94_r0 : BitVec 1 := Scalar.cmpi .sge arg5_r0 c0_i32_76_r0
  let v95_r0 : BitVec 1 := Scalar.andi v93_r0 v94_r0
  let v96_r0 : BitVec 32 := Scalar.extui v95_r0
  let c0_i32_77_r0 : BitVec 32 := 0#32
  let v97_r0 : BitVec 1 := Scalar.cmpi .ne v96_r0 c0_i32_77_r0
  v97_r0

def k1_off8 (i : grid1.Coords) (arg10_r0 : BitVec 32) : Fin 2 → Nat :=
  let c0_i32_103_r0 : BitVec 32 := 0#32
  let c128_i32_99_r0 : BitVec 32 := 128#32
  let arg1 : BitVec 32 := BitVec.ofNat 32 (i 1).val
  let c2_i32 : BitVec 32 := 2#32
  let v0 : BitVec 32 := Scalar.muli arg1 c2_i32
  let v62_r0 : BitVec 32 := Scalar.addi arg10_r0 v0
  let v140_r0 : BitVec 32 := Scalar.muli c128_i32_99_r0 v62_r0
  ![0, v140_r0.toNat]
def k1_off9 (arg7_r0 : BitVec 32) : Fin 1 → Nat :=
  let c2_i32_100_r0 : BitVec 32 := 2#32
  let v141_r0 : BitVec 32 := Scalar.remui arg7_r0 c2_i32_100_r0
  ![v141_r0.toNat]
def k1_off10 (arg8_r0 : BitVec 32) : Fin 3 → Nat :=
  let c2_i32_81_r0 : BitVec 32 := 2#32
  let v105_r0 : BitVec 32 := Scalar.remui arg8_r0 c2_i32_81_r0
  let c0_i32_99_r1 : BitVec 32 := 0#32
  let c0_i32_100_r1 : BitVec 32 := 0#32
  ![v105_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v104_r0 : BitVec 32 := Scalar.remui arg7_r0 c2_i32_80_r0
  let c0_i32_101_r1 : BitVec 32 := 0#32
  let c0_i32_102_r1 : BitVec 32 := 0#32
  ![v104_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v140_r0 : BitVec 32 := Scalar.remui arg8_r0 c2_i32_99_r0
  let c0_i32_101_r0 : BitVec 32 := 0#32
  let c0_i32_102_r0 : BitVec 32 := 0#32
  ![v140_r0.toNat, 0, 0]
def k1_cond5 (i : grid1.Coords) (k1_t1 : Fin k1_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_61_r0 : BitVec 1 := 1#1
  let c1_i32_60_r0 : BitVec 32 := 1#32
  let v68_r0 : BitVec 32 := Scalar.addi arg10_r0 c1_i32_60_r0
  let v69_r0 : BitVec 32 := Scalar.select true_61_r0 v68_r0 arg10_r0
  let c2_i32_62_r0 : BitVec 32 := 2#32
  let v70_r0 : BitVec 1 := Scalar.cmpi .eq v69_r0 c2_i32_62_r0
  let c0_i32_63_r0 : BitVec 32 := 0#32
  let v71_r0 : BitVec 32 := Scalar.select v70_r0 c0_i32_63_r0 v69_r0
  let v72_r0 : BitVec 32 := Scalar.addi v71_r0 v0
  let v111_r0 : BitVec 1 := Scalar.cmpi .ne v62_r0 v72_r0
  let c0_i32_26_r0 : BitVec 32 := 0#32
  let c1_i32_28_r0 : BitVec 32 := 1#32
  let arg5_r0 : BitVec 32 := Scf.iv c0_i32_26_r0 c1_i32_28_r0 k1_t1
  let c1_i32_55_r0 : BitVec 32 := 1#32
  let v61_r0 : BitVec 1 := Scalar.cmpi .eq arg5_r0 c1_i32_55_r0
  let v112_r0 : BitVec 1 := Scalar.ori v111_r0 v61_r0
  let v113_r0 : BitVec 32 := Scalar.extui v112_r0
  let c0_i32_84_r0 : BitVec 32 := 0#32
  let v114_r0 : BitVec 1 := Scalar.cmpi .ne v113_r0 c0_i32_84_r0
  v114_r0

def k1_off13 (i : grid1.Coords) (arg10_r0 : BitVec 32) : Fin 2 → Nat :=
  let c128_i32_100_r0 : BitVec 32 := 128#32
  let arg1 : BitVec 32 := BitVec.ofNat 32 (i 1).val
  let c2_i32 : BitVec 32 := 2#32
  let v0 : BitVec 32 := Scalar.muli arg1 c2_i32
  let v62_r0 : BitVec 32 := Scalar.addi arg10_r0 v0
  let v141_r0 : BitVec 32 := Scalar.muli c128_i32_100_r0 v62_r0
  let c0_i32_103_r0 : BitVec 32 := 0#32
  ![v141_r0.toNat, 0]
def k1_off14 (arg8_r0 : BitVec 32) : Fin 1 → Nat :=
  let c2_i32_99_r0 : BitVec 32 := 2#32
  let v140_r0 : BitVec 32 := Scalar.remui arg8_r0 c2_i32_99_r0
  ![v140_r0.toNat]
def k1_off15 (arg9_r0 : BitVec 32) : Fin 3 → Nat :=
  let c2_i32_99_r0 : BitVec 32 := 2#32
  let v140_r0 : BitVec 32 := Scalar.remui arg9_r0 c2_i32_99_r0
  let c0_i32_101_r0 : BitVec 32 := 0#32
  let c0_i32_102_r0 : BitVec 32 := 0#32
  ![v140_r0.toNat, 0, 0]
def k1_cond7 (i : grid1.Coords) (k1_t1 : Fin k1_t1_loop.trips) (arg10_r0 : BitVec 32) : BitVec 1 :=
  let arg1 : BitVec 32 := BitVec.ofNat 32 (i 1).val
  let c2_i32 : BitVec 32 := 2#32
  let v0 : BitVec 32 := Scalar.muli arg1 c2_i32
  let v62_r0 : BitVec 32 := Scalar.addi arg10_r0 v0
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let v67_r0 : BitVec 32 := Scalar.addi v66_r0 v0
  let v124_r0 : BitVec 1 := Scalar.cmpi .ne v62_r0 v67_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v60_r0 : BitVec 1 := Scalar.cmpi .eq arg5_r0 c0_i32_54_r0
  let true_90_r0 : BitVec 1 := 1#1
  let v125_r0 : BitVec 1 := Scalar.xori v60_r0 true_90_r0
  let v126_r0 : BitVec 1 := Scalar.andi v124_r0 v125_r0
  let v127_r0 : BitVec 32 := Scalar.extui v126_r0
  let c0_i32_91_r0 : BitVec 32 := 0#32
  let v128_r0 : BitVec 1 := Scalar.cmpi .ne v127_r0 c0_i32_91_r0
  v128_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v63_r0 : BitVec 32 := Scalar.subi arg10_r0 c1_i32_56_r0
  let v64_r0 : BitVec 32 := Scalar.select true_57_r0 v63_r0 arg10_r0
  let c_m1_i32_58_r0 : BitVec 32 := 4294967295#32
  let v65_r0 : BitVec 1 := Scalar.cmpi .eq v64_r0 c_m1_i32_58_r0
  let c1_i32_59_r0 : BitVec 32 := 1#32
  let v66_r0 : BitVec 32 := Scalar.select v65_r0 c1_i32_59_r0 v64_r0
  let arg1 : BitVec 32 := BitVec.ofNat 32 (i 1).val
  let c2_i32 : BitVec 32 := 2#32
  let v0 : BitVec 32 := Scalar.muli arg1 c2_i32
  let v67_r0 : BitVec 32 := Scalar.addi v66_r0 v0
  let v141_r0 : BitVec 32 := Scalar.muli c128_i32_100_r0 v67_r0
  let c0_i32_103_r0 : BitVec 32 := 0#32
  ![v141_r0.toNat, 0]
def k1_off17 (arg9_r0 : BitVec 32) : Fin 1 → Nat :=
  let c2_i32_99_r0 : BitVec 32 := 2#32
  let v140_r0 : BitVec 32 := Scalar.remui arg9_r0 c2_i32_99_r0
  ![v140_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x4096.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x4096.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S4096x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S4096x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x4096.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x4096.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S4096x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S4096x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v29_3_r0 : BitVec 32) : Fin 3 → Nat :=
  let c2_i32_46_r0 : BitVec 32 := 2#32
  let v50_r0 : BitVec 32 := Scalar.remui v29_3_r0 c2_i32_46_r0
  let c0_i32_48_r0 : BitVec 32 := 0#32
  let c0_i32_49_r0 : BitVec 32 := 0#32
  ![v50_r0.toNat, 0, 0]

def k1_off19 (i : grid1.Coords) (v29_4_r0 : BitVec 32) : Fin 2 → Nat :=
  let c128_i32_47_r0 : BitVec 32 := 128#32
  let true_31_r0 : BitVec 1 := 1#1
  let c1_i32_30_r0 : BitVec 32 := 1#32
  let v30_r0 : BitVec 32 := Scalar.subi v29_4_r0 c1_i32_30_r0
  let v31_r0 : BitVec 32 := Scalar.select true_31_r0 v30_r0 v29_4_r0
  let c_m1_i32_32_r0 : BitVec 32 := 4294967295#32
  let v32_r0 : BitVec 1 := Scalar.cmpi .eq v31_r0 c_m1_i32_32_r0
  let c1_i32_33_r0 : BitVec 32 := 1#32
  let v33_r0 : BitVec 32 := Scalar.select v32_r0 c1_i32_33_r0 v31_r0
  let arg1 : BitVec 32 := BitVec.ofNat 32 (i 1).val
  let c2_i32 : BitVec 32 := 2#32
  let v0 : BitVec 32 := Scalar.muli arg1 c2_i32
  let v34_r0 : BitVec 32 := Scalar.addi v33_r0 v0
  let v51_r0 : BitVec 32 := Scalar.muli c128_i32_47_r0 v34_r0
  let c0_i32_50_r0 : BitVec 32 := 0#32
  ![v51_r0.toNat, 0]

def k1_chk5 (i : grid1.Coords) (v29_4_r0 : BitVec 32) : Prop :=
  (∀ a, (k1_off19 i v29_4_r0) a + S128x128.size a ≤ S4096x128.size a)
theorem k1_off19_inb : ∀ (i : grid1.Coords) (v29_4_r0 : BitVec 32) (k1_hw5 : k1_chk5 i v29_4_r0), ∀ a, (k1_off19 i v29_4_r0) a + S128x128.size a ≤ S4096x128.size a := fun i v29_4_r0 k1_hw5 => k1_hw5

def k1_off20 (v29_3_r0 : BitVec 32) : Fin 1 → Nat :=
  let c2_i32_46_r0 : BitVec 32 := 2#32
  let v50_r0 : BitVec 32 := Scalar.remui v29_3_r0 c2_i32_46_r0
  ![v50_r0.toNat]
def k1_off21 (v29_3_r0 : BitVec 32) : Fin 3 → Nat :=
  let c2_i32_46_r0 : BitVec 32 := 2#32
  let v50_r0 : BitVec 32 := Scalar.remui v29_3_r0 c2_i32_46_r0
  let c0_i32_52_r0 : BitVec 32 := 0#32
  let c0_i32_53_r0 : BitVec 32 := 0#32
  ![v50_r0.toNat, 0, 0]

def k1_chk4 (v29_3_r0 : BitVec 32) : Prop :=
  (∀ a, (k1_off18 v29_3_r0) a + S1x128x128.size a ≤ S2x128x128.size a) ∧
  (∀ a, (k1_off20 v29_3_r0) a + S1.size a ≤ S2.size a) ∧
  (∀ a, (k1_off21 v29_3_r0) a + S1x128x128.size a ≤ S2x128x128.size a)
theorem k1_off18_inb : ∀ (v29_3_r0 : BitVec 32) (k1_hw4 : k1_chk4 v29_3_r0), ∀ a, (k1_off18 v29_3_r0) a + S1x128x128.size a ≤ S2x128x128.size a := fun v29_3_r0 k1_hw4 => k1_hw4.1
theorem k1_off20_inb : ∀ (v29_3_r0 : BitVec 32) (k1_hw4 : k1_chk4 v29_3_r0), ∀ a, (k1_off20 v29_3_r0) a + S1.size a ≤ S2.size a := fun v29_3_r0 k1_hw4 => k1_hw4.2.1
theorem k1_off21_inb : ∀ (v29_3_r0 : BitVec 32) (k1_hw4 : k1_chk4 v29_3_r0), ∀ a, (k1_off21 v29_3_r0) a + S1x128x128.size a ≤ S2x128x128.size a := fun v29_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x32 : Shape := ⟨2, ![4096, 32]⟩
abbrev S1024x32 : Shape := ⟨2, ![1024, 32]⟩
abbrev S4096x1x32 : Shape := ⟨3, ![4096, 1, 32]⟩
abbrev S1x1024x32 : Shape := ⟨3, ![1, 1024, 32]⟩
abbrev S4096x1024x32 : Shape := ⟨3, ![4096, 1024, 32]⟩
abbrev S_ : Shape := ⟨0, ![]⟩
abbrev S4096x1024 : Shape := ⟨2, ![4096, 1024]⟩
abbrev S1024x4096 : Shape := ⟨2, ![1024, 4096]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x4096 : Shape := ⟨2, ![1, 4096]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S1024x32, .f32⟩
  | .hbm, ⟨2, _⟩ => ⟨S4096x1x32, .f32⟩
  | .hbm, ⟨3, _⟩ => ⟨S1x1024x32, .f32⟩
  | .hbm, ⟨4, _⟩ => ⟨S4096x1024x32, .f32⟩
  | .hbm, ⟨5, _⟩ => ⟨S4096x1024x32, .f32⟩
  | .hbm, ⟨6, _⟩ => ⟨S4096x1024x32, .f32⟩
  | .hbm, ⟨7, _⟩ => ⟨S4096x1024x32, .f32⟩
  | .hbm, ⟨8, _⟩ => ⟨S_, .f32⟩
  | .hbm, ⟨9, _⟩ => ⟨S4096x1024, .f32⟩
  | .hbm, ⟨10, _⟩ => ⟨S1024x4096, .f32⟩
  | .hbm, ⟨11, _⟩ => ⟨S_, .f32⟩
  | .hbm, ⟨12, _⟩ => ⟨S4096, .f32⟩
  | .hbm, ⟨13, _⟩ => ⟨S1024x4096, .i32⟩
  | .hbm, ⟨14, _⟩ => ⟨S_, .f32⟩
  | .hbm, ⟨15, _⟩ => ⟨S_, .i32⟩
  | .hbm, ⟨16, _⟩ => ⟨S4096, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S1x1, .i32⟩
  | .hbm, ⟨31, _⟩ => ⟨S4096x1, .i32⟩
  | .hbm, ⟨32, _⟩ => ⟨S4096x1, .i1⟩
  | .hbm, ⟨33, _⟩ => ⟨S4096x1, .i1⟩
  | .hbm, ⟨34, _⟩ => ⟨S_, .i1⟩
  | .hbm, ⟨35, _⟩ => ⟨S4096, .i1⟩
  | .hbm, ⟨36, _⟩ => ⟨S4096x32, .f32⟩
  | .hbm, ⟨37, _⟩ => ⟨S4096x32, .i1⟩
  | .hbm, ⟨38, _⟩ => ⟨S_, .f32⟩
  | .hbm, ⟨39, _⟩ => ⟨S4096x32, .f32⟩
  | .hbm, ⟨40, _⟩ => ⟨S4096x32, .f32⟩
  | .hbm, ⟨41, _⟩ => ⟨S1x4096, .f32⟩
  | .hbm, ⟨42, _⟩ => ⟨S1024x4096, .f32⟩
  | .hbm, ⟨43, _⟩ => ⟨S1024x4096, .f32⟩
  | .hbm, ⟨44, _⟩ => ⟨S_, .f32⟩
  | .hbm, ⟨45, _⟩ => ⟨S1024x4096, .f32⟩
  | .hbm, ⟨46, _⟩ => ⟨S1024x4096, .f32⟩
  | .hbm, ⟨47, _⟩ => ⟨S1024x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1024x4096, .f32⟩
  | .hbm, ⟨52, _⟩ => ⟨S1024x4096, .f32⟩
  | .hbm, ⟨53, _⟩ => ⟨S1024x4096, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v9 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_cst_7 : Ref sig .tc := ⟨.hbm, 62, rfl⟩
abbrev main_v26 : Ref sig .tc := ⟨.hbm, 63, rfl⟩

abbrev nD : Nat := 1
abbrev τ : Topo := Topo.v7x

variable {F : FTy → Type} [FloatOps F]
-- ==== Proof.GatherWords.lean ====
/-
  The gather kernel's words and windows. The pipeline carries five counters (the input slots filled and emptied, the
  output slots filled and emptied, the step); it makes two steps, and at each the counters are the same on every tile.
  So each offset the kernel computes has a closed form at the counters it meets, and each of its conditions a value.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WriteMode
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen

open Idealize.ShloMosaic
open Idealize.SL Idealize.SL.Sem

/-! ## The two trips -/

theorem trips_eq : k0_t1_loop.trips = 2 := by decide +kernel
/-- The first trip, and the second. -/
def t0 : Fin k0_t1_loop.trips := ⟨0, by rw [trips_eq]; omega⟩
def t1 : Fin k0_t1_loop.trips := ⟨1, by rw [trips_eq]; omega⟩
theorem finRange_trips : List.finRange k0_t1_loop.trips = [t0, t1] := by decide +kernel

/-! ## What the kernel checks of its words, and its conditions -/

theorem chk3_0 : k0_chk3 0#32 := by decide +kernel
theorem chk3_1 : k0_chk3 1#32 := by decide +kernel
theorem chk2_0 : k0_chk2 0#32 := by decide +kernel
theorem chk2_1 : k0_chk2 1#32 := by decide +kernel
theorem chk4_1 : k0_chk4 1#32 := by decide +kernel
theorem chk1_0 : ∀ i : grid0.Coords, k0_chk1 i t0 1#32 0#32 0#32 0#32 0#32 := by decide +kernel
theorem chk1_1 : ∀ i : grid0.Coords, k0_chk1 i t1 2#32 1#32 1#32 0#32 1#32 := by decide +kernel
theorem chk5_0 : ∀ i : grid0.Coords, k0_chk5 i 0#32 := by decide +kernel

theorem cond1_0 : ∀ i : grid0.Coords, k0_cond1 i t0 0#32 = 1#1 := by decide +kernel
theorem cond1_1 : ∀ i : grid0.Coords, ¬ k0_cond1 i t1 1#32 = 1#1 := by decide +kernel
theorem cond2_0 : ∀ i : grid0.Coords, k0_cond2 i t0 0#32 = 1#1 := by decide +kernel
theorem cond2_1 : ∀ i : grid0.Coords, k0_cond2 i t1 1#32 = 1#1 := by decide +kernel
theorem cond5_0 : ∀ i : grid0.Coords, k0_cond5 i t0 0#32 = 1#1 := by decide +kernel
theorem cond5_1 : ∀ i : grid0.Coords, k0_cond5 i t1 1#32 = 1#1 := by decide +kernel
theorem cond7_0 : ∀ i : grid0.Coords, ¬ k0_cond7 i t0 0#32 = 1#1 := by decide +kernel
theorem cond7_1 : ∀ i : grid0.Coords, k0_cond7 i t1 1#32 = 1#1 := by decide +kernel

/-! ## Its offsets -/

theorem off4_1 : k0_off4 1#32 = ![1, 0, 0] := by decide +kernel
theorem off5_0 : ∀ i : grid0.Coords, k0_off5 i 0#32 = ![0, 256 * (i 1).val + 128] := by decide +kernel
theorem off6_1 : k0_off6 1#32 = ![1] := by decide +kernel
theorem off7_0 : k0_off7 0#32 = ![0, 0, 0] := by decide +kernel
theorem off7_1 : k0_off7 1#32 = ![1, 0, 0] := by decide +kernel
theorem off8_0 : ∀ i : grid0.Coords, k0_off8 i 0#32 = ![0, 256 * (i 1).val] := by decide +kernel
theorem off8_1 : ∀ i : grid0.Coords, k0_off8 i 1#32 = ![0, 256 * (i 1).val + 128] := by decide +kernel
theorem off9_0 : k0_off9 0#32 = ![0] := by decide +kernel
theorem off9_1 : k0_off9 1#32 = ![1] := by decide +kernel
theorem off10_0 : k0_off10 0#32 = ![0, 0, 0] := by decide +kernel
theorem off10_1 : k0_off10 1#32 = ![1, 0, 0] := by decide +kernel
theorem off11_0 : k0_off11 0#32 = ![0, 0, 0] := by decide +kernel
theorem off11_1 : k0_off11 1#32 = ![1, 0, 0] := by decide +kernel
theorem off12_0 : k0_off12 0#32 = ![0, 0, 0] := by decide +kernel
theorem off12_1 : k0_off12 1#32 = ![1, 0, 0] := by decide +kernel
theorem off13_0 : ∀ i : grid0.Coords, k0_off13 i 0#32 = ![256 * (i 1).val, 0] := by decide +kernel
theorem off13_1 : ∀ i : grid0.Coords, k0_off13 i 1#32 = ![256 * (i 1).val + 128, 0] := by decide +kernel
theorem off14_0 : k0_off14 0#32 = ![0] := by decide +kernel
theorem off14_1 : k0_off14 1#32 = ![1] := by decide +kernel
theorem off15_0 : k0_off15 0#32 = ![0, 0, 0] := by decide +kernel
theorem off16_1 : ∀ i : grid0.Coords, k0_off16 i 1#32 = ![256 * (i 1).val, 0] := by decide +kernel
theorem off17_0 : k0_off17 0#32 = ![0] := by decide +kernel
theorem off19_0 : ∀ i : grid0.Coords, k0_off19 i 0#32 = ![256 * (i 1).val + 128, 0] := by decide +kernel
theorem off20_1 : k0_off20 1#32 = ![1] := by decide +kernel
theorem off21_1 : k0_off21 1#32 = ![1, 0, 0] := by decide +kernel

/-! ## The windows -/

local notation "tV" => (Memref.whole Cert.GatherIdeal.main_v0_scv : Memref Cert.GatherIdeal.sig Kind.scVector Space.hbm Cert.GatherIdeal.S1024x128 EltTy.f32)
local notation "iV" => (Memref.whole Cert.GatherIdeal.main_v1_scv : Memref Cert.GatherIdeal.sig Kind.scVector Space.hbm Cert.GatherIdeal.S1x4096 EltTy.i32)
local notation "oV" => (Memref.whole Cert.GatherIdeal.main_v2_scv : Memref Cert.GatherIdeal.sig Kind.scVector Space.hbm Cert.GatherIdeal.S4096x128 EltTy.f32)
local notation "sV" => (Memref.whole Cert.GatherIdeal.cc0_scoped0 : Memref Cert.GatherIdeal.sig Kind.scVector Space.vmem Cert.GatherIdeal.S2x1x128 EltTy.i32)
local notation "rV" => (Memref.whole Cert.GatherIdeal.cc0_scoped2 : Memref Cert.GatherIdeal.sig Kind.scVector Space.vmem Cert.GatherIdeal.S2x128x128 EltTy.f32)

/-- The first list position (and output row) of block `b` of subcore `s`: blocks are 128 long, a subcore has two. -/
abbrev blk (s : Fin 16) (b : Fin 2) : ℕ := 256 * s.val + 128 * b.val

theorem inb_i : ∀ (s : Fin 16) (b : Fin 2), ∀ a, (![0, blk s b] : Fin 2 → ℕ) a + S1x128.size a ≤ S1x4096.size a := by decide +kernel
theorem inb_o : ∀ (s : Fin 16) (b : Fin 2), ∀ a, (![blk s b, 0] : Fin 2 → ℕ) a + S128x128.size a ≤ S4096x128.size a := by decide +kernel
theorem inb_s : ∀ (b : Fin 2), ∀ a, (![b.val, 0, 0] : Fin 3 → ℕ) a + S1x1x128.size a ≤ S2x1x128.size a := by decide +kernel
theorem inb_r : ∀ (b : Fin 2), ∀ a, (![b.val, 0, 0] : Fin 3 → ℕ) a + S1x128x128.size a ≤ S2x128x128.size a := by decide +kernel
theorem inb_m : ∀ (b : Fin 2), ∀ a, (![b.val] : Fin 1 → ℕ) a + S1.size a ≤ S2.size a := by decide +kernel

/-- Block `b` of the index list, and of the output's rows. -/
abbrev iR (s : Fin 16) (b : Fin 2) : Rect S1x4096 := Rect.unit (s := S1x4096) ![0, blk s b] S1x128.size (inb_i s b)
abbrev oR (s : Fin 16) (b : Fin 2) : Rect S4096x128 := Rect.unit (s := S4096x128) ![blk s b, 0] S128x128.size (inb_o s b)
def iH (s : Fin 16) (b : Fin 2) : Memref sig .scVector .hbm S1x128 .i32 := (iV).slice (iR s b) (fun _ => rfl)
def oH (s : Fin 16) (b : Fin 2) : Memref sig .scVector .hbm S128x128 .f32 := (oV).slice (oR s b) (fun _ => rfl)
/-- The table, all of it. -/
def tA : Memref sig .scVector .hbm S1024x128 .f32 := (tV).slice (Rect.unit (s := S1024x128) ![0, 0] S1024x128.size inb_S1024x128_S1024x128_0_0) (fun _ => rfl)
/-- Slot `b` of the staged indices, and of the staged rows. -/
abbrev sR (b : Fin 2) : Rect S2x1x128 := Rect.unit (s := S2x1x128) ![b.val, 0, 0] S1x1x128.size (inb_s b)
abbrev rR (b : Fin 2) : Rect S2x128x128 := Rect.unit (s := S2x128x128) ![b.val, 0, 0] S1x128x128.size (inb_r b)
def sS (b : Fin 2) : Memref sig .scVector .vmem S1x128 .i32 := ((sV).slice (sR b) (fun _ => rfl)).squeeze S1x128 squeezes_S1x1x128_S1x128
def rS (b : Fin 2) : Memref sig .scVector .vmem S128x128 .f32 := ((rV).slice (rR b) (fun _ => rfl)).squeeze S128x128 squeezes_S1x128x128_S128x128
/-- Slot `b`'s indices as the list the gather reads. -/
def sL (b : Fin 2) : Memref sig .scVector .vmem S128 .i32 :=
  ((sS b).slice (Rect.unit (s := S1x128) ![0, 0] S1x128.size inb_S1x128_S1x128_0_0) (fun _ => rfl)).squeeze S128 squeezes_S1x128_S128

/-- The semaphores of the two input slots, of the two output slots, and of the gather. -/
def mI (b : Fin 2) : DmaSem sig := ((cc0_scoped1.slice (Rect.unit (s := S2) ![b.val] S1.size (inb_m b))).squeeze S_ squeezes_S1_S_).sem
def mO (b : Fin 2) : DmaSem sig := ((cc0_scoped3.slice (Rect.unit (s := S2) ![b.val] S1.size (inb_m b))).squeeze S_ squeezes_S1_S_).sem
def mG : DmaSem sig := cc0_scoped4.sem

/-! ### Each window the kernel cuts is one of these -/

theorem iH_of {s : Fin 16} {b : Fin 2} {o : Fin 2 → ℕ} (h : o = ![0, blk s b]) (p : ∀ a, o a + S1x128.size a ≤ S1x4096.size a)
    (q : ∀ a, (Rect.unit (s := S1x4096) o S1x128.size p).stride a = 1) :
    (iV).slice (Rect.unit (s := S1x4096) o S1x128.size p) q = iH s b := by subst h; rfl
theorem oH_of {s : Fin 16} {b : Fin 2} {o : Fin 2 → ℕ} (h : o = ![blk s b, 0]) (p : ∀ a, o a + S128x128.size a ≤ S4096x128.size a)
    (q : ∀ a, (Rect.unit (s := S4096x128) o S128x128.size p).stride a = 1) :
    (oV).slice (Rect.unit (s := S4096x128) o S128x128.size p) q = oH s b := by subst h; rfl
theorem sS_of {b : Fin 2} {o : Fin 3 → ℕ} (h : o = ![b.val, 0, 0]) (p : ∀ a, o a + S1x1x128.size a ≤ S2x1x128.size a)
    (q : ∀ a, (Rect.unit (s := S2x1x128) o S1x1x128.size p).stride a = 1) :
    ((sV).slice (Rect.unit (s := S2x1x128) o S1x1x128.size p) q).squeeze S1x128 squeezes_S1x1x128_S1x128 = sS b := by subst h; rfl
theorem rS_of {b : Fin 2} {o : Fin 3 → ℕ} (h : o = ![b.val, 0, 0]) (p : ∀ a, o a + S1x128x128.size a ≤ S2x128x128.size a)
    (q : ∀ a, (Rect.unit (s := S2x128x128) o S1x128x128.size p).stride a = 1) :
    ((rV).slice (Rect.unit (s := S2x128x128) o S1x128x128.size p) q).squeeze S128x128 squeezes_S1x128x128_S128x128 = rS b := by subst h; rfl
theorem mI_of {b : Fin 2} {o : Fin 1 → ℕ} (h : o = ![b.val]) (p : ∀ a, o a + S1.size a ≤ S2.size a) :
    ((cc0_scoped1.slice (Rect.unit (s := S2) o S1.size p)).squeeze S_ squeezes_S1_S_).sem = mI b := by subst h; rfl
theorem mO_of {b : Fin 2} {o : Fin 1 → ℕ} (h : o = ![b.val]) (p : ∀ a, o a + S1.size a ≤ S2.size a) :
    ((cc0_scoped3.slice (Rect.unit (s := S2) o S1.size p)).squeeze S_ squeezes_S1_S_).sem = mO b := by subst h; rfl

end Cert.Proof.GatherTile
-- ==== Proof.GatherTile.lean ====
/-
  The gather kernel's task on one vector subcore, `(c, s)`: two blocks of 128 indices are staged in from the list, for each the
  table's rows they name are gathered into a slot of the staged rows, and the slot goes out to the output's block. Both
  SparseCores' subcores `s` run the same two blocks and write the SAME output rows, of the same values: so the output is held
  in WRITE MODE (`Lib/WriteMode.lean`), each core having a half share of a row that is to become the row gathered.
-/
module

public import proofs.«01_k».proof.Proof.GatherWords

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, write mode, the transfers' counters -/

abbrev UH : Type := URounds (GSem nD τ sig) ℕ
variable (F) in
abbrev UU : Type := UH × (WmRA nD τ sig (Elt F) × Counters)

local notation "𝕄" => MT nD τ sig (HIx 1) (Elt F) ℕ (UU F) ℕ

abbrev EH : Emb UH (MT nD τ sig (HIx 1) (Elt F) ℕ (UU F) ℕ) := embL
/-- Write mode's place in it. -/
def wmE : UEmb (WmRA nD τ sig (Elt F)) (UU F) := UEmb.inl.trans UEmb.inr

/-- Write mode's invariant, at some name. -/
def wm : sProp 𝕄 := iprop(∃ ιwm : ℕ, wmInv (Ix := HIx 1) (Lvl := ℕ) (wmE (F := F)) ιwm)

instance wm_persistent : BI.Persistent (wm (F := F)) := by unfold wm; infer_instance

/-- Elements `I` of a buffer in write mode: they held `f`, they are to become `g`, and those of `W` have been written. -/
abbrev becomes (ℓ : Loc nD τ sig) (I : Finset (Idx ℓ)) (q : PosShare TreeShare) (f g : Buf (Elt F) ℓ) (W : Finset (Idx ℓ)) : sProp 𝕄 :=
  willBeTo (Ix := HIx 1) (Name := ℕ) (Lvl := ℕ) (wmE (F := F)) ℓ I q f (fun i => some (g i)) W

section Out

variable [FloatOps F] {Λ : Labels} {defs : Defs nD τ sig (Elt F) Λ} (𝒱' : Variants) (c : Thread nD τ) (bd : Option 𝒱'.V)

/-- A local transfer whose destination is held in write mode and takes what its elements are to become: the destination comes
    back at its wait with its elements marked written. -/
theorem wp_dmaBecomes {α : Type} {Q : α → sProp 𝕄} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    {S : Finset (Idx (dst.view.loc c))} {qd : PosShare TreeShare} {f g : Buf (Elt F) (dst.view.loc c)} {W : Finset (Idx (dst.view.loc c))}
    (N : ℕ) (hN : dst.view.amount sm = N) (hN0 : 0 < N) (hS : dst.view.set ⊆ S)
    (hw : dst.view.Admitted (Elt F) (fun i => some (g i)) (src.view.read (Elt F) fs) Finset.univ) :
    iprop(wm ∗ (src.view.loc c ↦[src.view.set]{q} fs) ∗ becomes (dst.view.loc c) S qd f g W ∗ semVal (c, sm) 0)
      ⊢ iprop((Transfers.Flight countersEmb c sm (default : HIx 1) N
                iprop(becomes (dst.view.loc c) S qd f g (W ∪ dst.view.set) ∗ (src.view.loc c ↦[src.view.set]{q} fs))
              -∗ wp frame (wpE defs 𝒱' c bd) Set.univ (k ⟨⟩) Q)
          -∗ wp frame (wpE defs 𝒱' c bd) Set.univ (.op (.enqueueDma src (.here dst) sm hsrc hdst hsem) k) Q) := by
  unfold wm
  iintro ⟨⟨%ιwm, #Hwm⟩, Hs, Hd, Hv⟩ Hk
  imod (Transfers.flight_alloc countersEmb hN0 iprop(becomes (dst.view.loc c) S qd f g (W ∪ dst.view.set)
      ∗ (src.view.loc c ↦[src.view.set]{q} fs)) (g := (c, sm))) $$ Hv with ⟨%γ, %δ, %κ, #Hinv, Hγ, Hδ⟩
  iapply (wp_enqueueDma 𝒱' c bd Set.univ (default : HIx 1) N hN) $$ [Hs Hd] [Hγ]
  · isplitl [Hs]; · iexact Hs
    iapply (willBeTo_writeUpdate (emb := wmE (F := F)) (ιwm := ιwm) c hS hw)
    isplitr; · iexact Hwm
    iexact Hd
  · iapply (Transfers.flight_creditUpdate countersEmb (δ := δ))
    isplitr; · iexact Hinv
    iexact Hγ
  iintro Hcred
  iapply Hk
  iapply (Transfers.flight_intro countersEmb c (κ := κ))
  isplitr; · iexact Hinv
  isplitl [Hδ] <;> iassumption

end Out

/-! ## What the task leaves -/

section Values

/-- The table's row that the list names at output row `r`, as an index of the table. -/
def rowAt (fi : S1x4096.Idx → Elt F .i32) (x : S4096x128.Idx) : S1024x128.Idx := fun a => match a with
  | ⟨0, _⟩ => Fin.ofNat 1024 (show BitVec 32 from fi (fun b => match b with | ⟨0, _⟩ => (0 : Fin 1) | ⟨1, _⟩ => x 0)).toNat
  | ⟨1, _⟩ => x 1

/-- The rows gathered: output row `r` is the table's row the list names at `r`. -/
def gathered (ft : S1024x128.Idx → Elt F .f32) (fi : S1x4096.Idx → Elt F .i32) : S4096x128.Idx → Elt F .f32 :=
  fun x => ft (rowAt fi x)

end Values

section Task

variable [FloatOps F] (d : Dev nD) (L : grid0.Coords)

local notation "tV" => (Memref.whole Cert.GatherIdeal.main_v0_scv : Memref Cert.GatherIdeal.sig Kind.scVector Space.hbm Cert.GatherIdeal.S1024x128 EltTy.f32)
local notation "iV" => (Memref.whole Cert.GatherIdeal.main_v1_scv : Memref Cert.GatherIdeal.sig Kind.scVector Space.hbm Cert.GatherIdeal.S1x4096 EltTy.i32)
local notation "oV" => (Memref.whole Cert.GatherIdeal.main_v2_scv : Memref Cert.GatherIdeal.sig Kind.scVector Space.hbm Cert.GatherIdeal.S4096x128 EltTy.f32)
local notation "sV" => (Memref.whole Cert.GatherIdeal.cc0_scoped0 : Memref Cert.GatherIdeal.sig Kind.scVector Space.vmem Cert.GatherIdeal.S2x1x128 EltTy.i32)
local notation "rV" => (Memref.whole Cert.GatherIdeal.cc0_scoped2 : Memref Cert.GatherIdeal.sig Kind.scVector Space.vmem Cert.GatherIdeal.S2x128x128 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The subcore's number. -/
abbrev sub (L : grid0.Coords) : Fin 16 := L 1

/-- A list all of whose words name rows of the table. -/
def Named (fi : S1x4096.Idx → Elt F .i32) : Prop := ∀ x, (show BitVec 32 from fi x).toNat < 1024

variable (q : PosShare TreeShare) (qo : PosShare TreeShare)
variable (ft : S1024x128.Idx → Elt F .f32) (fi : S1x4096.Idx → Elt F .i32) (fo : S4096x128.Idx → Elt F .f32)

abbrev tPt : sProp 𝕄 := (tA).view.loc (thr d L) ↦[(tA).view.set]{q} ft
abbrev iPt (b : Fin 2) : sProp 𝕄 := (iH (sub L) b).view.loc (thr d L) ↦[(iH (sub L) b).view.set]{q} fi
abbrev oPt (b : Fin 2) (W : Finset S4096x128.Idx) : sProp 𝕄 :=
  becomes ((oH (sub L) b).view.loc (thr d L)) (oH (sub L) b).view.set qo fo (gathered ft fi) W
abbrev sPt (b : Fin 2) (f : S2x1x128.Idx → Elt F .i32) : sProp 𝕄 := (sS b).view.loc (thr d L) ↦[(sS b).view.set]{fullShare} f
abbrev rPt (b : Fin 2) (f : S2x128x128.Idx → Elt F .f32) : sProp 𝕄 := (rS b).view.loc (thr d L) ↦[(rS b).view.set]{fullShare} f
abbrev free (sm : DmaSem sig) : sProp 𝕄 := semVal (thr d L, .dma sm) 0

/-! ### The values that move -/

omit [FloatOps F] in
/-- The list the gather reads is a staged slot's elements. -/
theorem set_sL (b : Fin 2) : (sL b).view.set = (sS b).view.set := by
  show (((sS b).view.slice (Rect.unit (s := S1x128) ![0, 0] S1x128.size inb_S1x128_S1x128_0_0)).reshape S128 squeezes_S1x128_S128.numel_eq).set = _
  rw [View.set_reshape, View.set_slice, Rect.set_eq_univ_of_whole _ (by decide +kernel)]
  rfl

/-- Where position `x` of that list sits in the staged slot. -/
def slotAt (x : S128.Idx) : S1x128.Idx :=
  (Rect.unit (s := S1x128) ![0, 0] S1x128.size inb_S1x128_S1x128_0_0).emb (Shape.reshapeEquiv squeezes_S1x128_S128.numel_eq x)

theorem slotAt_one : ∀ x : S128.Idx, (slotAt x 1).val = (x 0).val := by decide +kernel

omit [FloatOps F] in
theorem emb_sL (b : Fin 2) (x : S128.Idx) : (sL b).view.emb x = (sS b).view.emb (slotAt x) := rfl

omit [FloatOps F] in
/-- What the gather reads of a staged slot is the list's block. -/
theorem read_sL (s : Fin 16) (b : Fin 2) (fs : S2x1x128.Idx → Elt F .i32) (fi : S1x4096.Idx → Elt F .i32) (x : S128.Idx) :
    (sL b).view.read (Elt F) ((sS b).view.write (Elt F) fs ((iH s b).view.read (Elt F) fi) Finset.univ) x
      = fi ((iR s b).emb (slotAt x)) := by
  have h := congrFun (View.read_write_univ (Val := Elt F) (v := (sS b).view) fs ((iH s b).view.read (Elt F) fi)) (slotAt x)
  exact h

omit [FloatOps F] in
theorem iR_emb (s : Fin 16) (b : Fin 2) (y : S1x128.Idx) : ((iR s b).emb y 1).val = blk s b + (y 1).val := by
  have h := (iR s b).emb_apply y 1
  simpa using h

omit [FloatOps F] in
theorem oR_emb_zero (s : Fin 16) (b : Fin 2) (y : S128x128.Idx) : ((oR s b).emb y 0).val = blk s b + (y 0).val := by
  have h := (oR s b).emb_apply y 0
  simpa using h

omit [FloatOps F] in
theorem oR_emb_one (s : Fin 16) (b : Fin 2) (y : S128x128.Idx) : ((oR s b).emb y 1).val = (y 1).val := by
  have h := (oR s b).emb_apply y 1
  simpa using h

variable {ft fi} in
omit [FloatOps F] in
/-- The staged indices name rows of the table, as the list's do. -/
theorem staged_lt (hfi : Named fi) (s : Fin 16) (b : Fin 2) (fs : S2x1x128.Idx → Elt F .i32) :
    ∀ x, ((sL b).view.read (Elt F) ((sS b).view.write (Elt F) fs ((iH s b).view.read (Elt F) fi) Finset.univ) x).toNat
      < S1024x128.size gathers_S1024x128_S128x128.axis := by
  intro x; rw [read_sL]; exact hfi _

theorem rowMajor_S128 : ∀ k : Fin S128.numel, (S128.rowMajor.symm k 0).val = k.val := by decide +kernel

variable {ft fi} in
omit [FloatOps F] in
/-- What the gather brings a staged slot is what the output's block is to become. -/
theorem payload_eq (hfi : Named fi) (s : Fin 16) (b : Fin 2) (fs : S2x1x128.Idx → Elt F .i32) (hn : S128.numel = S128x128.size gathers_S1024x128_S128x128.axis')
    (x : S128x128.Idx) :
    SparseCore.gatherPayload gathers_S1024x128_S128x128 ((tA).view.read (Elt F) ft)
        (SparseCore.rows ((sL b).view.read (Elt F) ((sS b).view.write (Elt F) fs ((iH s b).view.read (Elt F) fi) Finset.univ)) hn (staged_lt hfi s b fs)) x
      = (oH s b).view.read (Elt F) (gathered ft fi) x := by
  have h0 : (gathers_S1024x128_S128x128.idx (SparseCore.rows ((sL b).view.read (Elt F) ((sS b).view.write (Elt F) fs ((iH s b).view.read (Elt F) fi) Finset.univ))
      hn (staged_lt hfi s b fs)) x 0).val = (show BitVec 32 from fi ((iR s b).emb (slotAt (S128.rowMajor.symm ((x 0).cast hn.symm))))).toNat := by
    refine (congrArg Fin.val (gathers_S1024x128_S128x128.idx_axis _ x)).trans ?_
    have e := congrArg (fun w : BitVec 32 => w.toNat) (read_sL s b fs fi (S128.rowMajor.symm ((x 0).cast hn.symm)))
    exact e
  have h1 := gathers_S1024x128_S128x128.idx_of_ne (SparseCore.rows ((sL b).view.read (Elt F) ((sS b).view.write (Elt F) fs ((iH s b).view.read (Elt F) fi) Finset.univ))
      hn (staged_lt hfi s b fs)) x 1 (by decide)
  have hl : (iR s b).emb (slotAt (S128.rowMajor.symm ((x 0).cast hn.symm))) = fun a => match a with | ⟨0, _⟩ => (0 : Fin 1) | ⟨1, _⟩ => (oR s b).emb x 0 := by
    funext a
    match a with
    | ⟨0, _⟩ => exact Subsingleton.elim (α := Fin 1) _ _
    | ⟨1, _⟩ =>
      refine Fin.ext ?_
      show ((iR s b).emb (slotAt (S128.rowMajor.symm ((x 0).cast hn.symm))) 1).val = ((oR s b).emb x 0).val
      rw [iR_emb, oR_emb_zero, slotAt_one, rowMajor_S128]; rfl
  show ft _ = ft _
  congr 1
  funext a
  match a with
  | ⟨0, _⟩ =>
    refine Fin.ext ?_
    refine ((Rect.emb_apply _ _ _).trans (?_ : 0 + 1 * _ = _))
    rw [Nat.zero_add, Nat.one_mul]
    refine h0.trans ?_
    rw [hl]
    exact (Nat.mod_eq_of_lt (hfi _)).symm
  | ⟨1, _⟩ =>
    refine Fin.ext ?_
    refine ((Rect.emb_apply _ _ _).trans (?_ : 0 + 1 * _ = _))
    rw [Nat.zero_add, Nat.one_mul]
    refine h1.trans ?_
    exact (oR_emb_one s b x).symm

variable {ft fi} in
omit [FloatOps F] in
theorem admitted (hfi : Named fi) (s : Fin 16) (b : Fin 2) (fs : S2x1x128.Idx → Elt F .i32) (fr : S2x128x128.Idx → Elt F .f32)
    (hn : S128.numel = S128x128.size gathers_S1024x128_S128x128.axis') :
    (oH s b).view.Admitted (Elt F) (fun i => some (gathered ft fi i))
      ((rS b).view.read (Elt F) ((rS b).view.write (Elt F) fr (SparseCore.gatherPayload gathers_S1024x128_S128x128 ((tA).view.read (Elt F) ft)
        (SparseCore.rows ((sL b).view.read (Elt F) ((sS b).view.write (Elt F) fs ((iH s b).view.read (Elt F) fi) Finset.univ)) hn (staged_lt hfi s b fs))) Finset.univ)) Finset.univ := by
  refine View.admitted_some_iff.mpr fun x _ => ?_
  exact (congrFun (View.read_write_univ (Val := Elt F) (v := (rS b).view) fr _) x).trans (payload_eq hfi s b fs hn x)

/-! ### The run -/

theorem retBind {E : Type → Type} {α β : Type} (a : α) (k : α → Prog E β) : (Prog.ret a).bind k = k a := rfl

/-- Before the loop: the first block of the list starts in. -/
theorem part3_wp (fs : S2x1x128.Idx → Elt F .i32) (Q : _ → sProp 𝕄) :
    iprop(iPt d L q fi 0 ∗ sPt d L 0 fs ∗ free d L (mI 0)
        ∗ (Transfers.Flight countersEmb (thr d L) (.dma (mI 0)) (default : HIx 1) (sS 0).view.dmaCredit
              iprop(sPt d L 0 ((sS 0).view.write (Elt F) fs ((iH (sub L) 0).view.read (Elt F) fi) Finset.univ) ∗ iPt d L q fi 0)
            -∗ Q ⟨Scalar.muli (BitVec.ofNat 32 (L 1).val) 2#32, 1#32, 0#32, 0#32, 0#32, 0#32⟩))
      ⊢ wp frame (wpE (defs₀ (F := F)) 𝒱₀ (thr d L) none) Set.univ
          (k0_part3 L tV (Memref.isWhole_whole _) iV (Memref.isWhole_whole _) oV (Memref.isWhole_whole _)
            sV (Memref.isWhole_whole _) cc0_scoped1 rV (Memref.isWhole_whole _) cc0_scoped3 cc0_scoped4) Q := by
  rw [k0_part3_eq_skeleton]; unfold k0_part3_skel
  have e2 : k0_off2 L = ![0, blk (sub L) 0] := k0_off2_eq L
  rw [show Scalar.addi 0#32 1#32 = 1#32 from by decide]
  simp only [mI_of (b := 0) k0_off3_eq, sS_of (b := 0) k0_off1_eq, iH_of e2]
  iintro ⟨Hi, Hs, Hm, HQ⟩
  iapply (Transfers.wp_dmaLocal countersEmb 𝒱₀ (thr d L) none (default : HIx 1) (sS 0).view.dmaCredit rfl (by decide) (Finset.Subset.refl _)) $$ [Hi Hs Hm]
  · isplitl [Hi]; · iexact Hi
    isplitl [Hs]; · iexact Hs
    iexact Hm
  iintro HF
  rw [retBind, wp_pure]
  imodintro
  iapply HQ
  iexact HF

omit [FloatOps F] in
theorem gatherCredit : ∀ (b : Fin 2) (h : S1024x128.Gathers 0 S128x128),
    ∑ j, ((rS b).slice (S128x128.rowRect h.axis' j) (S128x128.stride_rowRect h.axis' j)).view.dmaCredit = (rS b).view.dmaCredit := by
  decide

variable {fi} in
/-- One block's transfers: its staged indices arrive, the rows they name are gathered into a slot of the staged rows, and the
    slot starts out to the output. -/
theorem mid_wp (hfi : Named fi) (b : Fin 2) (fs : S2x1x128.Idx → Elt F .i32) (fr : S2x128x128.Idx → Elt F .f32) (Wo : Finset S4096x128.Idx)
    (O : CellTallies nD τ sig (HIx 1)) (W : Waits sig (HIx 1)) {α : Type} (Q : α → sProp 𝕄)
    (k : Prog (TpuEff nD τ sig (Elt F) Λ₀ (thr d L).2) α)
    (h1 : (iH (sub L) b).view.WordExact) (h2 : (sS b).view.WordExact) (h3 : (thr d L).2.kind = .scVector) (h4 : S128.numel = S128x128.size gathers_S1024x128_S128x128.axis')
    (h5 : (tA).view.WordExact) (h6 : EltTy.f32.bits = 32) (h7 : Space.hbm = .hbm ∨ Space.hbm = .shared) (h8 : S1024x128.StreamRows 0) (h9 : (tA).view.WordExact)
    (h10 : (rS b).view.WordExact) (h11 : (rS b).view.WordExact) (h12 : (oH (sub L) b).view.WordExact) (h13 : DmaTarget.Typed (nD := nD) (p := (thr d L).2) .vmem (.dma (mO b)) (.here (oH (sub L) b))) :
    iprop(Transfers.MayWaits (thr d L) (none : HIx 1) O
        ∗ Transfers.Flight countersEmb (thr d L) (.dma (mI b)) (default : HIx 1) (sS b).view.dmaCredit
              iprop(sPt d L b ((sS b).view.write (Elt F) fs ((iH (sub L) b).view.read (Elt F) fi) Finset.univ) ∗ iPt d L q fi b)
        ∗ tPt d L q ft ∗ rPt d L b fr ∗ free d L mG ∗ wm ∗ oPt d L qo ft fi fo b Wo ∗ free d L (mO b) ∗ owes (thr d L) O W
        ∗ ((iPt d L q fi b ∗ (∃ f, sPt d L b f) ∗ free d L (mI b) ∗ tPt d L q ft ∗ free d L mG
            ∗ (∃ f, Transfers.Flight countersEmb (thr d L) (.dma (mO b)) (default : HIx 1) (oH (sub L) b).view.dmaCredit
                iprop(oPt d L qo ft fi fo b (Wo ∪ (oH (sub L) b).view.set) ∗ rPt d L b f))
            ∗ owes (thr d L) O (insert (SemLoc.dma mG, (default : HIx 1)) (insert (SemLoc.dma (mI b), (default : HIx 1)) W)))
          -∗ wp frame (wpE (defs₀ (F := F)) 𝒱₀ (thr d L) none) Set.univ k Q))
      ⊢ wp frame (wpE (defs₀ (F := F)) 𝒱₀ (thr d L) none) Set.univ
          (do
            Prog.lift (TpuEff.waitDma2 (mI b) (iH (sub L) b) (sS b) h1 h2)
            SparseCore.enqueueIndirectGather h3 tA (rS b) gathers_S1024x128_S128x128 (sL b) h4 mG h5 h6 h7 h8
            SparseCore.waitIndirectGather mG tA (rS b) h9 h10
            Prog.lift (TpuEff.enqueueDma (rS b) (DmaTarget.here (oH (sub L) b)) (SemLoc.dma (mO b)) h11 h12 h13)
            k) Q := by
  iintro ⟨#Hmw, HI, Ht, Hr, HG, #Hwm, Ho, Hmo, HO, Hk⟩
  iapply (Transfers.wp_waitLocalO countersEmb 𝒱₀ (thr d L) none (default : HIx 1) (rfl : (sS b).view.dmaCredit = _)) $$ [HI HO]
  · isplitl [HI]; · iexact HI
    isplitl [HO]; · iexact HO
    iapply (Transfers.MayWaits.elim (SemLoc.dma (mI b))) $$ Hmw
  iintro ⟨⟨Hs, Hi⟩, Hmi, HO⟩
  rw [retBind]
  ihave Hs' := (Entails.of_eq (show (sPt d L b ((sS b).view.write (Elt F) fs ((iH (sub L) b).view.read (Elt F) fi) Finset.univ) : sProp 𝕄)
      = (sL b).view.loc (thr d L) ↦[(sL b).view.set]{fullShare} ((sS b).view.write (Elt F) fs ((iH (sub L) b).view.read (Elt F) fi) Finset.univ)
      by rw [set_sL]; rfl)) $$ Hs
  iapply (SparseCore.wp_indirectGatherLocal countersEmb 𝒱₀ (thr d L) none (hg := gathers_S1024x128_S128x128) (default : HIx 1)
      (rS b).view.dmaCredit (gatherCredit b _) (by decide) (staged_lt hfi (sub L) b fs)) $$ [Ht Hr Hs' HG]
  · isplitl [Ht]; · iexact Ht
    isplitl [Hr]; · iexact Hr
    isplitl [Hs']; · iexact Hs'
    iexact HG
  iintro HF
  iapply (Transfers.wp_waitLocalO countersEmb 𝒱₀ (thr d L) none (default : HIx 1) (rfl : (rS b).view.dmaCredit = _)) $$ [HF HO]
  · isplitl [HF]; · iexact HF
    isplitl [HO]; · iexact HO
    iapply (Transfers.MayWaits.elim (SemLoc.dma mG)) $$ Hmw
  iintro ⟨⟨Hr, Ht, Hs'⟩, HG, HO⟩
  rw [retBind]
  iapply (wp_dmaBecomes 𝒱₀ (thr d L) none (oH (sub L) b).view.dmaCredit rfl (View.dmaCredit_pos _ (by decide)) (Finset.Subset.refl _)
      (admitted (ft := ft) hfi (sub L) b fs fr h4)) $$ [Hr Ho Hmo]
  · isplitr; · iexact Hwm
    isplitl [Hr]; · iexact Hr
    isplitl [Ho]; · iexact Ho
    iexact Hmo
  iintro HF
  rw [retBind]
  iapply Hk
  isplitl [Hi]; · iexact Hi
  isplitl [Hs']
  · iexists _
    iapply (Entails.of_eq (show ((sL b).view.loc (thr d L) ↦[(sL b).view.set]{fullShare} ((sS b).view.write (Elt F) fs ((iH (sub L) b).view.read (Elt F) fi) Finset.univ) : sProp 𝕄)
      = sPt d L b ((sS b).view.write (Elt F) fs ((iH (sub L) b).view.read (Elt F) fi) Finset.univ) by rw [set_sL]; rfl))
    iexact Hs'
  isplitl [Hmi]; · iexact Hmi
  isplitl [Ht]; · iexact Ht
  isplitl [HG]; · iexact HG
  isplitl [HF]; · iexists _; iexact HF
  iexact HO

/-- A trip of the pipeline's loop. -/
abbrev trip := k0_t1_body (F := F) L tV (Memref.isWhole_whole _) iV (Memref.isWhole_whole _) oV (Memref.isWhole_whole _)
            sV (Memref.isWhole_whole _) cc0_scoped1 rV (Memref.isWhole_whole _) cc0_scoped3 cc0_scoped4
            (Scalar.muli (BitVec.ofNat 32 (L 1).val) 2#32) 1#32 0#32 0#32 0#32 0#32

variable {fi} in
/-- The first trip: the second block of the list starts in, the first block goes through. -/
theorem trip0_wp (hfi : Named fi) (fs fs1 : S2x1x128.Idx → Elt F .i32) (fr : S2x128x128.Idx → Elt F .f32) (Wo : Finset S4096x128.Idx)
    (O : CellTallies nD τ sig (HIx 1)) (W : Waits sig (HIx 1)) (Q : _ → sProp 𝕄) :
    iprop(Transfers.MayWaits (thr d L) (none : HIx 1) O
        ∗ Transfers.Flight countersEmb (thr d L) (.dma (mI 0)) (default : HIx 1) (sS 0).view.dmaCredit
              iprop(sPt d L 0 ((sS 0).view.write (Elt F) fs ((iH (sub L) 0).view.read (Elt F) fi) Finset.univ) ∗ iPt d L q fi 0)
        ∗ iPt d L q fi 1 ∗ sPt d L 1 fs1 ∗ free d L (mI 1)
        ∗ tPt d L q ft ∗ rPt d L 0 fr ∗ free d L mG ∗ wm ∗ oPt d L qo ft fi fo 0 Wo ∗ free d L (mO 0) ∗ owes (thr d L) O W
        ∗ (∀ r : BitVec 32 × BitVec 32 × BitVec 32 × BitVec 32 × BitVec 32, (⌜r = (2#32, 1#32, 1#32, 0#32, 1#32)⌝
            ∗ (iPt d L q fi 0 ∗ (∃ f, sPt d L 0 f) ∗ free d L (mI 0) ∗ tPt d L q ft ∗ free d L mG
            ∗ (∃ f, Transfers.Flight countersEmb (thr d L) (.dma (mO 0)) (default : HIx 1) (oH (sub L) 0).view.dmaCredit
                iprop(oPt d L qo ft fi fo 0 (Wo ∪ (oH (sub L) 0).view.set) ∗ rPt d L 0 f))
            ∗ owes (thr d L) O (insert (SemLoc.dma mG, (default : HIx 1)) (insert (SemLoc.dma (mI 0), (default : HIx 1)) W)))
            ∗ Transfers.Flight countersEmb (thr d L) (.dma (mI 1)) (default : HIx 1) (sS 1).view.dmaCredit
              iprop(sPt d L 1 ((sS 1).view.write (Elt F) fs1 ((iH (sub L) 1).view.read (Elt F) fi) Finset.univ) ∗ iPt d L q fi 1))
          -∗ Q r))
      ⊢ wp frame (wpE (defs₀ (F := F)) 𝒱₀ (thr d L) none) Set.univ (trip L t0 (1#32, 0#32, 0#32, 0#32, 0#32)) Q := by
  unfold trip k0_t1_body
  rw [k0_part1_eq_skeleton, k0_part2_eq_skeleton]; unfold k0_part1_skel k0_part2_skel
  have e5 : k0_off5 L 0#32 = ![0, blk (sub L) 1] := off5_0 L
  have e8 : k0_off8 L 0#32 = ![0, blk (sub L) 0] := off8_0 L
  have e13 : k0_off13 L 0#32 = ![blk (sub L) 0, 0] := off13_0 L
  simp only [dif_pos (cond1_0 L), dif_pos (cond2_0 L), dif_pos (cond5_0 L), dif_neg (cond7_0 L), ite_self, pure_bind, bind_assoc,
    mI_of (b := 1) off6_1, sS_of (b := 1) off4_1, iH_of e5, mI_of (b := 0) off9_0, sS_of (b := 0) off7_0, iH_of e8,
    rS_of (b := 0) off10_0, sS_of (b := 0) off11_0, mO_of (b := 0) off14_0, oH_of e13, rS_of (b := 0) off12_0]
  iintro ⟨#Hmw, HI, Hi, Hs, Hm, Ht, Hr, HG, #Hwm, Ho, Hmo, HO, HQ⟩
  iapply (wp_assume 𝒱₀ (thr d L) none Set.univ chk3_0)
  iapply (wp_assume 𝒱₀ (thr d L) none Set.univ chk2_0)
  iapply (wp_assume 𝒱₀ (thr d L) none Set.univ (chk1_0 L))
  rw [retBind]
  iapply (Transfers.wp_dmaLocal countersEmb 𝒱₀ (thr d L) none (default : HIx 1) (sS 1).view.dmaCredit rfl (by decide) (Finset.Subset.refl _)) $$ [Hi Hs Hm]
  · isplitl [Hi]; · iexact Hi
    isplitl [Hs]; · iexact Hs
    iexact Hm
  iintro HF
  rw [retBind]
  iapply (mid_wp d L q qo ft fo hfi 0 fs fr Wo O W)
  isplitr; · iexact Hmw
  isplitl [HI]; · iexact HI
  isplitl [Ht]; · iexact Ht
  isplitl [Hr]; · iexact Hr
  isplitl [HG]; · iexact HG
  isplitr; · iexact Hwm
  isplitl [Ho]; · iexact Ho
  isplitl [Hmo]; · iexact Hmo
  isplitl [HO]; · iexact HO
  iintro H
  rw [wp_pure]
  imodintro
  iapply HQ
  isplitr; · ipureintro; revert L; decide +kernel
  isplitl [H]; · iexact H
  iexact HF

variable {fi} in
/-- The second trip: the second block goes through, and the first block's output is waited for. -/
theorem trip1_wp (hfi : Named fi) (fs : S2x1x128.Idx → Elt F .i32) (fr : S2x128x128.Idx → Elt F .f32) (Wo : Finset S4096x128.Idx) (D : sProp 𝕄)
    (O : CellTallies nD τ sig (HIx 1)) (W : Waits sig (HIx 1)) (Q : _ → sProp 𝕄) :
    iprop(Transfers.MayWaits (thr d L) (none : HIx 1) O
        ∗ Transfers.Flight countersEmb (thr d L) (.dma (mI 1)) (default : HIx 1) (sS 1).view.dmaCredit
              iprop(sPt d L 1 ((sS 1).view.write (Elt F) fs ((iH (sub L) 1).view.read (Elt F) fi) Finset.univ) ∗ iPt d L q fi 1)
        ∗ Transfers.Flight countersEmb (thr d L) (.dma (mO 0)) (default : HIx 1) (oH (sub L) 0).view.dmaCredit D
        ∗ tPt d L q ft ∗ rPt d L 1 fr ∗ free d L mG ∗ wm ∗ oPt d L qo ft fi fo 1 Wo ∗ free d L (mO 1) ∗ owes (thr d L) O W
        ∗ (∀ r : BitVec 32 × BitVec 32 × BitVec 32 × BitVec 32 × BitVec 32, (⌜r = (2#32, 2#32, 2#32, 1#32, 0#32)⌝
            ∗ iPt d L q fi 1 ∗ (∃ f, sPt d L 1 f) ∗ free d L (mI 1) ∗ tPt d L q ft ∗ free d L mG
            ∗ (∃ f, Transfers.Flight countersEmb (thr d L) (.dma (mO 1)) (default : HIx 1) (oH (sub L) 1).view.dmaCredit
                iprop(oPt d L qo ft fi fo 1 (Wo ∪ (oH (sub L) 1).view.set) ∗ rPt d L 1 f))
            ∗ D ∗ free d L (mO 0)
            ∗ owes (thr d L) O (insert (SemLoc.dma (mO 0), (default : HIx 1)) (insert (SemLoc.dma mG, (default : HIx 1)) (insert (SemLoc.dma (mI 1), (default : HIx 1)) W))))
          -∗ Q r))
      ⊢ wp frame (wpE (defs₀ (F := F)) 𝒱₀ (thr d L) none) Set.univ (trip L t1 (2#32, 1#32, 1#32, 0#32, 1#32)) Q := by
  unfold trip k0_t1_body
  rw [k0_part1_eq_skeleton, k0_part2_eq_skeleton]; unfold k0_part1_skel k0_part2_skel
  have e8 : k0_off8 L 1#32 = ![0, blk (sub L) 1] := off8_1 L
  have e13 : k0_off13 L 1#32 = ![blk (sub L) 1, 0] := off13_1 L
  have e16 : k0_off16 L 1#32 = ![blk (sub L) 0, 0] := off16_1 L
  simp only [dif_neg (cond1_1 L), dif_pos (cond2_1 L), dif_pos (cond5_1 L), dif_pos (cond7_1 L), ite_self, pure_bind, bind_assoc,
    mI_of (b := 1) off9_1, sS_of (b := 1) off7_1, iH_of e8,
    rS_of (b := 1) off10_1, sS_of (b := 1) off11_1, mO_of (b := 1) off14_1, oH_of e13, rS_of (b := 1) off12_1,
    mO_of (b := 0) off17_0, rS_of (b := 0) off15_0, oH_of e16]
  iintro ⟨#Hmw, HI, HOF, Ht, Hr, HG, #Hwm, Ho, Hmo, HO, HQ⟩
  iapply (wp_assume 𝒱₀ (thr d L) none Set.univ chk3_1)
  iapply (wp_assume 𝒱₀ (thr d L) none Set.univ chk2_1)
  iapply (wp_assume 𝒱₀ (thr d L) none Set.univ (chk1_1 L))
  rw [retBind]
  iapply (mid_wp d L q qo ft fo hfi 1 fs fr Wo O W)
  isplitr; · iexact Hmw
  isplitl [HI]; · iexact HI
  isplitl [Ht]; · iexact Ht
  isplitl [Hr]; · iexact Hr
  isplitl [HG]; · iexact HG
  isplitr; · iexact Hwm
  isplitl [Ho]; · iexact Ho
  isplitl [Hmo]; · iexact Hmo
  isplitl [HO]; · iexact HO
  iintro ⟨Hi, Hs, Hmi, Ht, HG, HF, HO⟩
  iapply (Transfers.wp_waitLocalO countersEmb 𝒱₀ (thr d L) none (default : HIx 1) (rfl : (oH (sub L) 0).view.dmaCredit = _)) $$ [HOF HO]
  · isplitl [HOF]; · iexact HOF
    isplitl [HO]; · iexact HO
    iapply (Transfers.MayWaits.elim (SemLoc.dma (mO 0))) $$ Hmw
  iintro ⟨HD, Hmo0, HO⟩
  rw [retBind, wp_pure]
  imodintro
  iapply HQ
  isplitr; · ipureintro; revert L; decide +kernel
  isplitl [Hi]; · iexact Hi
  isplitl [Hs]; · iexact Hs
  isplitl [Hmi]; · iexact Hmi
  isplitl [Ht]; · iexact Ht
  isplitl [HG]; · iexact HG
  isplitl [HF]; · iexact HF
  isplitl [HD]; · iexact HD
  isplitl [Hmo0]; · iexact Hmo0
  iexact HO

variable {fi} in
/-- The task: both blocks' rows are gathered and written. -/
theorem task_wp (hfi : Named fi) (fs0 fs1 : S2x1x128.Idx → Elt F .i32) (fr0 fr1 : S2x128x128.Idx → Elt F .f32)
    (O : CellTallies nD τ sig (HIx 1)) (W : Waits sig (HIx 1)) (Q : PUnit → sProp 𝕄) :
    iprop(Transfers.MayWaits (thr d L) (none : HIx 1) O ∗ wm
        ∗ iPt d L q fi 0 ∗ iPt d L q fi 1 ∗ tPt d L q ft
        ∗ sPt d L 0 fs0 ∗ sPt d L 1 fs1 ∗ rPt d L 0 fr0 ∗ rPt d L 1 fr1
        ∗ free d L (mI 0) ∗ free d L (mI 1) ∗ free d L (mO 0) ∗ free d L (mO 1) ∗ free d L mG
        ∗ oPt d L qo ft fi fo 0 ∅ ∗ oPt d L qo ft fi fo 1 ∅ ∗ owes (thr d L) O W
        ∗ ((iPt d L q fi 0 ∗ iPt d L q fi 1 ∗ tPt d L q ft
            ∗ (∃ f, sPt d L 0 f) ∗ (∃ f, sPt d L 1 f) ∗ (∃ f, rPt d L 0 f) ∗ (∃ f, rPt d L 1 f)
            ∗ free d L (mI 0) ∗ free d L (mI 1) ∗ free d L (mO 0) ∗ free d L (mO 1) ∗ free d L mG
            ∗ oPt d L qo ft fi fo 0 (∅ ∪ (oH (sub L) 0).view.set) ∗ oPt d L qo ft fi fo 1 (∅ ∪ (oH (sub L) 1).view.set)
            ∗ (∃ W', ⌜∀ p ∈ W', p ∈ W ∨ p.2 = none⌝ ∗ owes (thr d L) O W'))
          -∗ Q ⟨⟩))
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) cc0_scoped1 rV (Memref.isWhole_whole _) cc0_scoped3 cc0_scoped4) Q := by
  rw [cc0_gather_kernel_eq_skeleton]; unfold cc0_gather_kernel_skel
  iintro ⟨#Hmw, #Hwm, Hi0, Hi1, Ht, Hs0, Hs1, Hr0, Hr1, Hmi0, Hmi1, Hmo0, Hmo1, Hmg, Ho0, Ho1, HO, HQ⟩
  rw [wp_bind]
  iapply (part3_wp d L q fi fs0)
  isplitl [Hi0]; · iexact Hi0
  isplitl [Hs0]; · iexact Hs0
  isplitl [Hmi0]; · iexact Hmi0
  iintro HI0
  dsimp only
  rw [k0_part4_eq_skeleton]; unfold k0_part4_skel
  simp only [bind_assoc]
  unfold Scf.Loop.for
  rw [wp_bind, Scf.for_eq, finRange_trips, Scf.forFrom_cons, wp_bind]
  iapply (trip0_wp d L q qo ft fo hfi fs0 fs1 fr0 ∅ O W)
  isplitr; · iexact Hmw
  isplitl [HI0]; · iexact HI0
  isplitl [Hi1]; · iexact Hi1
  isplitl [Hs1]; · iexact Hs1
  isplitl [Hmi1]; · iexact Hmi1
  isplitl [Ht]; · iexact Ht
  isplitl [Hr0]; · iexact Hr0
  isplitl [Hmg]; · iexact Hmg
  isplitr; · iexact Hwm
  isplitl [Ho0]; · iexact Ho0
  isplitl [Hmo0]; · iexact Hmo0
  isplitl [HO]; · iexact HO
  iintro %r ⟨%hr, ⟨Hi0, Hs0, Hmi0, Ht, Hmg, ⟨%f0, HO0⟩, HO⟩, HI1⟩
  subst hr
  rw [Scf.forFrom_cons, wp_bind]
  iapply (trip1_wp d L q qo ft fo hfi fs1 fr1 ∅ _ O _)
  isplitr; · iexact Hmw
  isplitl [HI1]; · iexact HI1
  isplitl [HO0]; · iexact HO0
  isplitl [Ht]; · iexact Ht
  isplitl [Hr1]; · iexact Hr1
  isplitl [Hmg]; · iexact Hmg
  isplitr; · iexact Hwm
  isplitl [Ho1]; · iexact Ho1
  isplitl [Hmo1]; · iexact Hmo1
  isplitl [HO]; · iexact HO
  iintro %r ⟨%hr, Hi1, Hs1, Hmi1, Ht, Hmg, ⟨%f1, HO1⟩, ⟨Ho0, Hr0⟩, Hmo0, HO⟩
  subst hr
  rw [Scf.forFrom_nil, wp_ret]
  imodintro
  dsimp only
  iapply (wp_assume 𝒱₀ (thr d L) none Set.univ (chk5_0 L))
  iapply (wp_assume 𝒱₀ (thr d L) none Set.univ chk4_1)
  have e19 : k0_off19 L 0#32 = ![blk (sub L) 1, 0] := off19_0 L
  simp only [retBind, pure_bind, mO_of (b := 1) off20_1, rS_of (b := 1) off21_1, oH_of e19]
  iapply (Transfers.wp_waitLocalO countersEmb 𝒱₀ (thr d L) none (default : HIx 1) (rfl : (oH (sub L) 1).view.dmaCredit = _)) $$ [HO1 HO]
  · isplitl [HO1]; · iexact HO1
    isplitl [HO]; · iexact HO
    iapply (Transfers.MayWaits.elim (SemLoc.dma (mO 1))) $$ Hmw
  iintro ⟨⟨Ho1, Hr1⟩, Hmo1, HO⟩
  rw [retBind, wp_pure]
  imodintro
  iapply HQ
  isplitl [Hi0]; · iexact Hi0
  isplitl [Hi1]; · iexact Hi1
  isplitl [Ht]; · iexact Ht
  isplitl [Hs0]; · iexact Hs0
  isplitl [Hs1]; · iexact Hs1
  isplitl [Hr0]; · iexists _; iexact Hr0
  isplitl [Hr1]; · iexists _; iexact Hr1
  isplitl [Hmi0]; · iexact Hmi0
  isplitl [Hmi1]; · iexact Hmi1
  isplitl [Hmo0]; · iexact Hmo0
  isplitl [Hmo1]; · iexact Hmo1
  isplitl [Hmg]; · iexact Hmg
  isplitl [Ho0]; · iexact Ho0
  isplitl [Ho1]; · iexact Ho1
  iexists _
  isplitr
  swap
  · iexact HO
  ipureintro
  intro p hp
  iterate 6
    rcases Finset.mem_insert.mp hp with hp | hp
    · exact Or.inr (hp ▸ rfl)
  exact Or.inl hp

end Task

end Cert.Proof.GatherTile
-- ==== Proof.GatherLaunch.lean ====
/-
  The gather's launch: the SparseCore call among the threads that run it. The table and the list go out to the 32 tasks as
  read shares; the output goes out in write mode, each SparseCore's 16 tasks the two row blocks of each subcore at that core's
  half share, and comes back with every element marked written, so that the TensorCore, joining the halves, has it at the rows
  gathered.
-/
module

public import proofs.«01_k».proof.Proof.GatherTile

@[expose] public section

set_option maxRecDepth 4096

noncomputable section

namespace Cert.Proof.GatherLaunch

open Cert.GatherIdeal Cert.GatherIdeal.Gen
open Cert.Proof.GatherTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The output's row blocks -/

/-- Block `b` of subcore `s`, as the output's elements; and as the list's. -/
abbrev oSet (s : Fin 16) (b : Fin 2) : Finset S4096x128.Idx := (oH s b).view.set
abbrev iSet (s : Fin 16) (b : Fin 2) : Finset S1x4096.Idx := (iH s b).view.set

theorem oSet_eq (s : Fin 16) (b : Fin 2) : oSet s b = (oR s b).set := by
  show ((View.whole (main_v2_scv : Ref sig .scVector)).slice (oR s b)).set = _
  rw [View.set_slice]; exact Finset.map_refl
theorem iSet_eq (s : Fin 16) (b : Fin 2) : iSet s b = (iR s b).set := by
  show ((View.whole (main_v1_scv : Ref sig .scVector)).slice (iR s b)).set = _
  rw [View.set_slice]; exact Finset.map_refl
theorem tSet_eq : (tA).view.set = (Finset.univ : Finset S1024x128.Idx) := by
  show ((View.whole (main_v0_scv : Ref sig .scVector)).slice _).set = _
  rw [View.set_slice, Rect.set_eq_univ_of_whole _ (by decide +kernel)]
  exact View.set_whole _

theorem mem_oSet (s : Fin 16) (b : Fin 2) (x : S4096x128.Idx) : x ∈ oSet s b ↔ (x 0).val / 128 = 2 * s.val + b.val := by
  rw [oSet_eq, Rect.mem_set_unit]
  have h1 : (x 1).val < 128 := (x 1).isLt
  constructor
  · intro h
    have h0 := h 0
    simp [blk] at h0
    omega
  · intro h a
    match a with
    | ⟨0, _⟩ => simp [blk]; omega
    | ⟨1, _⟩ => simp; omega

theorem mem_iSet (s : Fin 16) (b : Fin 2) (x : S1x4096.Idx) : x ∈ iSet s b ↔ (x 1).val / 128 = 2 * s.val + b.val := by
  rw [iSet_eq, Rect.mem_set_unit]
  have h1 : (x 0).val < 1 := (x 0).isLt
  constructor
  · intro h
    have h0 := h 1
    simp [blk] at h0
    omega
  · intro h a
    match a with
    | ⟨0, _⟩ => simp; omega
    | ⟨1, _⟩ => simp [blk]; omega

/-- The blocks, by subcore and block. -/
abbrev oBlk (p : Fin 16 × Fin 2) : Finset S4096x128.Idx := oSet p.1 p.2

theorem oBlk_disjoint : ∀ p ∈ (Finset.univ : Finset (Fin 16 × Fin 2)), ∀ p' ∈ (Finset.univ : Finset (Fin 16 × Fin 2)), p ≠ p' → Disjoint (oBlk p) (oBlk p') := by
  intro p _ p' _ hne
  rw [Finset.disjoint_left]
  intro x h h'
  have e := (mem_oSet _ _ x).mp h
  have e' := (mem_oSet _ _ x).mp h'
  have := p.2.isLt; have := p'.2.isLt
  exact hne (Prod.ext (Fin.ext (by omega)) (Fin.ext (by omega)))

theorem oBlk_cover : (Finset.univ : Finset (Fin 16 × Fin 2)).biUnion oBlk = Finset.univ := by
  ext x
  simp only [Finset.mem_biUnion, Finset.mem_univ, true_and, iff_true]
  have hx : (x 0).val < 4096 := (x 0).isLt
  exact ⟨(⟨(x 0).val / 128 / 2, by omega⟩, ⟨(x 0).val / 128 % 2, by omega⟩), (mem_oSet _ _ x).mpr (by simp; omega)⟩

theorem iSet_disjoint (s : Fin 16) : iSet s 1 ⊆ Finset.univ \ iSet s 0 := by
  intro x h
  rw [Finset.mem_sdiff]
  refine ⟨Finset.mem_univ _, fun h' => ?_⟩
  have e := (mem_iSet _ _ x).mp h
  have e' := (mem_iSet _ _ x).mp h'
  simp at e e'; omega

theorem sSet_disjoint : (sS 1).view.set ⊆ Finset.univ \ (sS 0).view.set := by
  decide +kernel

theorem rSet_eq (b : Fin 2) : (rS b).view.set = (rR b).set := by
  show (((View.whole (cc0_scoped2 : Ref sig .scVector)).slice (rR b)).reshape S128x128 squeezes_S1x128x128_S128x128.numel_eq).set = _
  rw [View.set_reshape, View.set_slice]; exact Finset.map_refl

theorem rSet_disjoint : (rS 1).view.set ⊆ Finset.univ \ (rS 0).view.set := by
  have key : (rR 1).set ⊆ (Finset.univ : Finset S2x128x128.Idx) \ (rR 0).set := by
    intro x h
    rw [Finset.mem_sdiff]
    refine ⟨Finset.mem_univ _, fun h' => ?_⟩
    rw [Rect.mem_set_unit] at h h'
    have e := h 0
    have e' := h' 0
    simp at e e'; omega
  rw [← rSet_eq 0, ← rSet_eq 1] at key
  exact key

/-! ## Write mode, split and joined -/

section WriteMode

variable {ℓ : Loc nD τ sig} {q : PosShare TreeShare} {f g : Buf (Elt F) ℓ} {W : Finset (Idx ℓ)}

theorem becomes_empty : (becomes ℓ ∅ q f g W : sProp 𝕄) = iprop(emp) := BI.Region.held_empty _

theorem becomes_union {I J : Finset (Idx ℓ)} (h : Disjoint I J) :
    (becomes ℓ (I ∪ J) q f g W : sProp 𝕄) = iprop(becomes ℓ I q f g W ∗ becomes ℓ J q f g W) :=
  BI.equiv_iff.mp ⟨(BI.Region.held_union h).1, (BI.Region.held_union h).2⟩

/-- Pairwise disjoint sets of elements in write mode are their union in write mode. -/
theorem becomes_biUnion {N : Type} [DecidableEq N] (A : Finset N) (I : N → Finset (Idx ℓ))
    (h : ∀ t ∈ A, ∀ t' ∈ A, t ≠ t' → Disjoint (I t) (I t')) :
    (becomes ℓ (A.biUnion I) q f g W : sProp 𝕄) = bigSep A fun t => becomes ℓ (I t) q f g W := by
  induction A using Finset.induction_on with
  | empty => rw [Finset.biUnion_empty, bigSep_empty]; exact becomes_empty
  | insert t A ht ih =>
    have hd : Disjoint (I t) (A.biUnion I) := (Finset.disjoint_biUnion_right _ _ _).mpr fun u hu =>
      h t (Finset.mem_insert_self _ _) u (Finset.mem_insert_of_mem hu) fun e => ht (e ▸ hu)
    rw [Finset.biUnion_insert, becomes_union hd, SparseCore.bigSep_insert' ht,
      ih fun t₁ h₁ t₂ h₂ => h t₁ (Finset.mem_insert_of_mem h₁) t₂ (Finset.mem_insert_of_mem h₂)]

/-- Which elements outside the set are marked does not matter. -/
theorem becomes_mark {I W' : Finset (Idx ℓ)} (hw : ∀ i ∈ I, i ∈ W ↔ i ∈ W') :
    (becomes ℓ I q f g W : sProp 𝕄) = becomes ℓ I q f g W' :=
  BI.Region.willBe_congr (fun _ _ => rfl) (fun _ _ => rfl) hw

end WriteMode

/-! ## What the handshakes carry -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- SparseCore `c`'s half of a share of everything, and its subcore `s`'s piece of that half. -/
def half (c : ℕ) : PosShare TreeShare := if c = 0 then fullShare.left else fullShare.right
abbrev piece (c : ℕ) (s : Fin 16) : PosShare TreeShare := Idealize.ShloMosaic.pieceOf (half c) 16 (by decide) s

variable (ft : Dev nD → S1024x128.Idx → Elt F .f32) (fi : Dev nD → S1x4096.Idx → Elt F .i32) (fo : Dev nD → S4096x128.Idx → Elt F .f32)

/-- What SparseCore `c` is handed, and hands back (`W` all of it). -/
def corePay (d : Dev nD) (c : ℕ) (W : Finset S4096x128.Idx) : sProp 𝕄 :=
  iprop((tLoc d ↦{half c} ft d) ∗ (iLoc d ↦{half c} fi d) ∗ becomes (oLoc d) Finset.univ (half c) (fo d) (gathered (ft d) (fi d)) W)

/-- What its subcore `s` is handed, and hands back. -/
def taskPay (d : Dev nD) (c : ℕ) (s : Fin 16) (W : Finset S4096x128.Idx) : sProp 𝕄 :=
  iprop((tLoc d ↦{piece c s} ft d) ∗ (iLoc d ↦{piece c s} fi d)
    ∗ becomes (oLoc d) (oSet s 0) (half c) (fo d) (gathered (ft d) (fi d)) W
    ∗ becomes (oLoc d) (oSet s 1) (half c) (fo d) (gathered (ft d) (fi d)) W)

theorem corePay_tasks (d : Dev nD) (c : ℕ) (W : Finset S4096x128.Idx) :
    (corePay ft fi fo d c W : sProp 𝕄) = bigSep Finset.univ fun s : Fin 16 => taskPay ft fi fo d c s W := by
  unfold corePay taskPay
  rw [bigSep_sep', bigSep_sep', pointsTo_piecesOf (ℓ := tLoc d) Finset.univ (ft d) (o := 16) (by decide) (half c),
    pointsTo_piecesOf (ℓ := iLoc d) Finset.univ (fi d) (o := 16) (by decide) (half c)]
  congr 2
  rw [← oBlk_cover, becomes_biUnion (ℓ := oLoc d) Finset.univ oBlk oBlk_disjoint, BI.bigSep_univ_prod]
  exact bigSep_congr fun s _ => bigSep_univ_two _

instance corePay_storable (d : Dev nD) (c : ℕ) (W : Finset S4096x128.Idx) :
    BI.Storable (upEmb : UEmb _ 𝕄) (corePay ft fi fo d c W) := by unfold corePay; infer_instance
instance taskPay_storable (d : Dev nD) (c : ℕ) (s : Fin 16) (W : Finset S4096x128.Idx) :
    BI.Storable (upEmb : UEmb _ 𝕄) (taskPay ft fi fo d c s W) := by unfold taskPay; infer_instance

theorem nSub_zero : (K (F := F)).nSub 0 = 16 := rfl
theorem nCore_zero : (K (F := F)).nCore 0 = 2 := rfl

def P : (K (F := F)).Pay (nD := nD) (Val := Elt F) (Name := ℕ) (U := UU F) where
  st := fun q d c => match q with | 0 => corePay ft fi fo d c.val ∅
  dn := fun q d c => match q with | 0 => corePay ft fi fo d c.val Finset.univ
  go := fun q d c i => match q with | 0 => taskPay ft fi fo d c.val (Fin.cast nSub_zero i) ∅
  td := fun q d c i => match q with | 0 => taskPay ft fi fo d c.val (Fin.cast nSub_zero i) Finset.univ
  x := fun _ _ => wm

instance P_storable : (P ft fi fo).IsStorable where
  st q d c := match q with | 0 => corePay_storable ft fi fo d c.val ∅
  dn q d c := match q with | 0 => corePay_storable ft fi fo d c.val Finset.univ
  go q d c i := match q with | 0 => taskPay_storable ft fi fo d c.val (Fin.cast nSub_zero i) ∅
  td q d c i := match q with | 0 => taskPay_storable ft fi fo d c.val (Fin.cast nSub_zero i) Finset.univ

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P ft fi fo) 0 := by
  intro d c
  show corePay ft fi fo d c.val ∅ ⊢ |={Set.univ}=> iprop(
      (bigSep Finset.univ fun i : Fin ((K (F := F)).nSub 0) => taskPay ft fi fo d c.val (Fin.cast nSub_zero i) ∅)
      ∗ ((bigSep Finset.univ fun i : Fin ((K (F := F)).nSub 0) => taskPay ft fi fo d c.val (Fin.cast nSub_zero i) Finset.univ)
          -∗ corePay ft fi fo d c.val Finset.univ))
  rw [bigSep_tasks (fun i => taskPay ft fi fo d c.val i ∅), bigSep_tasks (fun i => taskPay ft fi fo d c.val i Finset.univ),
    ← corePay_tasks, ← corePay_tasks]
  iintro H; imodintro
  isplitl [H]; · iexact H
  iintro H; iexact H

/-! ## The task, from what its subcore holds -/

section Task

variable [FloatOps F] (d : Dev nD) (L : grid0.Coords)

abbrev cell (d : Dev nD) (L : grid0.Coords) (sm : DmaSem sig) : GSem nD τ sig := (thr d L, .dma sm)

/-- The subcore's other semaphores, and its other buffers. -/
abbrev semRest (d : Dev nD) (L : grid0.Coords) : Finset (GSem nD τ sig) :=
  (((((ownCells (thr d L)).erase (cell d L (mI 0))).erase (cell d L (mI 1))).erase (cell d L (mO 0))).erase (cell d L (mO 1))).erase (cell d L mG)
abbrev bufRest (L : grid0.Coords) : Finset (DevRef τ sig) :=
  ((ownRefs (τ := τ) (.scVector (cV L) (jV L))).erase ((Proc.scVector (cV L) (jV L)).devRef cc0_scoped0)).erase
    ((Proc.scVector (cV L) (jV L)).devRef cc0_scoped2)

theorem mem_cell (sm : DmaSem sig) (h : (SemLoc.dma sm : SemLoc sig).isScoped .scVector = true) : cell d L sm ∈ ownCells (thr d L) :=
  mem_ownCells.mpr ⟨rfl, h⟩

theorem cell_ne {a b : DmaSem sig} (h : a ≠ b) : cell d L a ≠ cell d L b :=
  fun e => h (SemLoc.dma.inj (Prod.mk.inj e).2)

theorem ownSems0_V :
    (ownSems0 (thr d L) : sProp 𝕄)
      = iprop(free d L (mI 0) ∗ free d L (mI 1) ∗ free d L (mO 0) ∗ free d L (mO 1) ∗ free d L mG
          ∗ bigSep (semRest d L) fun g => semVal g 0) := by
  unfold SparseCore.Cfg.ownSems0
  rw [SparseCore.bigSep_erase' (mem_cell d L (mI 0) (by decide)),
    SparseCore.bigSep_erase' (Finset.mem_erase.mpr ⟨cell_ne d L (by decide), mem_cell d L (mI 1) (by decide)⟩),
    SparseCore.bigSep_erase' (Finset.mem_erase.mpr ⟨cell_ne d L (by decide), Finset.mem_erase.mpr ⟨cell_ne d L (by decide),
      mem_cell d L (mO 0) (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L (mO 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L mG (by decide)⟩⟩⟩⟩)]

theorem ownBufs_V :
    (ownBufs (thr d L) : sProp 𝕄)
      = iprop((∃ f, (thr d L).loc cc0_scoped0 ↦{fullShare} f) ∗ (∃ f, (thr d L).loc cc0_scoped2 ↦{fullShare} f)
          ∗ bigSep (bufRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A buffer whole is two disjoint parts and the rest, -/
theorem parts_split {ℓ : Loc nD τ sig} {q : PosShare TreeShare} {f : Buf (Elt F) ℓ} {A B : Finset (Idx ℓ)} (h : B ⊆ Finset.univ \ A) :
    (ℓ ↦{q} f : sProp 𝕄) ⊢ iprop((ℓ ↦[A]{q} f) ∗ (ℓ ↦[B]{q} f) ∗ ℓ ↦[(Finset.univ \ A) \ B]{q} f) := by
  iintro H
  ihave H := (pointsTo_split_subset (q := q) (f := f) (S := Finset.univ) (Finset.subset_univ A)).1 $$ H
  icases H with ⟨HA, H⟩
  ihave H := (pointsTo_split_subset (q := q) (f := f) (S := Finset.univ \ A) h).1 $$ H
  icases H with ⟨HB, HC⟩
  isplitl [HA]; · iexact HA
  isplitl [HB]; · iexact HB
  iexact HC

theorem parts_join {ℓ : Loc nD τ sig} {q : PosShare TreeShare} {f : Buf (Elt F) ℓ} {A B : Finset (Idx ℓ)} (h : B ⊆ Finset.univ \ A) :
    iprop((ℓ ↦[A]{q} f) ∗ (ℓ ↦[B]{q} f) ∗ ℓ ↦[(Finset.univ \ A) \ B]{q} f) ⊢ (ℓ ↦{q} f : sProp 𝕄) := by
  iintro ⟨HA, HB, HC⟩
  iapply (pointsTo_split_subset (q := q) (f := f) (S := Finset.univ) (Finset.subset_univ A)).2
  isplitl [HA]; · iexact HA
  iapply (pointsTo_split_subset (q := q) (f := f) (S := Finset.univ \ A) h).2
  isplitl [HB]; · iexact HB
  iexact HC

/-- and three parts at whatever they hold are the buffer at something. -/
theorem parts_some {ℓ : Loc nD τ sig} {q : PosShare TreeShare} {f f' f'' : Buf (Elt F) ℓ} {A B : Finset (Idx ℓ)} (h : B ⊆ Finset.univ \ A) :
    iprop((ℓ ↦[A]{q} f) ∗ (ℓ ↦[B]{q} f') ∗ ℓ ↦[(Finset.univ \ A) \ B]{q} f'') ⊢ (iprop(∃ g, ℓ ↦{q} g) : sProp 𝕄) := by
  iintro ⟨HA, HB, HC⟩
  iexists (A.piecewise f (B.piecewise f' f''))
  iapply (parts_join h)
  isplitl [HA]
  · iapply (Entails.of_eq (pointsTo_congr fun i hi => (Finset.piecewise_eq_of_mem A f _ hi).symm)); iexact HA
  isplitl [HB]
  · iapply (Entails.of_eq (pointsTo_congr fun i hi => by
      rw [Finset.piecewise_eq_of_notMem A _ _ (Finset.mem_sdiff.mp (h hi)).2, Finset.piecewise_eq_of_mem B _ _ hi])); iexact HB
  iapply (Entails.of_eq (pointsTo_congr fun i hi => by
    rw [Finset.piecewise_eq_of_notMem A _ _ (Finset.mem_sdiff.mp (Finset.mem_sdiff.mp hi).1).2, Finset.piecewise_eq_of_notMem B _ _ (Finset.mem_sdiff.mp hi).2])); iexact HC

local notation "tV" => (Memref.whole Cert.GatherIdeal.main_v0_scv : Memref Cert.GatherIdeal.sig Kind.scVector Space.hbm Cert.GatherIdeal.S1024x128 EltTy.f32)
local notation "iV" => (Memref.whole Cert.GatherIdeal.main_v1_scv : Memref Cert.GatherIdeal.sig Kind.scVector Space.hbm Cert.GatherIdeal.S1x4096 EltTy.i32)
local notation "oV" => (Memref.whole Cert.GatherIdeal.main_v2_scv : Memref Cert.GatherIdeal.sig Kind.scVector Space.hbm Cert.GatherIdeal.S4096x128 EltTy.f32)
local notation "sV" => (Memref.whole Cert.GatherIdeal.cc0_scoped0 : Memref Cert.GatherIdeal.sig Kind.scVector Space.vmem Cert.GatherIdeal.S2x1x128 EltTy.i32)
local notation "rV" => (Memref.whole Cert.GatherIdeal.cc0_scoped2 : Memref Cert.GatherIdeal.sig Kind.scVector Space.vmem Cert.GatherIdeal.S2x128x128 EltTy.f32)

variable {ft fi fo}

theorem tile_body (hF : (K (F := F)).Facts) (hfi : Named (fi d)) (O : CellTallies nD τ sig (HIx 1)) (W : Waits sig (HIx 1)) (hO : ∀ g, O g none = 0) :
    iprop(levAts (K (F := F)).L (K (F := F)).lev ∗ wm ∗ taskPay ft fi fo d (L 0).val (sub L) ∅
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) cc0_scoped1 rV (Memref.isWhole_whole _) cc0_scoped3 cc0_scoped4)
          fun _ => iprop(taskPay ft fi fo d (L 0).val (sub L) Finset.univ
            ∗ scopedBufs (thr d L) ∗ scopedSems0 (thr d L)
            ∗ ∃ W', ⌜∀ p ∈ W', p ∈ W ∨ p.2 = none⌝ ∗ owes (thr d L) O W') := by
  unfold taskPay
  rw [(K (F := F)).scopedBufs_V hF d (cV L) (jV L), SparseCore.Cfg.scopedSems0_V (Val := Elt F) d (cV L) (jV L), ownSems0_V, ownBufs_V]
  iintro ⟨#Hlv, #Hwm, ⟨Ht, Hi, Ho0, Ho1⟩, ⟨⟨%fs, Hs⟩, ⟨%fr, Hr⟩, Hbufs⟩, ⟨Hmi0, Hmi1, Hmo0, Hmo1, Hmg, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (parts_split (iSet_disjoint (sub L))) $$ Hi
  icases Hi with ⟨Hi0, Hi1, Hi⟩
  ihave Hs := (parts_split (ℓ := (thr d L).loc cc0_scoped0) sSet_disjoint) $$ Hs
  icases Hs with ⟨Hs0, Hs1, Hs⟩
  ihave Hr := (parts_split (ℓ := (thr d L).loc cc0_scoped2) rSet_disjoint) $$ Hr
  icases Hr with ⟨Hr0, Hr1, Hr⟩
  iapply (task_wp d L (piece (L 0).val (sub L)) (half (L 0).val) (ft d) (fo d) hfi fs fs fr fr O W)
  isplitl [Hmw]; · iexact Hmw
  isplitr; · iexact Hwm
  isplitl [Hi0]; · iexact Hi0
  isplitl [Hi1]; · iexact Hi1
  isplitl [Ht]; · unfold tPt; rw [tSet_eq]; iexact Ht
  isplitl [Hs0]; · iexact Hs0
  isplitl [Hs1]; · iexact Hs1
  isplitl [Hr0]; · iexact Hr0
  isplitl [Hr1]; · iexact Hr1
  isplitl [Hmi0]; · iexact Hmi0
  isplitl [Hmi1]; · iexact Hmi1
  isplitl [Hmo0]; · iexact Hmo0
  isplitl [Hmo1]; · iexact Hmo1
  isplitl [Hmg]; · iexact Hmg
  isplitl [Ho0]; · iexact Ho0
  isplitl [Ho1]; · iexact Ho1
  isplitl [HO]; · iexact HO
  iintro ⟨Hi0, Hi1, Ht, ⟨%fs0, Hs0⟩, ⟨%fs1, Hs1⟩, ⟨%fr0, Hr0⟩, ⟨%fr1, Hr1⟩, Hmi0, Hmi1, Hmo0, Hmo1, Hmg, Ho0, Ho1, HO⟩
  isplitl [Hi0 Hi1 Hi Ht Ho0 Ho1]
  · isplitl [Ht]; · unfold tPt; rw [tSet_eq]; iexact Ht
    isplitl [Hi0 Hi1 Hi]
    · iapply (parts_join (iSet_disjoint (sub L)))
      isplitl [Hi0]; · iexact Hi0
      isplitl [Hi1]; · iexact Hi1
      iexact Hi
    isplitl [Ho0]
    · iapply (Entails.of_eq (becomes_mark (ℓ := oLoc d) (I := oSet (sub L) 0) (W := ∅ ∪ oSet (sub L) 0) fun i hi => by simp [hi])); iexact Ho0
    · iapply (Entails.of_eq (becomes_mark (ℓ := oLoc d) (I := oSet (sub L) 1) (W := ∅ ∪ oSet (sub L) 1) fun i hi => by simp [hi])); iexact Ho1
  isplitl [Hs0 Hs1 Hs Hr0 Hr1 Hr Hbufs]
  · isplitl [Hs0 Hs1 Hs]
    · iapply (parts_some (ℓ := (thr d L).loc cc0_scoped0) sSet_disjoint)
      isplitl [Hs0]; · iexact Hs0
      isplitl [Hs1]; · iexact Hs1
      iexact Hs
    isplitl [Hr0 Hr1 Hr]
    · iapply (parts_some (ℓ := (thr d L).loc cc0_scoped2) rSet_disjoint)
      isplitl [Hr0]; · iexact Hr0
      isplitl [Hr1]; · iexact Hr1
      iexact Hr
    iexact Hbufs
  isplitr [HO]
  · isplitl [Hmi0]; · iexact Hmi0
    isplitl [Hmi1]; · iexact Hmi1
    isplitl [Hmo0]; · iexact Hmo0
    isplitl [Hmo1]; · iexact Hmo1
    isplitl [Hmg]; · iexact Hmg
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

theorem obl_post {θ : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes θ O W')
      ⊢ iprop(A ∗ B ∗ C ∗ ∃ W', ⌜∀ p ∈ W', p ∈ W ∨ p.2 = none ∨ p.2 = some q⌝ ∗ owes θ O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (ft fi fo)

set_option maxRecDepth 16384 in
theorem tileObl (hF : (K (F := F)).Facts) (hfi : ∀ d, Named (fi d)) : (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (hfi d) O W hO).trans (wp_mono frame _ _ fun _ => obl_post)

end Task

end Cert.Proof.GatherLaunch
-- ==== Proof.GatherRun.lean ====
/-
  The gather's run: the TensorCore pads the table, reshapes the list, starts the call and slices its output; every run ends with
  the result at the rows gathered, the arguments as they were and every counter at zero.
-/
module

public import proofs.«01_k».proof.Proof.GatherLaunch

@[expose] public section

set_option maxRecDepth 4096

noncomputable section

namespace Cert.Proof.GatherRun

open Cert.GatherIdeal Cert.GatherIdeal.Gen
open Cert.Proof.GatherTile Cert.Proof.GatherLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ (UU F) ℕ

variable (m : (ℓ : Loc nD τ sig) → Buf (Elt F) ℓ) (ρ : Dev nD → PrngReg)

/-! ## The launch's ghost state -/

def u₀ : UU F := (initOf (K (F := F)).hsCells (K (F := F)).hsToks, (wm₀ nD τ sig (Elt F), 1))

include m ρ in
theorem wm_start : (ownU (u₀ (F := F)) : sProp 𝕄)
    ⊢ |={Set.univ}=> iprop(BI.own (EH (initOf (K (F := F)).hsCells (K (F := F)).hsToks)) ∗ wm) := by
  unfold u₀
  iintro Hu
  ihave H := (ownU_pair (initOf (K (F := F)).hsCells (K (F := F)).hsToks) ((wm₀ nD τ sig (Elt F), 1) : WmRA nD τ sig (Elt F) × Counters)) $$ Hu
  icases H with ⟨HH, HW⟩
  ihave HW := (show (BI.own (embR ((wm₀ nD τ sig (Elt F), 1) : WmRA nD τ sig (Elt F) × Counters)) : sProp 𝕄)
    ⊢ ownU ((wmE (F := F)) (wm₀ nD τ sig (Elt F))) from Entails.rfl) $$ HW
  imod (wmInv_alloc (emb := wmE (F := F)) ⟨m, fun _ => 0, ρ⟩ ∅) $$ HW with ⟨%ι, -, #Hwm⟩
  imodintro
  isplitl [HH]; · iexact HH
  unfold wm
  iexists ι; iexact Hwm

variable [FloatOps F]

/-! ## The TensorCore's operations -/

abbrev a0' : DevRef τ sig := Proc.devRef .tc (main_arg0 : Ref sig .tc)
abbrev a1' : DevRef τ sig := Proc.devRef .tc (main_arg1 : Ref sig .tc)
abbrev c' : DevRef τ sig := Proc.devRef .tc (main_c : Ref sig .tc)
abbrev p' : DevRef τ sig := Proc.devRef .tc (main_call0_v0 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opZero : HloOp τ sig (Elt F) := StableHlo.nullary main_c (constantI S_ 32 0#32)
abbrev opCvt : HloOp τ sig (Elt F) := StableHlo.TRef.unary (.of main_c : StableHlo.TRef sig ⟨S_, .i32⟩) main_call0.v0 (sitofp .f32)
abbrev opPad : HloOp τ sig (Elt F) := StableHlo.TRef.binary (.of main_arg0 : StableHlo.TRef sig ⟨S1024x32, .f32⟩) main_call0.v0 main_call0.v1
  (fun x v => pad S1024x128 ![0, 0] ![0, 96] ![0, 0] x v pads_S1024x32_S1024x128_000_0960 h_S_)
abbrev opList : HloOp τ sig (Elt F) := StableHlo.reshape main_arg1 main_v1 (rfl : (.i32 : EltTy) = .i32) shapeCasts_S4096_S1x4096
abbrev opSlice : HloOp τ sig (Elt F) := StableHlo.unary main_v2 main_v3
  ((extractStridedSlice S4096x32 ![0, 0] · slices_S4096x128_S4096x32_0_0) : (⟨S4096x128, .f32⟩ : BufTy).Contents (Elt F) → (⟨S4096x32, .f32⟩ : BufTy).Contents (Elt F))

/-- The TensorCore's arrays. -/
abbrev S8 : Finset (DevRef τ sig) := {a0', a1', c', p', t', i', o', r'}

/-- What they hold at the launch, before the call, after it, and at the end. -/
def V0 (d : Dev nD) : Valuation τ sig (Elt F) := fun b => m (d, b)
def V1 (d : Dev nD) : Valuation τ sig (Elt F) := (opZero (F := F)).result (V0 m d)
def V2 (d : Dev nD) : Valuation τ sig (Elt F) := (opCvt (F := F)).result (V1 m d)
def V3 (d : Dev nD) : Valuation τ sig (Elt F) := (opPad (F := F)).result (V2 m d)
def V4 (d : Dev nD) : Valuation τ sig (Elt F) := (opList (F := F)).result (V3 m d)
def tab (d : Dev nD) : S1024x128.Idx → Elt F .f32 := V4 m d t'
def lst (d : Dev nD) : S1x4096.Idx → Elt F .i32 := V4 m d i'
def old (d : Dev nD) : S4096x128.Idx → Elt F .f32 := V4 m d o'
def V5 (d : Dev nD) : Valuation τ sig (Elt F) := Function.update (V4 m d) o' (gathered (tab m d) (lst m d))
def V6 (d : Dev nD) : Valuation τ sig (Elt F) := (opSlice (F := F)).result (V5 m d)

theorem V4_a0 (d : Dev nD) : V4 m d a0' = m (d, a0') := by
  unfold V4 V3 V2 V1
  rw [(opList (F := F)).result_of_not_mem _ (show a0' ∉ ({i'} : Finset (DevRef τ sig)) by decide),
    (opPad (F := F)).result_of_not_mem _ (show a0' ∉ ({t'} : Finset (DevRef τ sig)) by decide),
    (opCvt (F := F)).result_of_not_mem _ (show a0' ∉ ({p'} : Finset (DevRef τ sig)) by decide),
    (opZero (F := F)).result_of_not_mem _ (show a0' ∉ ({c'} : Finset (DevRef τ sig)) by decide)]
  rfl
theorem V4_a1 (d : Dev nD) : V4 m d a1' = m (d, a1') := by
  unfold V4 V3 V2 V1
  rw [(opList (F := F)).result_of_not_mem _ (show a1' ∉ ({i'} : Finset (DevRef τ sig)) by decide),
    (opPad (F := F)).result_of_not_mem _ (show a1' ∉ ({t'} : Finset (DevRef τ sig)) by decide),
    (opCvt (F := F)).result_of_not_mem _ (show a1' ∉ ({p'} : Finset (DevRef τ sig)) by decide),
    (opZero (F := F)).result_of_not_mem _ (show a1' ∉ ({c'} : Finset (DevRef τ sig)) by decide)]
  rfl

/-- The list is the second argument, as one row. -/
theorem lst_eq (d : Dev nD) : lst m d = shapeCast S1x4096 (m (d, a1') : S4096.Idx → Elt F .i32) shapeCasts_S4096_S1x4096 := by
  unfold lst V4
  rw [show (opList (F := F)).result (V3 m d) i' = _ from StableHlo.reshape_result _ _ _ _ _ _ _]
  unfold V3 V2 V1
  rw [(opPad (F := F)).result_of_not_mem _ (show a1' ∉ ({t'} : Finset (DevRef τ sig)) by decide),
    (opCvt (F := F)).result_of_not_mem _ (show a1' ∉ ({p'} : Finset (DevRef τ sig)) by decide),
    (opZero (F := F)).result_of_not_mem _ (show a1' ∉ ({c'} : Finset (DevRef τ sig)) by decide)]
  rfl

/-- The table is the first argument, padded on the right. -/
theorem tab_eq (d : Dev nD) : ∃ v : S_.Idx → Elt F .f32, tab m d
    = pad S1024x128 ![0, 0] ![0, 96] ![0, 0] (m (d, a0') : S1024x32.Idx → Elt F .f32) v pads_S1024x32_S1024x128_000_0960 h_S_ := by
  refine ⟨V2 m d p', ?_⟩
  unfold tab V4
  rw [(opList (F := F)).result_of_not_mem _ (show t' ∉ ({i'} : Finset (DevRef τ sig)) by decide)]
  unfold V3
  rw [show (opPad (F := F)).result (V2 m d) t' = _ from StableHlo.binary_result _ _ _ _ _ _ _ _]
  have e : V2 m d a0' = m (d, a0') := by
    unfold V2 V1
    rw [(opCvt (F := F)).result_of_not_mem _ (show a0' ∉ ({p'} : Finset (DevRef τ sig)) by decide),
      (opZero (F := F)).result_of_not_mem _ (show a0' ∉ ({c'} : Finset (DevRef τ sig)) by decide)]
    rfl
  rw [show V2 m d (Proc.devRef .tc (StableHlo.TRef.of main_arg0 : StableHlo.TRef sig ⟨S1024x32, .f32⟩).ref) = m (d, a0') from e]
  rfl

theorem held_S8 (d : Dev nD) (W : Valuation τ sig (Elt F)) :
    (held (SparseCore.T d) S8 W : sProp 𝕄)
      = iprop(((SparseCore.T d).loc main_arg0 ↦{fullShare} W a0') ∗ ((SparseCore.T d).loc main_arg1 ↦{fullShare} W a1') ∗ ((SparseCore.T d).loc main_c ↦{fullShare} W c')
          ∗ ((SparseCore.T d).loc main_call0_v0 ↦{fullShare} W p') ∗ (tLoc d ↦{fullShare} W t') ∗ (iLoc d ↦{fullShare} W i')
          ∗ (oLoc d ↦{fullShare} W o') ∗ (SparseCore.T d).loc main_v3 ↦{fullShare} W r') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (SparseCore.T d) S8 (V0 m d) := by
  rw [held_S8]
  unfold unscopedBufs
  rw [show (Finset.univ.filter fun b : Ref sig .tc => ¬ b.isScoped) = {main_arg0, main_arg1, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

abbrev PP : (K (F := F)).Pay (nD := nD) (Val := Elt F) (Name := ℕ) (U := UU F) := P (tab m) (lst m) (old m)

theorem halves {ℓ : Loc nD τ sig} (f : Buf (Elt F) ℓ) :
    (ℓ ↦{fullShare} f : sProp 𝕄) = iprop((ℓ ↦{half 0} f) ∗ ℓ ↦{half 1} f) :=
  BI.Entails.antisymm (pointsTo_share (PosShare.mem_left_op_right fullShare)).1 (pointsTo_share (PosShare.mem_left_op_right fullShare)).2

theorem st0_eq (d : Dev nD) : (bigSep Finset.univ fun c : Fin ((K (F := F)).nCore 0) => (PP m).st 0 d c)
    = iprop(corePay (tab m) (lst m) (old m) d 0 ∅ ∗ corePay (tab m) (lst m) (old m) d 1 ∅) :=
  bigSep_univ_two fun c : Fin 2 => corePay (tab m) (lst m) (old m) d c.val ∅
theorem dn0_eq (d : Dev nD) : (bigSep Finset.univ fun c : Fin ((K (F := F)).nCore 0) => (PP m).dn 0 d c)
    = iprop(corePay (tab m) (lst m) (old m) d 0 Finset.univ ∗ corePay (tab m) (lst m) (old m) d 1 Finset.univ) :=
  bigSep_univ_two fun c : Fin 2 => corePay (tab m) (lst m) (old m) d c.val Finset.univ

/-- Table, list and output, whole, are what the two SparseCores are handed; and back. -/
theorem cores_start (d : Dev nD) (ft : Dev nD → S1024x128.Idx → Elt F .f32) (fi : Dev nD → S1x4096.Idx → Elt F .i32) (fo : Dev nD → S4096x128.Idx → Elt F .f32) :
    iprop(wm ∗ (tLoc d ↦{fullShare} ft d) ∗ (iLoc d ↦{fullShare} fi d) ∗ (oLoc d ↦{fullShare} fo d))
      ⊢ (iprop(|={Set.univ}=> (corePay ft fi fo d 0 ∅ ∗ corePay ft fi fo d 1 ∅)) : sProp 𝕄) := by
  unfold corePay wm
  rw [halves (ℓ := tLoc d), halves (ℓ := iLoc d)]
  iintro ⟨⟨%ι, #Hwm⟩, ⟨Ht0, Ht1⟩, ⟨Hi0, Hi1⟩, Ho⟩
  imod (pointsTo_castIn (emb := wmE (F := F)) (ℓ := oLoc d) (fun i => some (gathered (ft d) (fi d) i))) $$ [Ho] with Hw
  · isplitr; · iexact Hwm
    iexact Ho
  icases Hw with ⟨Hw0, Hw1⟩
  imodintro
  isplitl [Ht0 Hi0 Hw0]
  · isplitl [Ht0]; · iexact Ht0
    isplitl [Hi0]; · iexact Hi0
    iexact Hw0
  isplitl [Ht1]; · iexact Ht1
  isplitl [Hi1]; · iexact Hi1
  iexact Hw1

theorem becomes_halves (ℓ : Loc nD τ sig) (f g : Buf (Elt F) ℓ) (W : Finset (Idx ℓ)) :
    (iprop(becomes ℓ Finset.univ (half 0) f g W ∗ becomes ℓ Finset.univ (half 1) f g W) : sProp 𝕄)
      ⊢ willBeTo (wmE (F := F)) ℓ Finset.univ fullShare f (fun i => some (g i)) W := by
  show (iprop(becomes ℓ Finset.univ fullShare.left f g W ∗ becomes ℓ Finset.univ fullShare.right f g W) : sProp 𝕄) ⊢ _
  iintro ⟨H₁, H₂⟩
  icombine H₁ H₂ as H
  iapply (Entails.of_eq (congrArg (fun W => (willBeTo (wmE (F := F)) ℓ Finset.univ fullShare f (fun i => some (g i)) W : sProp 𝕄)) (Finset.union_self W)))
  iexact H

theorem cores_end (d : Dev nD) (ft : Dev nD → S1024x128.Idx → Elt F .f32) (fi : Dev nD → S1x4096.Idx → Elt F .i32) (fo : Dev nD → S4096x128.Idx → Elt F .f32) :
    iprop(wm ∗ corePay ft fi fo d 0 Finset.univ ∗ corePay ft fi fo d 1 Finset.univ)
      ⊢ (iprop(|={Set.univ}=> ((tLoc d ↦{fullShare} ft d) ∗ (iLoc d ↦{fullShare} fi d) ∗ (oLoc d ↦{fullShare} gathered (ft d) (fi d)))) : sProp 𝕄) := by
  unfold corePay wm
  rw [halves (ℓ := tLoc d), halves (ℓ := iLoc d)]
  iintro ⟨⟨%ι, #Hwm⟩, ⟨Ht0, Hi0, Hw0⟩, ⟨Ht1, Hi1, Hw1⟩⟩
  ihave Hw := (becomes_halves (oLoc d) (fo d) (gathered (ft d) (fi d)) Finset.univ) $$ [Hw0 Hw1]
  · isplitl [Hw0] <;> iassumption
  imod (willBeTo_castOut_some (emb := wmE (F := F)) (ℓ := oLoc d) (f := fo d) (g := gathered (ft d) (fi d)) (W := Finset.univ)) $$ [Hw] with Ho
  · isplitr; · iexact Hwm
    iexact Hw
  imodintro
  isplitl [Ht0 Ht1]; · isplitl [Ht0] <;> iassumption
  isplitl [Hi0 Hi1]; · isplitl [Hi0] <;> iassumption
  rw [Finset.piecewise_univ]
  iexact Ho

include ρ in
theorem hu₀ : (ownU (u₀ (F := F)) : sProp 𝕄)
    ⊢ |={Set.univ}=> iprop(BI.own (EH (initOf (K (F := F)).hsCells (K (F := F)).hsToks)) ∗ (bigSep Finset.univ fun _ : Dev nD => wm)
        ∗ bigSep Finset.univ fun thr : Thread nD τ => bigSep Finset.univ fun q : Fin 1 => (PP m).x q thr) := by
  iintro Hu
  imod (wm_start m ρ) $$ Hu with ⟨HH, #Hwm⟩
  imodintro
  isplitl [HH]; · iexact HH
  isplitr
  · iapply (bigSep_of_persistent Finset.univ (wm (F := F))); iexact Hwm
  · iapply (bigSep_of_persistent Finset.univ (bigSep Finset.univ fun _ : Fin 1 => wm (F := F)))
    iapply (bigSep_of_persistent Finset.univ (wm (F := F))); iexact Hwm

theorem hZero : (opZero (F := F)).bufs ⊆ S8 := show ({c'} : Finset (DevRef τ sig)) ⊆ S8 by decide
theorem hCvt : (opCvt (F := F)).bufs ⊆ S8 := show ({c', p'} : Finset (DevRef τ sig)) ⊆ S8 by decide
theorem hPad : (opPad (F := F)).bufs ⊆ S8 := show ({a0', p', t'} : Finset (DevRef τ sig)) ⊆ S8 by decide
theorem hList : (opList (F := F)).bufs ⊆ S8 := show ({a1', i'} : Finset (DevRef τ sig)) ⊆ S8 by decide
theorem hSlice : (opSlice (F := F)).bufs ⊆ S8 := show ({o', r'} : Finset (DevRef τ sig)) ⊆ S8 by decide

theorem V5_o (d : Dev nD) : V5 m d o' = gathered (tab m d) (lst m d) := Function.update_self _ _ _
theorem V5_ne (d : Dev nD) {b : DevRef τ sig} (h : b ≠ o') : V5 m d b = V4 m d b := Function.update_of_ne h _ _

theorem V6_a0 (d : Dev nD) : V6 m d a0' = m (d, a0') := by
  unfold V6
  rw [(opSlice (F := F)).result_of_not_mem _ (show a0' ∉ ({r'} : Finset (DevRef τ sig)) by decide), V5_ne m d (by decide), V4_a0]
theorem V6_a1 (d : Dev nD) : V6 m d a1' = m (d, a1') := by
  unfold V6
  rw [(opSlice (F := F)).result_of_not_mem _ (show a1' ∉ ({r'} : Finset (DevRef τ sig)) by decide), V5_ne m d (by decide), V4_a1]

/-- The result: the rows gathered, without the padding. -/
def res (d : Dev nD) : S4096x32.Idx → Elt F .f32 :=
  extractStridedSlice S4096x32 ![0, 0] (gathered (tab m d) (lst m d)) slices_S4096x128_S4096x32_0_0

theorem V6_r (d : Dev nD) : V6 m d r' = res m d :=
  (StableHlo.unary_result _ _ _ _ _ _).trans (by rw [V5_o]; rfl)

/-- What @main leaves the claims. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ (SparseCore.T d).loc main_v3 ↦{fullShare} res m d)

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ wm)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, #Hwm⟩
  iapply (wp_hlo_within 𝒱 (SparseCore.T d) none Set.univ (op := opZero) (S := S8) hZero (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opCvt) (S := S8) hCvt (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opPad) (S := S8) hPad (V := V2 m d)) $$ [Hb Hheld]
  · isplitl [Hb]; · iexact Hb
    iexact Hheld
  iintro ⟨Hb, Hheld⟩
  rw [wp_ret]; imodintro; imodintro
  iapply (wp_hlo_within 𝒱 (SparseCore.T d) none Set.univ (op := opList) (S := S8) hList (V := V3 m d)) $$ [Hb Hheld]
  · isplitl [Hb]; · iexact Hb
    iexact Hheld
  iintro ⟨Hb, Hheld⟩
  rw [wp_ret]; imodintro
  ihave Hh := (show held (SparseCore.T d) S8 ((opList (F := F)).result (V3 m d)) ⊢ _ from Entails.of_eq (held_S8 (F := F) d (V4 m d))) $$ Hheld
  icases Hh with ⟨Ha0, Ha1, Hc, Hp, Ht, Hi, Ho, Hr⟩
  imod (cores_start d (tab m) (lst m) (old m)) $$ [Ht Hi Ho] with Hcores
  · isplitr; · iexact Hwm
    isplitl [Ht]; · iexact Ht
    isplitl [Hi]; · iexact Hi
    iexact Ho
  iapply ((K (F := F)).wp_run (D (F := F)) 𝒱 (EH := EH) (P := PP m) κ d 0) $$ [Hst Hcores Hb Hts Ha0 Ha1 Hc Hp Hr]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  imod (cores_end d (tab m) (lst m) (old m)) $$ [Hdn'] with ⟨Ht, Hi, Ho⟩
  · isplitr; · iexact Hwm
    iexact Hdn'
  iapply (wp_hlo_within 𝒱 (SparseCore.T d) none Set.univ (op := opSlice) (S := S8) hSlice (V := V5 m d)) $$ [Hb Ha0 Ha1 Hc Hp Ht Hi Ho Hr]
  · isplitl [Hb]; · iexact Hb
    rw [held_S8, V5_o, V5_ne m d (b := a0') (by decide), V5_ne m d (b := a1') (by decide), V5_ne m d (b := c') (by decide),
      V5_ne m d (b := p') (by decide), V5_ne m d (b := t') (by decide), V5_ne m d (b := i') (by decide), V5_ne m d (b := r') (by decide)]
    isplitl [Ha0]; · iexact Ha0
    isplitl [Ha1]; · iexact Ha1
    isplitl [Hc]; · iexact Hc
    isplitl [Hp]; · iexact Hp
    isplitl [Ht]; · iexact Ht
    isplitl [Hi]; · iexact Hi
    isplitl [Ho]; · iexact Ho
    iexact Hr
  iintro ⟨Hb, Hheld⟩
  ihave Hh := (show held (SparseCore.T d) S8 ((opSlice (F := F)).result (V5 m d)) ⊢ _ from Entails.of_eq (held_S8 (F := F) d (V6 m d))) $$ Hheld
  rw [V6_a0, V6_a1, V6_r]
  icases Hh with ⟨Ha0, Ha1, -, -, -, -, -, Hr⟩
  rw [wp_ret]; imodintro; imodintro
  isplitl [Hst]; · iexact Hst
  isplitr [Hb Hts]
  · isplitl [Ha0]; · iexact Ha0
    isplitl [Ha1]; · iexact Ha1
    iexact Hr
  isplitl [Hb] <;> iassumption

/-- What the claims read of device `d`'s final state. -/
def fq (d : Dev nD) (s' : Phys nD τ sig (Elt F)) : Prop :=
  s'.mem.mem ((SparseCore.T d).loc main_v3) = res m d
    ∧ s'.mem.mem ((SparseCore.T d).loc main_arg0) = m ((SparseCore.T d).loc main_arg0)
    ∧ s'.mem.mem ((SparseCore.T d).loc main_arg1) = m ((SparseCore.T d).loc main_arg1)

set_option maxRecDepth 16384 in
theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v3) (I := Finset.univ) (q := fullShare) (f := res m d)) $$ [HSI H3]
  · isplitl [HSI] <;> iassumption
  icases H with %h3
  ipureintro
  exact ⟨funext fun i => h3 i (Finset.mem_univ i), funext fun i => h0 i (Finset.mem_univ i), funext fun i => h1 i (Finset.mem_univ i)⟩

/-! ## The run -/

def QC : PUnit × MemSt nD τ sig (Elt F) → Prop := fun r =>
  (∀ d : Dev nD, r.2.mem ((SparseCore.T d).loc main_v3) = res m d
    ∧ r.2.mem ((SparseCore.T d).loc main_arg0) = m ((SparseCore.T d).loc main_arg0)
    ∧ r.2.mem ((SparseCore.T d).loc main_arg1) = m ((SparseCore.T d).loc main_arg1)) ∧ r.2.sem = fun _ => 0

theorem run_main [∀ e, Nonempty (Elt F e)] (hfi : ∀ d, Named (lst m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (lst m) (old m) facts hfi)
    (fun q _ => match q with | 0 => SparseCore.Cfg.VecSplit.of_plain (vecSplit (tab m) (lst m) (old m)))
    m ρ main (fun _ => wm) (FIN m) (u₀ (F := F)) (sep_elim_left.trans (hu₀ m ρ)) (hmain m ρ) (fq m) (hfin m) (QC m) (fun _ h hz => ⟨h, hz⟩)

end Cert.Proof.GatherRun
-- ==== Proof.GatherValue.lean ====
/-
  The gather's value: under the precondition — every index of the list names a row of the table — the plain-jax take of the rows
  is, element by element, the rows the kernel gathers.
-/
module

public import proofs.«01_k».proof.Proof.GatherRun
public import proofs.«01_k».proof.Proof.Gen.Gather
public import proofs.«01_k».proof.Proof.Gen.GatherReference.Run
public import proofs.«01_k».proof.Proof.Gen.GatherReferenceIdeal.Run
public import proofs.«01_k».proof.Proof.Gen.Pre_in_range
public import proofs.«01_k».proof.Defs
public import Idealize.ShloMosaic.Lib.ReduceAll
public import Idealize.ShloMosaic.Lib.KernelVsHost
public import Idealize.ShloMosaic.Lib.Routing.Ops

@[expose] public section

set_option maxRecDepth 4096

noncomputable section

namespace Cert.Proof.GatherValue

open Idealize.ShloMosaic Idealize.SL.Sem
open Idealize.ShloMosaic.ValueIdx (ix1 ix2)

section Take

open Cert.GatherReferenceIdeal Cert.GatherReferenceIdeal.Gen

variable {F : FTy → Type} [FloatOps F]

/-- The list's words with the negative ones counted from the table's end. -/
def wrapped (i : S4096.Idx → BitVec 32) : S4096.Idx → BitVec 32 :=
  select (cmpi .slt i (broadcastInDim S4096 ![] bcast_S_S4096 (constantI S_ 32 0#32))) (addi i (broadcastInDim S4096 ![] bcast_S_S4096 (constantI S_ 32 1024#32))) i

/-- Which of the words name a row. -/
def valid (i : S4096.Idx → BitVec 32) : S4096.Idx → BitVec 1 :=
  Host.reduce IntOp.andi (andi (cmpi .sge (broadcastInDim S4096x1 ![0] bcast_S4096_S4096x1_0 i) (broadcastInDim S4096x1 ![] bcast_S_S4096x1 (constantI S_ 32 0#32))) (cmpi .sle (broadcastInDim S4096x1 ![0] bcast_S4096_S4096x1_0 i) (broadcastInDim S4096x1 ![0, 1] bcast_S1x1_S4096x1_0_1 (broadcastInDim S1x1 ![1] bcast_S1_S1x1_1 (constantI S1 32 1023#32))))) (constantI S_ 1 1#1) reducesTo_S4096x1_S4096_d1 h_S_

/-- The take, as the reference's operations compose it. -/
def taken (x : S1024x32.Idx → F .f32) (i : S4096.Idx → BitVec 32) : S4096x32.Idx → F .f32 :=
  select (broadcastInDim S4096x32 ![0] bcast_S4096_S4096x32_0 (valid (wrapped i))) (Host.gather gather_S1024x32_S4096x1_S4096x32_1_0_n_n_0_1_132 x (broadcastInDim S4096x1 ![0] bcast_S4096_S4096x1_0 (wrapped i))) (broadcastInDim S4096x32 ![] bcast_S_S4096x32 (constant S_ .f32 0x7FC00000#32))

/-- Every word of the list, as a number, names a row. -/
def Rows (i : S4096.Idx → BitVec 32) : Prop := ∀ j, (i j).toNat < 1024

theorem wrapped_eq {i : S4096.Idx → BitVec 32} (hi : Rows i) : wrapped i = i := by
  funext j
  have h := hi j
  have e : IntOp.cmpi .slt (i j) 0#32 = 0#1 := by
    have : ¬ BitVec.slt (i j) 0#32 := by
      rw [BitVec.slt_eq_decide, decide_eq_true_eq, BitVec.toInt_eq_toNat_cond, BitVec.toInt_eq_toNat_cond]
      simp; omega
    simp [IntOp.cmpi, this]
  unfold wrapped select
  simp only [cmpi, broadcastInDim, constantI]
  rw [e]; rfl

theorem valid_eq {i : S4096.Idx → BitVec 32} (hi : Rows i) (j : S4096.Idx) : valid i j = 1#1 := by
  have key : ∀ v : BitVec 32, v.toNat < 1024 → IntOp.andi (IntOp.cmpi .sge v 0#32) (IntOp.cmpi .sle v 1023#32) = 1#1 := by
    intro v h
    have h1 : BitVec.sle 0#32 v = true := by
      rw [BitVec.sle_eq_decide, decide_eq_true_eq, BitVec.toInt_eq_toNat_cond, BitVec.toInt_eq_toNat_cond]
      simp; omega
    have h2 : BitVec.sle v 1023#32 = true := by
      rw [BitVec.sle_eq_decide, decide_eq_true_eq, BitVec.toInt_eq_toNat_cond, BitVec.toInt_eq_toNat_cond]
      simp; omega
    simp [IntOp.cmpi, h1, h2, IntOp.andi]
  unfold valid
  refine Host.reduce_andi_one _ _ _ _ _ rfl fun y => ?_
  simp only [andi, cmpi, broadcastInDim, constantI]
  exact key _ (hi _)

theorem taken_apply {i : S4096.Idx → BitVec 32} (hi : Rows i) (x : S1024x32.Idx → F .f32) (r : Fin 4096) (c : Fin 32) :
    taken x i (ix2 r c) = x (ix2 ⟨(i (ix1 r)).toNat, hi _⟩ c) := by
  unfold taken
  rw [wrapped_eq hi]
  unfold select
  rw [show broadcastInDim S4096x32 ![0] bcast_S4096_S4096x32_0 (valid i) (ix2 r c) = 1#1 from valid_eq hi _]
  refine (if_pos rfl).trans (Idealize.ShloMosaic.Routing.gather_row _ rfl rfl rfl rfl rfl x _ r c ⟨(i (ix1 r)).toNat, hi _⟩ ?_ (by norm_num))
  rw [BitVec.ofNat_toNat, BitVec.setWidth_eq]
  unfold broadcastInDim
  congr 1
  funext a
  match a with
  | ⟨0, _⟩ => rfl

end Take

section Gathered

open Cert.GatherIdeal Cert.GatherIdeal.Gen
open Cert.Proof.GatherTile Cert.Proof.GatherRun

variable {F : FTy → Type} [FloatOps F] (m : (ℓ : Loc nD τ sig) → Buf (Elt F) ℓ)

theorem lst_apply (d : Dev nD) (y : S1x4096.Idx) : lst m d y = (m (d, a1') : S4096.Idx → BitVec 32) (ix1 (y 1)) := by
  rw [lst_eq]
  refine (shapeCast_addUnit_apply ![4096] (m (d, a1') : S4096.Idx → BitVec 32) shapeCasts_S4096_S1x4096 y).trans (congrArg _ (funext fun a => ?_))
  match a with
  | ⟨0, _⟩ => rfl

theorem named (hi : ∀ d, Rows (m (d, a1') : S4096.Idx → BitVec 32)) (d : Dev nD) : Named (lst m d) := fun y => by
  have := hi d (ix1 (y 1))
  rw [lst_apply]; exact this

theorem res_apply (d : Dev nD) (hi : Rows (m (d, a1') : S4096.Idx → BitVec 32)) (r : Fin 4096) (c : Fin 32) :
    res m d (ix2 r c) = (m (d, a0') : S1024x32.Idx → F .f32) (ix2 ⟨((m (d, a1') : S4096.Idx → BitVec 32) (ix1 r)).toNat, hi _⟩ c) := by
  unfold res extractStridedSlice gathered
  obtain ⟨v, e⟩ := tab_eq m d
  rw [e]
  refine pad_apply_of_inside _ _ _ _ _ _ _ _ _ fun a => ?_
  match a with
  | ⟨0, _⟩ =>
    show (Fin.ofNat 1024 (show BitVec 32 from lst m d _).toNat).val = _
    rw [lst_apply]
    show _ % 1024 = 0 + ((m (d, a1') : S4096.Idx → BitVec 32) (ix1 r)).toNat * 1
    rw [Nat.mod_eq_of_lt]
    · simp
    · exact hi _
  | ⟨1, _⟩ =>
    show (0 + c.val : ℕ) = 0 + c.val * 1
    omega

/-- The rows gathered are the rows taken. -/
theorem res_eq (d : Dev nD) (hi : Rows (m (d, a1') : S4096.Idx → BitVec 32)) :
    res m d = taken (m (d, a0') : S1024x32.Idx → F .f32) (m (d, a1') : S4096.Idx → BitVec 32) := by
  funext y
  obtain ⟨r, c, rfl⟩ : ∃ (r : Fin 4096) (c : Fin 32), y = ix2 r c :=
    ⟨y 0, y 1, funext fun a => match a with | ⟨0, _⟩ => rfl | ⟨1, _⟩ => rfl⟩
  exact (res_apply m d hi r c).trans (taken_apply hi _ r c).symm

end Gathered

/-! ## The claims -/

/-- The precondition, as jax computes it, says that every word of the list names a row. -/
theorem rows_of_pre {F : FTy → Type} [FloatOps F] (x : Cert.Pre_in_range.S1024x32.Idx → F .f32) (i : Cert.Pre_in_range.S4096.Idx → BitVec 32)
    (h : Cert.Pre_in_range.fn x i = fun _ => 1#1) : Rows i := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1024#32) = 1#1 → v.toNat < 1024 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h j
  simp only [Cert.Pre_in_range.fn, andi, cmpi, broadcastInDim, constantI] at e
  exact key _ e

section Claims

open Cert.Proof.GatherTile Cert.Proof.GatherRun

theorem frame_kernel : Cert.quiescent_Gather := fun m g h =>
  (θ_run Cert.GatherIdeal.defs _ _).mono (fun _ r => ⟨fun c => (r.1 c).2, r.2⟩)
    (run_main (F := Bits) m g (named m fun d => rows_of_pre _ _ (h d)))

theorem frame_ideal : Cert.quiescent_GatherIdeal := fun m g h =>
  (θ_run Cert.GatherIdeal.defs _ _).mono (fun _ r => ⟨fun c => (r.1 c).2, r.2⟩)
    (run_main (F := Ideal) m g (named m fun d => rows_of_pre _ _ (h d)))

theorem frame_reference : Cert.quiescent_GatherReference := fun m g _ =>
  (θ_run Cert.GatherReference.defs _ _).mono (fun r h => ⟨fun c => (h c).2, sem_eq_zero_of_no_sems (by decide) r.2⟩)
    (Cert.GatherReference.Value.run (F := Bits) m g)

theorem frame_reference_ideal : Cert.quiescent_GatherReferenceIdeal := fun m g _ =>
  (θ_run Cert.GatherReferenceIdeal.defs _ _).mono (fun r h => ⟨fun c => (h c).2, sem_eq_zero_of_no_sems (by decide) r.2⟩)
    (Cert.GatherReferenceIdeal.Value.run (F := Ideal) m g)

theorem bitexact : Cert.bitexact_Gather_GatherReference := by
  intro m g m' g' hpre hagree
  have hi : ∀ d, Rows (m (d, a1') : Cert.GatherIdeal.S4096.Idx → BitVec 32) := fun d => rows_of_pre _ _ (hpre d)
  refine ⟨fun c => taken (F := Bits) (m (c, a0')) (m (c, a1')), ?_, ?_⟩
  · exact (θ_run Cert.GatherIdeal.defs _ _).mono (fun _ r c => ⟨(r.1 c).1.trans (res_eq m c (hi c)), (r.1 c).2⟩)
      (run_main (F := Bits) m g (named m hi))
  · refine (θ_run Cert.GatherReference.defs _ _).mono (fun _ r c => ⟨(r c).1.trans ?_, (r c).2⟩)
      (Cert.GatherReference.Value.run (F := Bits) m' g')
    rw [(hagree c).1, (hagree c).2]
    rfl

theorem algebraic : Cert.algebraic_GatherIdeal_GatherReferenceIdeal := by
  intro m g m' g' hpre hagree
  have hi : ∀ d, Rows (m (d, a1') : Cert.GatherIdeal.S4096.Idx → BitVec 32) := fun d => rows_of_pre _ _ (hpre d)
  refine ⟨fun c => taken (F := Ideal) (m (c, a0')) (m (c, a1')), ?_, ?_⟩
  · exact (θ_run Cert.GatherIdeal.defs _ _).mono (fun _ r c => ⟨(r.1 c).1.trans (res_eq m c (hi c)), (r.1 c).2⟩)
      (run_main (F := Ideal) m g (named m hi))
  · refine (θ_run Cert.GatherReferenceIdeal.defs _ _).mono (fun _ r c => ⟨(r c).1.trans ?_, (r c).2⟩)
      (Cert.GatherReferenceIdeal.Value.run (F := Ideal) m' g')
    rw [(hagree c).1, (hagree c).2]
    rfl

end Claims

end Cert.Proof.GatherValue

end
-- ==== Proof.WholeWords.lean ====
/-
  The gather kernel's words and windows. The pipeline carries five counters (the input slots filled and emptied, the
  output slots filled and emptied, the step); it makes two steps, and at each the counters are the same on every tile.
  So each offset the kernel computes has a closed form at the counters it meets, and each of its conditions a value.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WriteMode
public import proofs.«01_k».proof.Proof.Gen.KernelIdeal
public import proofs.«01_k».proof.Proof.Gen.KernelIdeal.Skeleton

@[expose] public section

noncomputable section

namespace Cert.Proof.WholeTile

open Cert.KernelIdeal Cert.KernelIdeal.Gen

open Idealize.ShloMosaic
open Idealize.SL Idealize.SL.Sem

/-! ## The two trips -/

theorem trips_eq : k1_t1_loop.trips = 2 := by decide +kernel
/-- The first trip, and the second. -/
def t0 : Fin k1_t1_loop.trips := ⟨0, by rw [trips_eq]; omega⟩
def t1 : Fin k1_t1_loop.trips := ⟨1, by rw [trips_eq]; omega⟩
theorem finRange_trips : List.finRange k1_t1_loop.trips = [t0, t1] := by decide +kernel

/-! ## What the kernel checks of its words, and its conditions -/

theorem chk3_0 : k1_chk3 0#32 := by decide +kernel
theorem chk3_1 : k1_chk3 1#32 := by decide +kernel
theorem chk2_0 : k1_chk2 0#32 := by decide +kernel
theorem chk2_1 : k1_chk2 1#32 := by decide +kernel
theorem chk4_1 : k1_chk4 1#32 := by decide +kernel
theorem chk1_0 : ∀ i : grid1.Coords, k1_chk1 i t0 1#32 0#32 0#32 0#32 0#32 := by decide +kernel
theorem chk1_1 : ∀ i : grid1.Coords, k1_chk1 i t1 2#32 1#32 1#32 0#32 1#32 := by decide +kernel
theorem chk5_0 : ∀ i : grid1.Coords, k1_chk5 i 0#32 := by decide +kernel

theorem cond1_0 : ∀ i : grid1.Coords, k1_cond1 i t0 0#32 = 1#1 := by decide +kernel
theorem cond1_1 : ∀ i : grid1.Coords, ¬ k1_cond1 i t1 1#32 = 1#1 := by decide +kernel
theorem cond2_0 : ∀ i : grid1.Coords, k1_cond2 i t0 0#32 = 1#1 := by decide +kernel
theorem cond2_1 : ∀ i : grid1.Coords, k1_cond2 i t1 1#32 = 1#1 := by decide +kernel
theorem cond5_0 : ∀ i : grid1.Coords, k1_cond5 i t0 0#32 = 1#1 := by decide +kernel
theorem cond5_1 : ∀ i : grid1.Coords, k1_cond5 i t1 1#32 = 1#1 := by decide +kernel
theorem cond7_0 : ∀ i : grid1.Coords, ¬ k1_cond7 i t0 0#32 = 1#1 := by decide +kernel
theorem cond7_1 : ∀ i : grid1.Coords, k1_cond7 i t1 1#32 = 1#1 := by decide +kernel

/-! ## Its offsets -/

theorem off4_1 : k1_off4 1#32 = ![1, 0, 0] := by decide +kernel
theorem off5_0 : ∀ i : grid1.Coords, k1_off5 i 0#32 = ![0, 256 * (i 1).val + 128] := by decide +kernel
theorem off6_1 : k1_off6 1#32 = ![1] := by decide +kernel
theorem off7_0 : k1_off7 0#32 = ![0, 0, 0] := by decide +kernel
theorem off7_1 : k1_off7 1#32 = ![1, 0, 0] := by decide +kernel
theorem off8_0 : ∀ i : grid1.Coords, k1_off8 i 0#32 = ![0, 256 * (i 1).val] := by decide +kernel
theorem off8_1 : ∀ i : grid1.Coords, k1_off8 i 1#32 = ![0, 256 * (i 1).val + 128] := by decide +kernel
theorem off9_0 : k1_off9 0#32 = ![0] := by decide +kernel
theorem off9_1 : k1_off9 1#32 = ![1] := by decide +kernel
theorem off10_0 : k1_off10 0#32 = ![0, 0, 0] := by decide +kernel
theorem off10_1 : k1_off10 1#32 = ![1, 0, 0] := by decide +kernel
theorem off11_0 : k1_off11 0#32 = ![0, 0, 0] := by decide +kernel
theorem off11_1 : k1_off11 1#32 = ![1, 0, 0] := by decide +kernel
theorem off12_0 : k1_off12 0#32 = ![0, 0, 0] := by decide +kernel
theorem off12_1 : k1_off12 1#32 = ![1, 0, 0] := by decide +kernel
theorem off13_0 : ∀ i : grid1.Coords, k1_off13 i 0#32 = ![256 * (i 1).val, 0] := by decide +kernel
theorem off13_1 : ∀ i : grid1.Coords, k1_off13 i 1#32 = ![256 * (i 1).val + 128, 0] := by decide +kernel
theorem off14_0 : k1_off14 0#32 = ![0] := by decide +kernel
theorem off14_1 : k1_off14 1#32 = ![1] := by decide +kernel
theorem off15_0 : k1_off15 0#32 = ![0, 0, 0] := by decide +kernel
theorem off16_1 : ∀ i : grid1.Coords, k1_off16 i 1#32 = ![256 * (i 1).val, 0] := by decide +kernel
theorem off17_0 : k1_off17 0#32 = ![0] := by decide +kernel
theorem off19_0 : ∀ i : grid1.Coords, k1_off19 i 0#32 = ![256 * (i 1).val + 128, 0] := by decide +kernel
theorem off20_1 : k1_off20 1#32 = ![1] := by decide +kernel
theorem off21_1 : k1_off21 1#32 = ![1, 0, 0] := by decide +kernel

/-! ## The windows -/

local notation "tV" => (Memref.whole Cert.KernelIdeal.main_v5_scv : Memref Cert.KernelIdeal.sig Kind.scVector Space.hbm Cert.KernelIdeal.S1024x128 EltTy.f32)
local notation "iV" => (Memref.whole Cert.KernelIdeal.main_v6_scv : Memref Cert.KernelIdeal.sig Kind.scVector Space.hbm Cert.KernelIdeal.S1x4096 EltTy.i32)
local notation "oV" => (Memref.whole Cert.KernelIdeal.main_v7_scv : Memref Cert.KernelIdeal.sig Kind.scVector Space.hbm Cert.KernelIdeal.S4096x128 EltTy.f32)
local notation "sV" => (Memref.whole Cert.KernelIdeal.cc1_scoped0 : Memref Cert.KernelIdeal.sig Kind.scVector Space.vmem Cert.KernelIdeal.S2x1x128 EltTy.i32)
local notation "rV" => (Memref.whole Cert.KernelIdeal.cc1_scoped2 : Memref Cert.KernelIdeal.sig Kind.scVector Space.vmem Cert.KernelIdeal.S2x128x128 EltTy.f32)

/-- The first list position (and output row) of block `b` of subcore `s`: blocks are 128 long, a subcore has two. -/
abbrev blk (s : Fin 16) (b : Fin 2) : ℕ := 256 * s.val + 128 * b.val

theorem inb_i : ∀ (s : Fin 16) (b : Fin 2), ∀ a, (![0, blk s b] : Fin 2 → ℕ) a + S1x128.size a ≤ S1x4096.size a := by decide +kernel
theorem inb_o : ∀ (s : Fin 16) (b : Fin 2), ∀ a, (![blk s b, 0] : Fin 2 → ℕ) a + S128x128.size a ≤ S4096x128.size a := by decide +kernel
theorem inb_s : ∀ (b : Fin 2), ∀ a, (![b.val, 0, 0] : Fin 3 → ℕ) a + S1x1x128.size a ≤ S2x1x128.size a := by decide +kernel
theorem inb_r : ∀ (b : Fin 2), ∀ a, (![b.val, 0, 0] : Fin 3 → ℕ) a + S1x128x128.size a ≤ S2x128x128.size a := by decide +kernel
theorem inb_m : ∀ (b : Fin 2), ∀ a, (![b.val] : Fin 1 → ℕ) a + S1.size a ≤ S2.size a := by decide +kernel

/-- Block `b` of the index list, and of the output's rows. -/
abbrev iR (s : Fin 16) (b : Fin 2) : Rect S1x4096 := Rect.unit (s := S1x4096) ![0, blk s b] S1x128.size (inb_i s b)
abbrev oR (s : Fin 16) (b : Fin 2) : Rect S4096x128 := Rect.unit (s := S4096x128) ![blk s b, 0] S128x128.size (inb_o s b)
def iH (s : Fin 16) (b : Fin 2) : Memref sig .scVector .hbm S1x128 .i32 := (iV).slice (iR s b) (fun _ => rfl)
def oH (s : Fin 16) (b : Fin 2) : Memref sig .scVector .hbm S128x128 .f32 := (oV).slice (oR s b) (fun _ => rfl)
/-- The table, all of it. -/
def tA : Memref sig .scVector .hbm S1024x128 .f32 := (tV).slice (Rect.unit (s := S1024x128) ![0, 0] S1024x128.size inb_S1024x128_S1024x128_0_0) (fun _ => rfl)
/-- Slot `b` of the staged indices, and of the staged rows. -/
abbrev sR (b : Fin 2) : Rect S2x1x128 := Rect.unit (s := S2x1x128) ![b.val, 0, 0] S1x1x128.size (inb_s b)
abbrev rR (b : Fin 2) : Rect S2x128x128 := Rect.unit (s := S2x128x128) ![b.val, 0, 0] S1x128x128.size (inb_r b)
def sS (b : Fin 2) : Memref sig .scVector .vmem S1x128 .i32 := ((sV).slice (sR b) (fun _ => rfl)).squeeze S1x128 squeezes_S1x1x128_S1x128
def rS (b : Fin 2) : Memref sig .scVector .vmem S128x128 .f32 := ((rV).slice (rR b) (fun _ => rfl)).squeeze S128x128 squeezes_S1x128x128_S128x128
/-- Slot `b`'s indices as the list the gather reads. -/
def sL (b : Fin 2) : Memref sig .scVector .vmem S128 .i32 :=
  ((sS b).slice (Rect.unit (s := S1x128) ![0, 0] S1x128.size inb_S1x128_S1x128_0_0) (fun _ => rfl)).squeeze S128 squeezes_S1x128_S128

/-- The semaphores of the two input slots, of the two output slots, and of the gather. -/
def mI (b : Fin 2) : DmaSem sig := ((cc1_scoped1.slice (Rect.unit (s := S2) ![b.val] S1.size (inb_m b))).squeeze S_ squeezes_S1_S_).sem
def mO (b : Fin 2) : DmaSem sig := ((cc1_scoped3.slice (Rect.unit (s := S2) ![b.val] S1.size (inb_m b))).squeeze S_ squeezes_S1_S_).sem
def mG : DmaSem sig := cc1_scoped4.sem

/-! ### Each window the kernel cuts is one of these -/

theorem iH_of {s : Fin 16} {b : Fin 2} {o : Fin 2 → ℕ} (h : o = ![0, blk s b]) (p : ∀ a, o a + S1x128.size a ≤ S1x4096.size a)
    (q : ∀ a, (Rect.unit (s := S1x4096) o S1x128.size p).stride a = 1) :
    (iV).slice (Rect.unit (s := S1x4096) o S1x128.size p) q = iH s b := by subst h; rfl
theorem oH_of {s : Fin 16} {b : Fin 2} {o : Fin 2 → ℕ} (h : o = ![blk s b, 0]) (p : ∀ a, o a + S128x128.size a ≤ S4096x128.size a)
    (q : ∀ a, (Rect.unit (s := S4096x128) o S128x128.size p).stride a = 1) :
    (oV).slice (Rect.unit (s := S4096x128) o S128x128.size p) q = oH s b := by subst h; rfl
theorem sS_of {b : Fin 2} {o : Fin 3 → ℕ} (h : o = ![b.val, 0, 0]) (p : ∀ a, o a + S1x1x128.size a ≤ S2x1x128.size a)
    (q : ∀ a, (Rect.unit (s := S2x1x128) o S1x1x128.size p).stride a = 1) :
    ((sV).slice (Rect.unit (s := S2x1x128) o S1x1x128.size p) q).squeeze S1x128 squeezes_S1x1x128_S1x128 = sS b := by subst h; rfl
theorem rS_of {b : Fin 2} {o : Fin 3 → ℕ} (h : o = ![b.val, 0, 0]) (p : ∀ a, o a + S1x128x128.size a ≤ S2x128x128.size a)
    (q : ∀ a, (Rect.unit (s := S2x128x128) o S1x128x128.size p).stride a = 1) :
    ((rV).slice (Rect.unit (s := S2x128x128) o S1x128x128.size p) q).squeeze S128x128 squeezes_S1x128x128_S128x128 = rS b := by subst h; rfl
theorem mI_of {b : Fin 2} {o : Fin 1 → ℕ} (h : o = ![b.val]) (p : ∀ a, o a + S1.size a ≤ S2.size a) :
    ((cc1_scoped1.slice (Rect.unit (s := S2) o S1.size p)).squeeze S_ squeezes_S1_S_).sem = mI b := by subst h; rfl
theorem mO_of {b : Fin 2} {o : Fin 1 → ℕ} (h : o = ![b.val]) (p : ∀ a, o a + S1.size a ≤ S2.size a) :
    ((cc1_scoped3.slice (Rect.unit (s := S2) o S1.size p)).squeeze S_ squeezes_S1_S_).sem = mO b := by subst h; rfl

end Cert.Proof.WholeTile
-- ==== Proof.WholeTile.lean ====
/-
  The gather kernel's task on one vector subcore, `(c, s)`: two blocks of 128 indices are staged in from the list, for each the
  table's rows they name are gathered into a slot of the staged rows, and the slot goes out to the output's block. Both
  SparseCores' subcores `s` run the same two blocks and write the SAME output rows, of the same values: so the output is held
  in WRITE MODE (`Lib/WriteMode.lean`), each core having a half share of a row that is to become the row gathered.
-/
module

public import proofs.«01_k».proof.Proof.WholeWords

@[expose] public section

noncomputable section

namespace Cert.Proof.WholeTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, the TensorCore pipeline's, write mode, the transfers' counters -/

abbrev UH : Type := URounds (GSem nD τ sig) ℕ
variable (F) in
abbrev UU : Type := UH × (UR sig nD τ × (WmRA nD τ sig (Elt F) × Counters))

local notation "𝕄" => MT nD τ sig (HIx 1) (Elt F) ℕ (UU F) ℕ

abbrev EH : Emb UH (MT nD τ sig (HIx 1) (Elt F) ℕ (UU F) ℕ) := embL
/-- The pipeline's place in it. -/
def EP : Emb (UR sig nD τ) (MT nD τ sig (HIx 1) (Elt F) ℕ (UU F) ℕ) :=
  (Emb.inl : Emb (UR sig nD τ) (UR sig nD τ × (WmRA nD τ sig (Elt F) × Counters))).trans embR

instance EP_landsIn : (EP (F := F)).LandsIn (upEmb : UEmb _ (MT nD τ sig (HIx 1) (Elt F) ℕ (UU F) ℕ)) := by unfold EP; infer_instance

/-- Write mode's place in it. -/
def wmE : UEmb (WmRA nD τ sig (Elt F)) (UU F) := UEmb.inl.trans (UEmb.inr.trans UEmb.inr)

/-- Write mode's invariant, at some name. -/
def wm : sProp 𝕄 := iprop(∃ ιwm : ℕ, wmInv (Ix := HIx 1) (Lvl := ℕ) (wmE (F := F)) ιwm)

instance wm_persistent : BI.Persistent (wm (F := F)) := by unfold wm; infer_instance

/-- Elements `I` of a buffer in write mode: they held `f`, they are to become `g`, and those of `W` have been written. -/
abbrev becomes (ℓ : Loc nD τ sig) (I : Finset (Idx ℓ)) (q : PosShare TreeShare) (f g : Buf (Elt F) ℓ) (W : Finset (Idx ℓ)) : sProp 𝕄 :=
  willBeTo (Ix := HIx 1) (Name := ℕ) (Lvl := ℕ) (wmE (F := F)) ℓ I q f (fun i => some (g i)) W

section Out

variable [FloatOps F] {Λ : Labels} {defs : Defs nD τ sig (Elt F) Λ} (𝒱' : Variants) (c : Thread nD τ) (bd : Option 𝒱'.V)

/-- A local transfer whose destination is held in write mode and takes what its elements are to become: the destination comes
    back at its wait with its elements marked written. -/
theorem wp_dmaBecomes {α : Type} {Q : α → sProp 𝕄} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    {S : Finset (Idx (dst.view.loc c))} {qd : PosShare TreeShare} {f g : Buf (Elt F) (dst.view.loc c)} {W : Finset (Idx (dst.view.loc c))}
    (N : ℕ) (hN : dst.view.amount sm = N) (hN0 : 0 < N) (hS : dst.view.set ⊆ S)
    (hw : dst.view.Admitted (Elt F) (fun i => some (g i)) (src.view.read (Elt F) fs) Finset.univ) :
    iprop(wm ∗ (src.view.loc c ↦[src.view.set]{q} fs) ∗ becomes (dst.view.loc c) S qd f g W ∗ semVal (c, sm) 0)
      ⊢ iprop((Transfers.Flight countersEmb c sm (default : HIx 1) N
                iprop(becomes (dst.view.loc c) S qd f g (W ∪ dst.view.set) ∗ (src.view.loc c ↦[src.view.set]{q} fs))
              -∗ wp frame (wpE defs 𝒱' c bd) Set.univ (k ⟨⟩) Q)
          -∗ wp frame (wpE defs 𝒱' c bd) Set.univ (.op (.enqueueDma src (.here dst) sm hsrc hdst hsem) k) Q) := by
  unfold wm
  iintro ⟨⟨%ιwm, #Hwm⟩, Hs, Hd, Hv⟩ Hk
  imod (Transfers.flight_alloc countersEmb hN0 iprop(becomes (dst.view.loc c) S qd f g (W ∪ dst.view.set)
      ∗ (src.view.loc c ↦[src.view.set]{q} fs)) (g := (c, sm))) $$ Hv with ⟨%γ, %δ, %κ, #Hinv, Hγ, Hδ⟩
  iapply (wp_enqueueDma 𝒱' c bd Set.univ (default : HIx 1) N hN) $$ [Hs Hd] [Hγ]
  · isplitl [Hs]; · iexact Hs
    iapply (willBeTo_writeUpdate (emb := wmE (F := F)) (ιwm := ιwm) c hS hw)
    isplitr; · iexact Hwm
    iexact Hd
  · iapply (Transfers.flight_creditUpdate countersEmb (δ := δ))
    isplitr; · iexact Hinv
    iexact Hγ
  iintro Hcred
  iapply Hk
  iapply (Transfers.flight_intro countersEmb c (κ := κ))
  isplitr; · iexact Hinv
  isplitl [Hδ] <;> iassumption

end Out

/-! ## What the task leaves -/

section Values

/-- The table's row that the list names at output row `r`, as an index of the table. -/
def rowAt (fi : S1x4096.Idx → Elt F .i32) (x : S4096x128.Idx) : S1024x128.Idx := fun a => match a with
  | ⟨0, _⟩ => Fin.ofNat 1024 (show BitVec 32 from fi (fun b => match b with | ⟨0, _⟩ => (0 : Fin 1) | ⟨1, _⟩ => x 0)).toNat
  | ⟨1, _⟩ => x 1

/-- The rows gathered: output row `r` is the table's row the list names at `r`. -/
def gathered (ft : S1024x128.Idx → Elt F .f32) (fi : S1x4096.Idx → Elt F .i32) : S4096x128.Idx → Elt F .f32 :=
  fun x => ft (rowAt fi x)

end Values

section Task

variable [FloatOps F] (d : Dev nD) (L : grid1.Coords)

local notation "tV" => (Memref.whole Cert.KernelIdeal.main_v5_scv : Memref Cert.KernelIdeal.sig Kind.scVector Space.hbm Cert.KernelIdeal.S1024x128 EltTy.f32)
local notation "iV" => (Memref.whole Cert.KernelIdeal.main_v6_scv : Memref Cert.KernelIdeal.sig Kind.scVector Space.hbm Cert.KernelIdeal.S1x4096 EltTy.i32)
local notation "oV" => (Memref.whole Cert.KernelIdeal.main_v7_scv : Memref Cert.KernelIdeal.sig Kind.scVector Space.hbm Cert.KernelIdeal.S4096x128 EltTy.f32)
local notation "sV" => (Memref.whole Cert.KernelIdeal.cc1_scoped0 : Memref Cert.KernelIdeal.sig Kind.scVector Space.vmem Cert.KernelIdeal.S2x1x128 EltTy.i32)
local notation "rV" => (Memref.whole Cert.KernelIdeal.cc1_scoped2 : Memref Cert.KernelIdeal.sig Kind.scVector Space.vmem Cert.KernelIdeal.S2x128x128 EltTy.f32)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- The subcore's number. -/
abbrev sub (L : grid1.Coords) : Fin 16 := L 1

/-- A list all of whose words name rows of the table. -/
def Named (fi : S1x4096.Idx → Elt F .i32) : Prop := ∀ x, (show BitVec 32 from fi x).toNat < 1024

variable (q : PosShare TreeShare) (qo : PosShare TreeShare)
variable (ft : S1024x128.Idx → Elt F .f32) (fi : S1x4096.Idx → Elt F .i32) (fo : S4096x128.Idx → Elt F .f32)

abbrev tPt : sProp 𝕄 := (tA).view.loc (thr d L) ↦[(tA).view.set]{q} ft
abbrev iPt (b : Fin 2) : sProp 𝕄 := (iH (sub L) b).view.loc (thr d L) ↦[(iH (sub L) b).view.set]{q} fi
abbrev oPt (b : Fin 2) (W : Finset S4096x128.Idx) : sProp 𝕄 :=
  becomes ((oH (sub L) b).view.loc (thr d L)) (oH (sub L) b).view.set qo fo (gathered ft fi) W
abbrev sPt (b : Fin 2) (f : S2x1x128.Idx → Elt F .i32) : sProp 𝕄 := (sS b).view.loc (thr d L) ↦[(sS b).view.set]{fullShare} f
abbrev rPt (b : Fin 2) (f : S2x128x128.Idx → Elt F .f32) : sProp 𝕄 := (rS b).view.loc (thr d L) ↦[(rS b).view.set]{fullShare} f
abbrev free (sm : DmaSem sig) : sProp 𝕄 := semVal (thr d L, .dma sm) 0

/-! ### The values that move -/

omit [FloatOps F] in
/-- The list the gather reads is a staged slot's elements. -/
theorem set_sL (b : Fin 2) : (sL b).view.set = (sS b).view.set := by
  show (((sS b).view.slice (Rect.unit (s := S1x128) ![0, 0] S1x128.size inb_S1x128_S1x128_0_0)).reshape S128 squeezes_S1x128_S128.numel_eq).set = _
  rw [View.set_reshape, View.set_slice, Rect.set_eq_univ_of_whole _ (by decide +kernel)]
  rfl

/-- Where position `x` of that list sits in the staged slot. -/
def slotAt (x : S128.Idx) : S1x128.Idx :=
  (Rect.unit (s := S1x128) ![0, 0] S1x128.size inb_S1x128_S1x128_0_0).emb (Shape.reshapeEquiv squeezes_S1x128_S128.numel_eq x)

theorem slotAt_one : ∀ x : S128.Idx, (slotAt x 1).val = (x 0).val := by decide +kernel

omit [FloatOps F] in
theorem emb_sL (b : Fin 2) (x : S128.Idx) : (sL b).view.emb x = (sS b).view.emb (slotAt x) := rfl

omit [FloatOps F] in
/-- What the gather reads of a staged slot is the list's block. -/
theorem read_sL (s : Fin 16) (b : Fin 2) (fs : S2x1x128.Idx → Elt F .i32) (fi : S1x4096.Idx → Elt F .i32) (x : S128.Idx) :
    (sL b).view.read (Elt F) ((sS b).view.write (Elt F) fs ((iH s b).view.read (Elt F) fi) Finset.univ) x
      = fi ((iR s b).emb (slotAt x)) := by
  have h := congrFun (View.read_write_univ (Val := Elt F) (v := (sS b).view) fs ((iH s b).view.read (Elt F) fi)) (slotAt x)
  exact h

omit [FloatOps F] in
theorem iR_emb (s : Fin 16) (b : Fin 2) (y : S1x128.Idx) : ((iR s b).emb y 1).val = blk s b + (y 1).val := by
  have h := (iR s b).emb_apply y 1
  simpa using h

omit [FloatOps F] in
theorem oR_emb_zero (s : Fin 16) (b : Fin 2) (y : S128x128.Idx) : ((oR s b).emb y 0).val = blk s b + (y 0).val := by
  have h := (oR s b).emb_apply y 0
  simpa using h

omit [FloatOps F] in
theorem oR_emb_one (s : Fin 16) (b : Fin 2) (y : S128x128.Idx) : ((oR s b).emb y 1).val = (y 1).val := by
  have h := (oR s b).emb_apply y 1
  simpa using h

variable {ft fi} in
omit [FloatOps F] in
/-- The staged indices name rows of the table, as the list's do. -/
theorem staged_lt (hfi : Named fi) (s : Fin 16) (b : Fin 2) (fs : S2x1x128.Idx → Elt F .i32) :
    ∀ x, ((sL b).view.read (Elt F) ((sS b).view.write (Elt F) fs ((iH s b).view.read (Elt F) fi) Finset.univ) x).toNat
      < S1024x128.size gathers_S1024x128_S128x128.axis := by
  intro x; rw [read_sL]; exact hfi _

theorem rowMajor_S128 : ∀ k : Fin S128.numel, (S128.rowMajor.symm k 0).val = k.val := by decide +kernel

variable {ft fi} in
omit [FloatOps F] in
/-- What the gather brings a staged slot is what the output's block is to become. -/
theorem payload_eq (hfi : Named fi) (s : Fin 16) (b : Fin 2) (fs : S2x1x128.Idx → Elt F .i32) (hn : S128.numel = S128x128.size gathers_S1024x128_S128x128.axis')
    (x : S128x128.Idx) :
    SparseCore.gatherPayload gathers_S1024x128_S128x128 ((tA).view.read (Elt F) ft)
        (SparseCore.rows ((sL b).view.read (Elt F) ((sS b).view.write (Elt F) fs ((iH s b).view.read (Elt F) fi) Finset.univ)) hn (staged_lt hfi s b fs)) x
      = (oH s b).view.read (Elt F) (gathered ft fi) x := by
  have h0 : (gathers_S1024x128_S128x128.idx (SparseCore.rows ((sL b).view.read (Elt F) ((sS b).view.write (Elt F) fs ((iH s b).view.read (Elt F) fi) Finset.univ))
      hn (staged_lt hfi s b fs)) x 0).val = (show BitVec 32 from fi ((iR s b).emb (slotAt (S128.rowMajor.symm ((x 0).cast hn.symm))))).toNat := by
    refine (congrArg Fin.val (gathers_S1024x128_S128x128.idx_axis _ x)).trans ?_
    have e := congrArg (fun w : BitVec 32 => w.toNat) (read_sL s b fs fi (S128.rowMajor.symm ((x 0).cast hn.symm)))
    exact e
  have h1 := gathers_S1024x128_S128x128.idx_of_ne (SparseCore.rows ((sL b).view.read (Elt F) ((sS b).view.write (Elt F) fs ((iH s b).view.read (Elt F) fi) Finset.univ))
      hn (staged_lt hfi s b fs)) x 1 (by decide)
  have hl : (iR s b).emb (slotAt (S128.rowMajor.symm ((x 0).cast hn.symm))) = fun a => match a with | ⟨0, _⟩ => (0 : Fin 1) | ⟨1, _⟩ => (oR s b).emb x 0 := by
    funext a
    match a with
    | ⟨0, _⟩ => exact Subsingleton.elim (α := Fin 1) _ _
    | ⟨1, _⟩ =>
      refine Fin.ext ?_
      show ((iR s b).emb (slotAt (S128.rowMajor.symm ((x 0).cast hn.symm))) 1).val = ((oR s b).emb x 0).val
      rw [iR_emb, oR_emb_zero, slotAt_one, rowMajor_S128]; rfl
  show ft _ = ft _
  congr 1
  funext a
  match a with
  | ⟨0, _⟩ =>
    refine Fin.ext ?_
    refine ((Rect.emb_apply _ _ _).trans (?_ : 0 + 1 * _ = _))
    rw [Nat.zero_add, Nat.one_mul]
    refine h0.trans ?_
    rw [hl]
    exact (Nat.mod_eq_of_lt (hfi _)).symm
  | ⟨1, _⟩ =>
    refine Fin.ext ?_
    refine ((Rect.emb_apply _ _ _).trans (?_ : 0 + 1 * _ = _))
    rw [Nat.zero_add, Nat.one_mul]
    refine h1.trans ?_
    exact (oR_emb_one s b x).symm

variable {ft fi} in
omit [FloatOps F] in
theorem admitted (hfi : Named fi) (s : Fin 16) (b : Fin 2) (fs : S2x1x128.Idx → Elt F .i32) (fr : S2x128x128.Idx → Elt F .f32)
    (hn : S128.numel = S128x128.size gathers_S1024x128_S128x128.axis') :
    (oH s b).view.Admitted (Elt F) (fun i => some (gathered ft fi i))
      ((rS b).view.read (Elt F) ((rS b).view.write (Elt F) fr (SparseCore.gatherPayload gathers_S1024x128_S128x128 ((tA).view.read (Elt F) ft)
        (SparseCore.rows ((sL b).view.read (Elt F) ((sS b).view.write (Elt F) fs ((iH s b).view.read (Elt F) fi) Finset.univ)) hn (staged_lt hfi s b fs))) Finset.univ)) Finset.univ := by
  refine View.admitted_some_iff.mpr fun x _ => ?_
  exact (congrFun (View.read_write_univ (Val := Elt F) (v := (rS b).view) fr _) x).trans (payload_eq hfi s b fs hn x)

/-! ### The run -/

theorem retBind {E : Type → Type} {α β : Type} (a : α) (k : α → Prog E β) : (Prog.ret a).bind k = k a := rfl

/-- Before the loop: the first block of the list starts in. -/
theorem part3_wp (fs : S2x1x128.Idx → Elt F .i32) (Q : _ → sProp 𝕄) :
    iprop(iPt d L q fi 0 ∗ sPt d L 0 fs ∗ free d L (mI 0)
        ∗ (Transfers.Flight countersEmb (thr d L) (.dma (mI 0)) (default : HIx 1) (sS 0).view.dmaCredit
              iprop(sPt d L 0 ((sS 0).view.write (Elt F) fs ((iH (sub L) 0).view.read (Elt F) fi) Finset.univ) ∗ iPt d L q fi 0)
            -∗ Q ⟨Scalar.muli (BitVec.ofNat 32 (L 1).val) 2#32, 1#32, 0#32, 0#32, 0#32, 0#32⟩))
      ⊢ wp frame (wpE (defs₀ (F := F)) 𝒱₀ (thr d L) none) Set.univ
          (k1_part3 L tV (Memref.isWhole_whole _) iV (Memref.isWhole_whole _) oV (Memref.isWhole_whole _)
            sV (Memref.isWhole_whole _) cc1_scoped1 rV (Memref.isWhole_whole _) cc1_scoped3 cc1_scoped4) Q := by
  rw [k1_part3_eq_skeleton]; unfold k1_part3_skel
  have e2 : k1_off2 L = ![0, blk (sub L) 0] := k1_off2_eq L
  rw [show Scalar.addi 0#32 1#32 = 1#32 from by decide]
  simp only [mI_of (b := 0) k1_off3_eq, sS_of (b := 0) k1_off1_eq, iH_of e2]
  iintro ⟨Hi, Hs, Hm, HQ⟩
  iapply (Transfers.wp_dmaLocal countersEmb 𝒱₀ (thr d L) none (default : HIx 1) (sS 0).view.dmaCredit rfl (by decide) (Finset.Subset.refl _)) $$ [Hi Hs Hm]
  · isplitl [Hi]; · iexact Hi
    isplitl [Hs]; · iexact Hs
    iexact Hm
  iintro HF
  rw [retBind, wp_pure]
  imodintro
  iapply HQ
  iexact HF

omit [FloatOps F] in
theorem gatherCredit : ∀ (b : Fin 2) (h : S1024x128.Gathers 0 S128x128),
    ∑ j, ((rS b).slice (S128x128.rowRect h.axis' j) (S128x128.stride_rowRect h.axis' j)).view.dmaCredit = (rS b).view.dmaCredit := by
  decide

variable {fi} in
/-- One block's transfers: its staged indices arrive, the rows they name are gathered into a slot of the staged rows, and the
    slot starts out to the output. -/
theorem mid_wp (hfi : Named fi) (b : Fin 2) (fs : S2x1x128.Idx → Elt F .i32) (fr : S2x128x128.Idx → Elt F .f32) (Wo : Finset S4096x128.Idx)
    (O : CellTallies nD τ sig (HIx 1)) (W : Waits sig (HIx 1)) {α : Type} (Q : α → sProp 𝕄)
    (k : Prog (TpuEff nD τ sig (Elt F) Λ₀ (thr d L).2) α)
    (h1 : (iH (sub L) b).view.WordExact) (h2 : (sS b).view.WordExact) (h3 : (thr d L).2.kind = .scVector) (h4 : S128.numel = S128x128.size gathers_S1024x128_S128x128.axis')
    (h5 : (tA).view.WordExact) (h6 : EltTy.f32.bits = 32) (h7 : Space.hbm = .hbm ∨ Space.hbm = .shared) (h8 : S1024x128.StreamRows 0) (h9 : (tA).view.WordExact)
    (h10 : (rS b).view.WordExact) (h11 : (rS b).view.WordExact) (h12 : (oH (sub L) b).view.WordExact) (h13 : DmaTarget.Typed (nD := nD) (p := (thr d L).2) .vmem (.dma (mO b)) (.here (oH (sub L) b))) :
    iprop(Transfers.MayWaits (thr d L) (none : HIx 1) O
        ∗ Transfers.Flight countersEmb (thr d L) (.dma (mI b)) (default : HIx 1) (sS b).view.dmaCredit
              iprop(sPt d L b ((sS b).view.write (Elt F) fs ((iH (sub L) b).view.read (Elt F) fi) Finset.univ) ∗ iPt d L q fi b)
        ∗ tPt d L q ft ∗ rPt d L b fr ∗ free d L mG ∗ wm ∗ oPt d L qo ft fi fo b Wo ∗ free d L (mO b) ∗ owes (thr d L) O W
        ∗ ((iPt d L q fi b ∗ (∃ f, sPt d L b f) ∗ free d L (mI b) ∗ tPt d L q ft ∗ free d L mG
            ∗ (∃ f, Transfers.Flight countersEmb (thr d L) (.dma (mO b)) (default : HIx 1) (oH (sub L) b).view.dmaCredit
                iprop(oPt d L qo ft fi fo b (Wo ∪ (oH (sub L) b).view.set) ∗ rPt d L b f))
            ∗ owes (thr d L) O (insert (SemLoc.dma mG, (default : HIx 1)) (insert (SemLoc.dma (mI b), (default : HIx 1)) W)))
          -∗ wp frame (wpE (defs₀ (F := F)) 𝒱₀ (thr d L) none) Set.univ k Q))
      ⊢ wp frame (wpE (defs₀ (F := F)) 𝒱₀ (thr d L) none) Set.univ
          (do
            Prog.lift (TpuEff.waitDma2 (mI b) (iH (sub L) b) (sS b) h1 h2)
            SparseCore.enqueueIndirectGather h3 tA (rS b) gathers_S1024x128_S128x128 (sL b) h4 mG h5 h6 h7 h8
            SparseCore.waitIndirectGather mG tA (rS b) h9 h10
            Prog.lift (TpuEff.enqueueDma (rS b) (DmaTarget.here (oH (sub L) b)) (SemLoc.dma (mO b)) h11 h12 h13)
            k) Q := by
  iintro ⟨#Hmw, HI, Ht, Hr, HG, #Hwm, Ho, Hmo, HO, Hk⟩
  iapply (Transfers.wp_waitLocalO countersEmb 𝒱₀ (thr d L) none (default : HIx 1) (rfl : (sS b).view.dmaCredit = _)) $$ [HI HO]
  · isplitl [HI]; · iexact HI
    isplitl [HO]; · iexact HO
    iapply (Transfers.MayWaits.elim (SemLoc.dma (mI b))) $$ Hmw
  iintro ⟨⟨Hs, Hi⟩, Hmi, HO⟩
  rw [retBind]
  ihave Hs' := (Entails.of_eq (show (sPt d L b ((sS b).view.write (Elt F) fs ((iH (sub L) b).view.read (Elt F) fi) Finset.univ) : sProp 𝕄)
      = (sL b).view.loc (thr d L) ↦[(sL b).view.set]{fullShare} ((sS b).view.write (Elt F) fs ((iH (sub L) b).view.read (Elt F) fi) Finset.univ)
      by rw [set_sL]; rfl)) $$ Hs
  iapply (SparseCore.wp_indirectGatherLocal countersEmb 𝒱₀ (thr d L) none (hg := gathers_S1024x128_S128x128) (default : HIx 1)
      (rS b).view.dmaCredit (gatherCredit b _) (by decide) (staged_lt hfi (sub L) b fs)) $$ [Ht Hr Hs' HG]
  · isplitl [Ht]; · iexact Ht
    isplitl [Hr]; · iexact Hr
    isplitl [Hs']; · iexact Hs'
    iexact HG
  iintro HF
  iapply (Transfers.wp_waitLocalO countersEmb 𝒱₀ (thr d L) none (default : HIx 1) (rfl : (rS b).view.dmaCredit = _)) $$ [HF HO]
  · isplitl [HF]; · iexact HF
    isplitl [HO]; · iexact HO
    iapply (Transfers.MayWaits.elim (SemLoc.dma mG)) $$ Hmw
  iintro ⟨⟨Hr, Ht, Hs'⟩, HG, HO⟩
  rw [retBind]
  iapply (wp_dmaBecomes 𝒱₀ (thr d L) none (oH (sub L) b).view.dmaCredit rfl (View.dmaCredit_pos _ (by decide)) (Finset.Subset.refl _)
      (admitted (ft := ft) hfi (sub L) b fs fr h4)) $$ [Hr Ho Hmo]
  · isplitr; · iexact Hwm
    isplitl [Hr]; · iexact Hr
    isplitl [Ho]; · iexact Ho
    iexact Hmo
  iintro HF
  rw [retBind]
  iapply Hk
  isplitl [Hi]; · iexact Hi
  isplitl [Hs']
  · iexists _
    iapply (Entails.of_eq (show ((sL b).view.loc (thr d L) ↦[(sL b).view.set]{fullShare} ((sS b).view.write (Elt F) fs ((iH (sub L) b).view.read (Elt F) fi) Finset.univ) : sProp 𝕄)
      = sPt d L b ((sS b).view.write (Elt F) fs ((iH (sub L) b).view.read (Elt F) fi) Finset.univ) by rw [set_sL]; rfl))
    iexact Hs'
  isplitl [Hmi]; · iexact Hmi
  isplitl [Ht]; · iexact Ht
  isplitl [HG]; · iexact HG
  isplitl [HF]; · iexists _; iexact HF
  iexact HO

/-- A trip of the pipeline's loop. -/
abbrev trip := k1_t1_body (F := F) L tV (Memref.isWhole_whole _) iV (Memref.isWhole_whole _) oV (Memref.isWhole_whole _)
            sV (Memref.isWhole_whole _) cc1_scoped1 rV (Memref.isWhole_whole _) cc1_scoped3 cc1_scoped4
            (Scalar.muli (BitVec.ofNat 32 (L 1).val) 2#32) 1#32 0#32 0#32 0#32 0#32

variable {fi} in
/-- The first trip: the second block of the list starts in, the first block goes through. -/
theorem trip0_wp (hfi : Named fi) (fs fs1 : S2x1x128.Idx → Elt F .i32) (fr : S2x128x128.Idx → Elt F .f32) (Wo : Finset S4096x128.Idx)
    (O : CellTallies nD τ sig (HIx 1)) (W : Waits sig (HIx 1)) (Q : _ → sProp 𝕄) :
    iprop(Transfers.MayWaits (thr d L) (none : HIx 1) O
        ∗ Transfers.Flight countersEmb (thr d L) (.dma (mI 0)) (default : HIx 1) (sS 0).view.dmaCredit
              iprop(sPt d L 0 ((sS 0).view.write (Elt F) fs ((iH (sub L) 0).view.read (Elt F) fi) Finset.univ) ∗ iPt d L q fi 0)
        ∗ iPt d L q fi 1 ∗ sPt d L 1 fs1 ∗ free d L (mI 1)
        ∗ tPt d L q ft ∗ rPt d L 0 fr ∗ free d L mG ∗ wm ∗ oPt d L qo ft fi fo 0 Wo ∗ free d L (mO 0) ∗ owes (thr d L) O W
        ∗ (∀ r : BitVec 32 × BitVec 32 × BitVec 32 × BitVec 32 × BitVec 32, (⌜r = (2#32, 1#32, 1#32, 0#32, 1#32)⌝
            ∗ (iPt d L q fi 0 ∗ (∃ f, sPt d L 0 f) ∗ free d L (mI 0) ∗ tPt d L q ft ∗ free d L mG
            ∗ (∃ f, Transfers.Flight countersEmb (thr d L) (.dma (mO 0)) (default : HIx 1) (oH (sub L) 0).view.dmaCredit
                iprop(oPt d L qo ft fi fo 0 (Wo ∪ (oH (sub L) 0).view.set) ∗ rPt d L 0 f))
            ∗ owes (thr d L) O (insert (SemLoc.dma mG, (default : HIx 1)) (insert (SemLoc.dma (mI 0), (default : HIx 1)) W)))
            ∗ Transfers.Flight countersEmb (thr d L) (.dma (mI 1)) (default : HIx 1) (sS 1).view.dmaCredit
              iprop(sPt d L 1 ((sS 1).view.write (Elt F) fs1 ((iH (sub L) 1).view.read (Elt F) fi) Finset.univ) ∗ iPt d L q fi 1))
          -∗ Q r))
      ⊢ wp frame (wpE (defs₀ (F := F)) 𝒱₀ (thr d L) none) Set.univ (trip L t0 (1#32, 0#32, 0#32, 0#32, 0#32)) Q := by
  unfold trip k1_t1_body
  rw [k1_part1_eq_skeleton, k1_part2_eq_skeleton]; unfold k1_part1_skel k1_part2_skel
  have e5 : k1_off5 L 0#32 = ![0, blk (sub L) 1] := off5_0 L
  have e8 : k1_off8 L 0#32 = ![0, blk (sub L) 0] := off8_0 L
  have e13 : k1_off13 L 0#32 = ![blk (sub L) 0, 0] := off13_0 L
  simp only [dif_pos (cond1_0 L), dif_pos (cond2_0 L), dif_pos (cond5_0 L), dif_neg (cond7_0 L), ite_self, pure_bind, bind_assoc,
    mI_of (b := 1) off6_1, sS_of (b := 1) off4_1, iH_of e5, mI_of (b := 0) off9_0, sS_of (b := 0) off7_0, iH_of e8,
    rS_of (b := 0) off10_0, sS_of (b := 0) off11_0, mO_of (b := 0) off14_0, oH_of e13, rS_of (b := 0) off12_0]
  iintro ⟨#Hmw, HI, Hi, Hs, Hm, Ht, Hr, HG, #Hwm, Ho, Hmo, HO, HQ⟩
  iapply (wp_assume 𝒱₀ (thr d L) none Set.univ chk3_0)
  iapply (wp_assume 𝒱₀ (thr d L) none Set.univ chk2_0)
  iapply (wp_assume 𝒱₀ (thr d L) none Set.univ (chk1_0 L))
  rw [retBind]
  iapply (Transfers.wp_dmaLocal countersEmb 𝒱₀ (thr d L) none (default : HIx 1) (sS 1).view.dmaCredit rfl (by decide) (Finset.Subset.refl _)) $$ [Hi Hs Hm]
  · isplitl [Hi]; · iexact Hi
    isplitl [Hs]; · iexact Hs
    iexact Hm
  iintro HF
  rw [retBind]
  iapply (mid_wp d L q qo ft fo hfi 0 fs fr Wo O W)
  isplitr; · iexact Hmw
  isplitl [HI]; · iexact HI
  isplitl [Ht]; · iexact Ht
  isplitl [Hr]; · iexact Hr
  isplitl [HG]; · iexact HG
  isplitr; · iexact Hwm
  isplitl [Ho]; · iexact Ho
  isplitl [Hmo]; · iexact Hmo
  isplitl [HO]; · iexact HO
  iintro H
  rw [wp_pure]
  imodintro
  iapply HQ
  isplitr; · ipureintro; revert L; decide +kernel
  isplitl [H]; · iexact H
  iexact HF

variable {fi} in
/-- The second trip: the second block goes through, and the first block's output is waited for. -/
theorem trip1_wp (hfi : Named fi) (fs : S2x1x128.Idx → Elt F .i32) (fr : S2x128x128.Idx → Elt F .f32) (Wo : Finset S4096x128.Idx) (D : sProp 𝕄)
    (O : CellTallies nD τ sig (HIx 1)) (W : Waits sig (HIx 1)) (Q : _ → sProp 𝕄) :
    iprop(Transfers.MayWaits (thr d L) (none : HIx 1) O
        ∗ Transfers.Flight countersEmb (thr d L) (.dma (mI 1)) (default : HIx 1) (sS 1).view.dmaCredit
              iprop(sPt d L 1 ((sS 1).view.write (Elt F) fs ((iH (sub L) 1).view.read (Elt F) fi) Finset.univ) ∗ iPt d L q fi 1)
        ∗ Transfers.Flight countersEmb (thr d L) (.dma (mO 0)) (default : HIx 1) (oH (sub L) 0).view.dmaCredit D
        ∗ tPt d L q ft ∗ rPt d L 1 fr ∗ free d L mG ∗ wm ∗ oPt d L qo ft fi fo 1 Wo ∗ free d L (mO 1) ∗ owes (thr d L) O W
        ∗ (∀ r : BitVec 32 × BitVec 32 × BitVec 32 × BitVec 32 × BitVec 32, (⌜r = (2#32, 2#32, 2#32, 1#32, 0#32)⌝
            ∗ iPt d L q fi 1 ∗ (∃ f, sPt d L 1 f) ∗ free d L (mI 1) ∗ tPt d L q ft ∗ free d L mG
            ∗ (∃ f, Transfers.Flight countersEmb (thr d L) (.dma (mO 1)) (default : HIx 1) (oH (sub L) 1).view.dmaCredit
                iprop(oPt d L qo ft fi fo 1 (Wo ∪ (oH (sub L) 1).view.set) ∗ rPt d L 1 f))
            ∗ D ∗ free d L (mO 0)
            ∗ owes (thr d L) O (insert (SemLoc.dma (mO 0), (default : HIx 1)) (insert (SemLoc.dma mG, (default : HIx 1)) (insert (SemLoc.dma (mI 1), (default : HIx 1)) W))))
          -∗ Q r))
      ⊢ wp frame (wpE (defs₀ (F := F)) 𝒱₀ (thr d L) none) Set.univ (trip L t1 (2#32, 1#32, 1#32, 0#32, 1#32)) Q := by
  unfold trip k1_t1_body
  rw [k1_part1_eq_skeleton, k1_part2_eq_skeleton]; unfold k1_part1_skel k1_part2_skel
  have e8 : k1_off8 L 1#32 = ![0, blk (sub L) 1] := off8_1 L
  have e13 : k1_off13 L 1#32 = ![blk (sub L) 1, 0] := off13_1 L
  have e16 : k1_off16 L 1#32 = ![blk (sub L) 0, 0] := off16_1 L
  simp only [dif_neg (cond1_1 L), dif_pos (cond2_1 L), dif_pos (cond5_1 L), dif_pos (cond7_1 L), ite_self, pure_bind, bind_assoc,
    mI_of (b := 1) off9_1, sS_of (b := 1) off7_1, iH_of e8,
    rS_of (b := 1) off10_1, sS_of (b := 1) off11_1, mO_of (b := 1) off14_1, oH_of e13, rS_of (b := 1) off12_1,
    mO_of (b := 0) off17_0, rS_of (b := 0) off15_0, oH_of e16]
  iintro ⟨#Hmw, HI, HOF, Ht, Hr, HG, #Hwm, Ho, Hmo, HO, HQ⟩
  iapply (wp_assume 𝒱₀ (thr d L) none Set.univ chk3_1)
  iapply (wp_assume 𝒱₀ (thr d L) none Set.univ chk2_1)
  iapply (wp_assume 𝒱₀ (thr d L) none Set.univ (chk1_1 L))
  rw [retBind]
  iapply (mid_wp d L q qo ft fo hfi 1 fs fr Wo O W)
  isplitr; · iexact Hmw
  isplitl [HI]; · iexact HI
  isplitl [Ht]; · iexact Ht
  isplitl [Hr]; · iexact Hr
  isplitl [HG]; · iexact HG
  isplitr; · iexact Hwm
  isplitl [Ho]; · iexact Ho
  isplitl [Hmo]; · iexact Hmo
  isplitl [HO]; · iexact HO
  iintro ⟨Hi, Hs, Hmi, Ht, HG, HF, HO⟩
  iapply (Transfers.wp_waitLocalO countersEmb 𝒱₀ (thr d L) none (default : HIx 1) (rfl : (oH (sub L) 0).view.dmaCredit = _)) $$ [HOF HO]
  · isplitl [HOF]; · iexact HOF
    isplitl [HO]; · iexact HO
    iapply (Transfers.MayWaits.elim (SemLoc.dma (mO 0))) $$ Hmw
  iintro ⟨HD, Hmo0, HO⟩
  rw [retBind, wp_pure]
  imodintro
  iapply HQ
  isplitr; · ipureintro; revert L; decide +kernel
  isplitl [Hi]; · iexact Hi
  isplitl [Hs]; · iexact Hs
  isplitl [Hmi]; · iexact Hmi
  isplitl [Ht]; · iexact Ht
  isplitl [HG]; · iexact HG
  isplitl [HF]; · iexact HF
  isplitl [HD]; · iexact HD
  isplitl [Hmo0]; · iexact Hmo0
  iexact HO

variable {fi} in
/-- The task: both blocks' rows are gathered and written. -/
theorem task_wp (hfi : Named fi) (fs0 fs1 : S2x1x128.Idx → Elt F .i32) (fr0 fr1 : S2x128x128.Idx → Elt F .f32)
    (O : CellTallies nD τ sig (HIx 1)) (W : Waits sig (HIx 1)) (Q : PUnit → sProp 𝕄) :
    iprop(Transfers.MayWaits (thr d L) (none : HIx 1) O ∗ wm
        ∗ iPt d L q fi 0 ∗ iPt d L q fi 1 ∗ tPt d L q ft
        ∗ sPt d L 0 fs0 ∗ sPt d L 1 fs1 ∗ rPt d L 0 fr0 ∗ rPt d L 1 fr1
        ∗ free d L (mI 0) ∗ free d L (mI 1) ∗ free d L (mO 0) ∗ free d L (mO 1) ∗ free d L mG
        ∗ oPt d L qo ft fi fo 0 ∅ ∗ oPt d L qo ft fi fo 1 ∅ ∗ owes (thr d L) O W
        ∗ ((iPt d L q fi 0 ∗ iPt d L q fi 1 ∗ tPt d L q ft
            ∗ (∃ f, sPt d L 0 f) ∗ (∃ f, sPt d L 1 f) ∗ (∃ f, rPt d L 0 f) ∗ (∃ f, rPt d L 1 f)
            ∗ free d L (mI 0) ∗ free d L (mI 1) ∗ free d L (mO 0) ∗ free d L (mO 1) ∗ free d L mG
            ∗ oPt d L qo ft fi fo 0 (∅ ∪ (oH (sub L) 0).view.set) ∗ oPt d L qo ft fi fo 1 (∅ ∪ (oH (sub L) 1).view.set)
            ∗ (∃ W', ⌜∀ p ∈ W', p ∈ W ∨ p.2 = none⌝ ∗ owes (thr d L) O W'))
          -∗ Q ⟨⟩))
      ⊢ wp frame (wpE (defs₀ (F := F)) 𝒱₀ (thr d L) none) Set.univ
          (cc1_gather_kernel L tV (Memref.isWhole_whole _) iV (Memref.isWhole_whole _) oV (Memref.isWhole_whole _)
            sV (Memref.isWhole_whole _) cc1_scoped1 rV (Memref.isWhole_whole _) cc1_scoped3 cc1_scoped4) Q := by
  rw [cc1_gather_kernel_eq_skeleton]; unfold cc1_gather_kernel_skel
  iintro ⟨#Hmw, #Hwm, Hi0, Hi1, Ht, Hs0, Hs1, Hr0, Hr1, Hmi0, Hmi1, Hmo0, Hmo1, Hmg, Ho0, Ho1, HO, HQ⟩
  rw [wp_bind]
  iapply (part3_wp d L q fi fs0)
  isplitl [Hi0]; · iexact Hi0
  isplitl [Hs0]; · iexact Hs0
  isplitl [Hmi0]; · iexact Hmi0
  iintro HI0
  dsimp only
  rw [k1_part4_eq_skeleton]; unfold k1_part4_skel
  simp only [bind_assoc]
  unfold Scf.Loop.for
  rw [wp_bind, Scf.for_eq, finRange_trips, Scf.forFrom_cons, wp_bind]
  iapply (trip0_wp d L q qo ft fo hfi fs0 fs1 fr0 ∅ O W)
  isplitr; · iexact Hmw
  isplitl [HI0]; · iexact HI0
  isplitl [Hi1]; · iexact Hi1
  isplitl [Hs1]; · iexact Hs1
  isplitl [Hmi1]; · iexact Hmi1
  isplitl [Ht]; · iexact Ht
  isplitl [Hr0]; · iexact Hr0
  isplitl [Hmg]; · iexact Hmg
  isplitr; · iexact Hwm
  isplitl [Ho0]; · iexact Ho0
  isplitl [Hmo0]; · iexact Hmo0
  isplitl [HO]; · iexact HO
  iintro %r ⟨%hr, ⟨Hi0, Hs0, Hmi0, Ht, Hmg, ⟨%f0, HO0⟩, HO⟩, HI1⟩
  subst hr
  rw [Scf.forFrom_cons, wp_bind]
  iapply (trip1_wp d L q qo ft fo hfi fs1 fr1 ∅ _ O _)
  isplitr; · iexact Hmw
  isplitl [HI1]; · iexact HI1
  isplitl [HO0]; · iexact HO0
  isplitl [Ht]; · iexact Ht
  isplitl [Hr1]; · iexact Hr1
  isplitl [Hmg]; · iexact Hmg
  isplitr; · iexact Hwm
  isplitl [Ho1]; · iexact Ho1
  isplitl [Hmo1]; · iexact Hmo1
  isplitl [HO]; · iexact HO
  iintro %r ⟨%hr, Hi1, Hs1, Hmi1, Ht, Hmg, ⟨%f1, HO1⟩, ⟨Ho0, Hr0⟩, Hmo0, HO⟩
  subst hr
  rw [Scf.forFrom_nil, wp_ret]
  imodintro
  dsimp only
  iapply (wp_assume 𝒱₀ (thr d L) none Set.univ (chk5_0 L))
  iapply (wp_assume 𝒱₀ (thr d L) none Set.univ chk4_1)
  have e19 : k1_off19 L 0#32 = ![blk (sub L) 1, 0] := off19_0 L
  simp only [retBind, pure_bind, mO_of (b := 1) off20_1, rS_of (b := 1) off21_1, oH_of e19]
  iapply (Transfers.wp_waitLocalO countersEmb 𝒱₀ (thr d L) none (default : HIx 1) (rfl : (oH (sub L) 1).view.dmaCredit = _)) $$ [HO1 HO]
  · isplitl [HO1]; · iexact HO1
    isplitl [HO]; · iexact HO
    iapply (Transfers.MayWaits.elim (SemLoc.dma (mO 1))) $$ Hmw
  iintro ⟨⟨Ho1, Hr1⟩, Hmo1, HO⟩
  rw [retBind, wp_pure]
  imodintro
  iapply HQ
  isplitl [Hi0]; · iexact Hi0
  isplitl [Hi1]; · iexact Hi1
  isplitl [Ht]; · iexact Ht
  isplitl [Hs0]; · iexact Hs0
  isplitl [Hs1]; · iexact Hs1
  isplitl [Hr0]; · iexists _; iexact Hr0
  isplitl [Hr1]; · iexists _; iexact Hr1
  isplitl [Hmi0]; · iexact Hmi0
  isplitl [Hmi1]; · iexact Hmi1
  isplitl [Hmo0]; · iexact Hmo0
  isplitl [Hmo1]; · iexact Hmo1
  isplitl [Hmg]; · iexact Hmg
  isplitl [Ho0]; · iexact Ho0
  isplitl [Ho1]; · iexact Ho1
  iexists _
  isplitr
  swap
  · iexact HO
  ipureintro
  intro p hp
  iterate 6
    rcases Finset.mem_insert.mp hp with hp | hp
    · exact Or.inr (hp ▸ rfl)
  exact Or.inl hp

end Task

end Cert.Proof.WholeTile
-- ==== Proof.WholeBody.lean ====
/-
  The assignment kernel's body at one block of 1024 points, run: the three inputs' buffers are left as they were, the fourth is left
  at the block's nearest centroids, the fifth at its running loss with the block's added. The loss starts from zero at the first block.
-/
module

public import proofs.«01_k».proof.Proof.WholeTile
public import proofs.«01_k».proof.Proof.Gen.KernelIdeal.Launch
public import proofs.«01_k».proof.Proof.Gen.KernelIdeal.Points
public import Idealize.ShloMosaic.Lib.VecWindow

@[expose] public section

set_option maxRecDepth 4096

noncomputable section

namespace Cert.Proof.WholeBody

open Cert.KernelIdeal Cert.KernelIdeal.Gen
open Cert.Proof.WholeTile

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

/-! ## What the body computes -/

section Values

variable [FloatOps F] (x0 : Vec F S32x1024 .f32) (x2 : Vec F S1024x32 .f32) (x3 : Vec F S32x1024 .f32)

/-- The row numbers 0 … 1023 down a column. -/
abbrev rows : IVec S1024x1024 32 := iota .tc S1024x1024 32 [0] iota_S1024x1024_d0_w32
/-- The three candidates: the nearest centroid by the matrix product, the next, and the one after. -/
abbrev cand0 : IVec S1x1024 32 := k0_pay7 x0 x2
abbrev cand1 : IVec S1x1024 32 := k0_pay9 x0 x2
abbrev cand2 : IVec S1x1024 32 := k0_pay11 rows (k0_pay10 x0 x2) 1024#32
/-- The first candidate's distance, by direct differences. -/
abbrev dist0 : FVec F S1x1024 .f32 :=
  k0_pay14 (k0_pay12 (k0_pay3 x0) (k0_pay4 x3) rows (cand0 x0 x2)) (k0_pay13 (k0_pay3 x0) (k0_pay4 x3) rows (cand0 x0 x2))
/-- The better of the first two candidates: its distance and its index. -/
abbrev best1 : FVec F S1x1024 .f32 :=
  k0_pay24 (cand0 x0 x2) (cand1 x0 x2) (dist0 x0 x2 x3) (k0_pay15 (k0_pay3 x0) (k0_pay4 x3) rows (cand1 x0 x2))
    (k0_pay16 (k0_pay3 x0) (k0_pay4 x3) rows (cand1 x0 x2)) (k0_pay17 (k0_pay3 x0) (k0_pay4 x3) rows (cand1 x0 x2))
    (k0_pay18 (k0_pay3 x0) (k0_pay4 x3) rows (cand1 x0 x2)) (k0_pay19 (k0_pay3 x0) (k0_pay4 x3) rows (cand1 x0 x2))
    (k0_pay20 (k0_pay3 x0) (k0_pay4 x3) rows (cand1 x0 x2)) (k0_pay21 (k0_pay3 x0) (k0_pay4 x3) rows (cand1 x0 x2))
abbrev pick1 : IVec S1x1024 32 :=
  k0_pay25 (cand0 x0 x2) (cand1 x0 x2) (dist0 x0 x2 x3) (k0_pay15 (k0_pay3 x0) (k0_pay4 x3) rows (cand1 x0 x2))
    (k0_pay16 (k0_pay3 x0) (k0_pay4 x3) rows (cand1 x0 x2)) (k0_pay17 (k0_pay3 x0) (k0_pay4 x3) rows (cand1 x0 x2))
    (k0_pay18 (k0_pay3 x0) (k0_pay4 x3) rows (cand1 x0 x2)) (k0_pay19 (k0_pay3 x0) (k0_pay4 x3) rows (cand1 x0 x2))
    (k0_pay20 (k0_pay3 x0) (k0_pay4 x3) rows (cand1 x0 x2)) (k0_pay21 (k0_pay3 x0) (k0_pay4 x3) rows (cand1 x0 x2))
/-- The block's assignment. -/
def kIdx : IVec S1x1024 32 :=
  k0_pay31 (cand2 x0 x2) (best1 x0 x2 x3) (pick1 x0 x2 x3) (k0_pay26 (k0_pay3 x0) (k0_pay4 x3) rows (cand2 x0 x2))
    (k0_pay27 (k0_pay3 x0) (k0_pay4 x3) rows (cand2 x0 x2)) (k0_pay28 (k0_pay3 x0) (k0_pay4 x3) rows (cand2 x0 x2))
    (k0_pay29 (k0_pay3 x0) (k0_pay4 x3) rows (cand2 x0 x2)) (k0_pay30 (k0_pay3 x0) (k0_pay4 x3) rows (cand2 x0 x2))
/-- The running loss with the block's added. -/
def kLoss (acc : Vec F S1x1 .f32) : FVec F S1x1 .f32 :=
  k0_pay2 (k0_pay3 x0) (k0_pay5 x0 x2) (k0_pay32 (k0_pay5 x0 x2) (k0_pay6 x0 x2)) (k0_pay33 (k0_pay5 x0 x2) (k0_pay6 x0 x2)) acc

end Values

/-! ## Accesses to a whole buffer -/

section Access

variable {sp : Space} {s : Shape} {e : EltTy} (M : Memref sig .tc sp s e)

theorem read_full {off : Fin s.rank → Nat} (inb : ∀ a, off a + s.size a ≤ s.size a) (f : M.view.ty.Contents (Elt F)) :
    (M.access (Rect.unit off s.size inb)).read (Elt F) f = M.view.read (Elt F) f :=
  funext fun z => congrArg (M.view.read (Elt F) f) (Rect.emb_unit_full inb z)

theorem read_stored {off : Fin s.rank → Nat} (inb : ∀ a, off a + s.size a ≤ s.size a) (f : M.view.ty.Contents (Elt F)) (w : s.Idx → Elt F e) :
    M.view.read (Elt F) ((M.access (Rect.unit off s.size inb)).write (Elt F) f w Finset.univ) = w :=
  (read_full M inb _).symm.trans (View.read_write_univ _ _)

variable [FloatOps F] {α : Type} {Λ : Labels} {defs : Defs nD τ sig (Elt F) Λ} (𝒱' : Variants) (c : Dev nD)

/-- A load of all of a buffer reads what it holds; -/
theorem wp_loadFull {s : Shape} {M : Memref sig .tc .vmem s e} {off : Fin s.rank → Nat} {inb : ∀ a, off a + s.size a ≤ s.size a}
    {hl : M.view.LoadsAt (Rect.unit off s.size inb).toLoadRect}
    {k : (s.Idx → Elt F e) → Prog (TpuEff nD τ sig (Elt F) Λ .tc) α} {X : s.Idx → Elt F e} {Q : α → sProp 𝕄} :
    owns (c : Thread nD τ) M fullShare X
      ⊢ (iprop((owns (c : Thread nD τ) M fullShare X -∗ wp frame (wpE defs 𝒱' (c : Thread nD τ) none) Set.univ (k X) Q)
          -∗ wp frame (wpE defs 𝒱' (c : Thread nD τ) none) Set.univ (.op (.load M (Rect.unit off s.size inb).toLoadRect hl) k) Q) : sProp 𝕄) := by
  unfold owns
  iintro ⟨%f, %hf, H⟩ Hk
  iapply (wp_load_rect 𝒱' (c : Thread nD τ) none Set.univ (m := M) (r := Rect.unit off s.size inb) (S := M.view.set) (f := f) (M.view.set_slice_subset (Rect.unit off s.size inb))) $$ H
  iintro H
  rw [read_full, hf]
  iapply Hk
  iexists f
  isplitr; · ipureintro; exact hf
  iexact H

/-- a store to all of it leaves it at what was stored. -/
theorem wp_storeFull {s : Shape} {M : Memref sig .tc .vmem s e} {off : Fin s.rank → Nat} {inb : ∀ a, off a + s.size a ≤ s.size a}
    {w : s.Idx → Elt F e} {hx : (M.access (Rect.unit off s.size inb)).Stores Finset.univ} {hm : Finset.univ = Finset.univ ∨ ∀ a, (Rect.unit off s.size inb).stride a = 1}
    {k : PUnit → Prog (TpuEff nD τ sig (Elt F) Λ .tc) α} {X : s.Idx → Elt F e} {Q : α → sProp 𝕄} :
    owns (c : Thread nD τ) M fullShare X
      ⊢ (iprop((owns (c : Thread nD τ) M fullShare w -∗ wp frame (wpE defs 𝒱' (c : Thread nD τ) none) Set.univ (k ⟨⟩) Q)
          -∗ wp frame (wpE defs 𝒱' (c : Thread nD τ) none) Set.univ (.op (.store M (Rect.unit off s.size inb) w Finset.univ hx hm) k) Q) : sProp 𝕄) := by
  unfold owns
  iintro ⟨%f, -, H⟩ Hk
  iapply (wp_store 𝒱' (c : Thread nD τ) none Set.univ (m := M) (r := Rect.unit off s.size inb) (S := M.view.set) (f := f) (((M.view.slice (Rect.unit off s.size inb)).setOn_subset_set Finset.univ).trans (M.view.set_slice_subset (Rect.unit off s.size inb)))) $$ H
  iintro H
  iapply Hk
  iexists _
  isplitr; swap; · iexact H
  ipureintro; exact read_stored M inb f w

end Access

/-! ## The run -/

theorem first_iff : ∀ n : Fin 4, Scalar.cmpi .ne (Scalar.extui (Scalar.cmpi .eq (BitVec.ofNat 32 n.val) 0#32)) (0#32 : BitVec 32) = 1#1 ↔ n.val = 0 := by decide

variable [FloatOps F]

theorem body_run (c : Dev nD) (i : grid0.Coords)
    (M1 : Memref sig .tc .vmem S32x1024 .f32) (h1 : M1.IsWhole) (M2 : Memref sig .tc .vmem S1024x32 .f32) (h2 : M2.IsWhole)
    (M3 : Memref sig .tc .vmem S32x1024 .f32) (h3 : M3.IsWhole) (M4 : Memref sig .tc .vmem S1x1024 .i32) (h4 : M4.IsWhole)
    (M5 : Memref sig .tc .vmem S1x1 .f32) (h5 : M5.IsWhole)
    (X1 : S32x1024.Idx → Elt F .f32) (X2 : S1024x32.Idx → Elt F .f32) (X3 : S32x1024.Idx → Elt F .f32) (X4 : S1x1024.Idx → Elt F .i32)
    (X5 : S1x1.Idx → Elt F .f32) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5
        ∗ (iprop(owns (c : Thread nD τ) M1 fullShare X1 ∗ owns (c : Thread nD τ) M2 fullShare X2 ∗ owns (c : Thread nD τ) M3 fullShare X3
            ∗ owns (c : Thread nD τ) M4 fullShare (kIdx X1 X2 X3) ∗ owns (c : Thread nD τ) M5 fullShare (kLoss X1 X2 (if (i 0).val = 0 then k0_pay1 else X5))) -∗ Q ⟨⟩))
      ⊢ wp frame (wpE (defs₀ (F := F)) Variants.none (c : Thread nD τ) none) Set.univ (cc0__tc_body i M1 h1 M2 h2 M3 h3 M4 h4 M5 h5) Q := by
  rw [cc0__tc_body_eq_skeleton]
  unfold cc0__tc_body_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [wp_bind]
  iintro ⟨H1, H2, H3, H4, H5, Hk⟩
  iapply (wp_loadFull Variants.none c) $$ H1
  iintro H1
  rw [wp_ret]; imodintro
  iapply (wp_loadFull Variants.none c) $$ H2
  iintro H2
  rw [wp_ret]; imodintro
  iapply (wp_loadFull Variants.none c) $$ H3
  iintro H3
  rw [wp_ret]; imodintro
  simp only [wp_pure]
  imodintro; imodintro; imodintro; imodintro
  iapply (wp_loadFull Variants.none c) $$ H4
  iintro H4
  rw [wp_ret]; imodintro
  iapply (wp_storeFull Variants.none c) $$ H4
  iintro H4
  rw [wp_ret]; imodintro; imodintro
  by_cases h0 : (i 0).val = 0
  · rw [dif_pos ((first_iff (i 0)).mpr h0), if_pos h0]
    simp only [wp_bind, wp_pure]
    iapply (wp_loadFull Variants.none c) $$ H5
    iintro H5
    rw [wp_ret]; imodintro
    iapply (wp_storeFull Variants.none c) $$ H5
    iintro H5
    rw [wp_ret]; imodintro
    iapply (wp_loadFull Variants.none c) $$ H5
    iintro H5
    rw [wp_ret]; imodintro
    iapply (wp_loadFull Variants.none c) $$ H5
    iintro H5
    rw [wp_ret]; imodintro
    iapply (wp_storeFull Variants.none c) $$ H5
    iintro H5
    rw [wp_ret]; imodintro; imodintro
    iapply Hk
    isplitl [H1]; · iexact H1
    isplitl [H2]; · iexact H2
    isplitl [H3]; · iexact H3
    isplitl [H4]; · iexact H4
    iexact H5
  · rw [dif_neg fun h => h0 ((first_iff (i 0)).mp h), if_neg h0]
    simp only [wp_bind, wp_pure]
    iapply (wp_loadFull Variants.none c) $$ H5
    iintro H5
    rw [wp_ret]; imodintro
    iapply (wp_loadFull Variants.none c) $$ H5
    iintro H5
    rw [wp_ret]; imodintro
    iapply (wp_storeFull Variants.none c) $$ H5
    iintro H5
    rw [wp_ret]; imodintro; imodintro
    iapply Hk
    isplitl [H1]; · iexact H1
    isplitl [H2]; · iexact H2
    isplitl [H3]; · iexact H3
    isplitl [H4]; · iexact H4
    iexact H5

end Cert.Proof.WholeBody
-- ==== Proof.WholeRegion.lean ====
/-
  The assignment call over the TensorCore's thread state: from every array at an entry valuation, its four blocks leave the index row
  and the running loss at the values the body computes block by block, and every other array as it was.
-/
module

public import proofs.«01_k».proof.Proof.WholeBody
public import Idealize.ShloMosaic.Lib.Pipeline.RegionsLoop

@[expose] public section

set_option maxRecDepth 4096

noncomputable section

namespace Cert.Proof.WholeRegion

open Cert.KernelIdeal Cert.KernelIdeal.Gen
open Cert.Proof.WholeTile Cert.Proof.WholeBody

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ (UU F) ℕ

/-! ## The proof data, at an entry valuation -/

variable (V : (c : Dev nD) → (b : Ref sig .tc) → Buf (Elt F) ((c : Thread nD τ).loc b))

/-- A window's block at a point, read from its array as the region is entered. -/
def iblk (c : Dev nD) (w : Fin 5) (t : Fin cfg0.N) : ((cfg0.win w).xblock (cfg0.grid.coords t)).Idx → Elt F (cfg0.win w).elt :=
  ((cfg0.win w).blk t).view.read (Elt F) (V c (Pipeline.arrRef spec0 w))

/-- The point whose number is `n`. -/
def pt (n : ℕ) : Fin cfg0.N := ⟨n % 4, (Nat.mod_lt _ (by decide)).trans_eq N_0.symm⟩

/-- The running loss after point `n`. -/
def loss (c : Dev nD) : ℕ → Vec F S1x1 .f32
  | 0 => kLoss (iblk V c 0 (pt 0)) (iblk V c 1 (pt 0)) k0_pay1
  | n + 1 => kLoss (iblk V c 0 (pt (n + 1))) (iblk V c 1 (pt (n + 1))) (loss c n)

theorem pt_val (t : Fin cfg0.N) : pt t.val = t := Fin.ext (Nat.mod_eq_of_lt (t.isLt.trans_eq N_0))

theorem loss_eq (c : Dev nD) (t : Fin cfg0.N) :
    loss V c t.val = kLoss (iblk V c 0 t) (iblk V c 1 t) (if t.val = 0 then k0_pay1 else loss V c (t.val - 1)) := by
  obtain ⟨n, hn⟩ := t
  cases n with
  | zero =>
    show kLoss (iblk V c 0 (pt 0)) (iblk V c 1 (pt 0)) k0_pay1 = _
    rw [if_pos rfl, show pt 0 = ⟨0, hn⟩ from pt_val ⟨0, hn⟩]
  | succ n =>
    show kLoss (iblk V c 0 (pt (n + 1))) (iblk V c 1 (pt (n + 1))) (loss V c n) = _
    rw [if_neg (Nat.succ_ne_zero n), show pt (n + 1) = ⟨n + 1, hn⟩ from pt_val ⟨n + 1, hn⟩]; rfl

/-- The data of the call entered from `V`: each input's buffer is left at its block, the index row's at the block's assignment, the
    loss's at the running loss; the core owes what it owes the SparseCores throughout. -/
def dat (c : Dev nD) : Dat τ (Elt F) (HIx 1) ℕ (UU F) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => kIdx (iblk V c 0 t) (iblk V c 1 t) (iblk V c 2 t)
    | ⟨4, _⟩ => loss V c t.val
  Φ _ := Pipeline.scopedRest (Ix := HIx 1) (Name := ℕ) (U := UU F) (Lvl := ℕ) (Val := Elt F) spec0 c
  q _ := fullShare
  owed _ := (K (F := F)).Otc c 0
  recorded _ := {p | (K (F := F)).lev (SparseCore.T c, p.1) p.2 ≤ 0}

variable (adm : (p : Fin 1) → (pcfgs (F := F) p).Adm)

def pdats : (p : Fin 1) → (c : Dev nD) → Dat τ (Elt F) (HIx 1) ℕ (UU F) ℕ (Pipeline.pin (pcfgs (F := F)) adm p) c
  | ⟨0, _⟩ => fun c => dat V c

/-! ## What each buffer holds when the body runs -/

theorem before0 (c : Dev nD) (t : Fin cfg0.N) (d) : (dat V c).before 0 t d = iblk V c 0 t :=
  ((dat V c).before_in_eq_fetched 0 rfl (fun _ => rfl) (fun _ _ _ => rfl) (fun t => rfl) t d).trans rfl
theorem before1 (c : Dev nD) (t : Fin cfg0.N) (d) : (dat V c).before 1 t d = iblk V c 1 t :=
  ((dat V c).before_in_eq_fetched 1 rfl (fun _ => rfl) (fun _ _ _ => rfl) (fun t => rfl) t d).trans rfl
theorem before2 (c : Dev nD) (t : Fin cfg0.N) (d) : (dat V c).before 2 t d = iblk V c 2 t :=
  ((dat V c).before_in_eq_fetched 2 rfl (fun _ => rfl) (fun _ _ _ => rfl) (fun t => rfl) t d).trans rfl

theorem before4 (c : Dev nD) (t : Fin cfg0.N) (ht : t.val ≠ 0) (d) : (dat V c).before 4 t d = loss V c (t.val - 1) :=
  (dat V c).before_out_kept 4 rfl t ht (by
    rw [Bool.eq_false_iff]
    intro h
    have h3 := (flush0_4 _).mp h
    have := t.isLt.trans_eq N_0
    change (t.val - 1) % 4 = 3 at h3
    omega) (fun _ => rfl) (fun _ _ => rfl) d

theorem coords_val (t : Fin cfg0.N) : (grid0.coords t 0).val = t.val := by
  rcases fin_N0 t with rfl | rfl | rfl | rfl <;> rfl

theorem body_obligation (c : Dev nD) : BodyObligation (dat V c) (defs₀ (F := F)) Variants.none none Set.univ := fun t => by
  rw [bigSep_W0, bigSep_W0]
  rw [show (dat V c).owesAt none t.succ = (dat V c).owesAt none t.castSucc from rfl,
    show (dat V c).Φ t.succ = (dat V c).Φ t.castSucc from rfl]
  iintro ⟨HΦ, Howes, ⟨%d0, H0⟩, ⟨%d1, H1⟩, ⟨%d2, H2⟩, ⟨%d3, H3⟩, ⟨%d4, H4⟩⟩
  rw [before0, before1, before2]
  iapply (body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (iblk V c 0 t) (iblk V c 1 t) (iblk V c 2 t) ((dat V c).before 3 t d3) ((dat V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  have hv : kLoss (iblk V c 0 t) (iblk V c 1 t) (if (grid0.coords t 0).val = 0 then k0_pay1 else (dat V c).before 4 t d4) = (dat V c).after 4 t := by
    rw [show (dat V c).after 4 t = loss V c t.val from rfl, loss_eq, coords_val]
    by_cases h0 : t.val = 0
    · rw [if_pos h0, if_pos h0]
    · rw [if_neg h0, if_neg h0, before4 V c t h0]
  rw [← hv]
  iexact H4

/-! ## The call over the thread state -/

/-- The index row's and the loss's arrays after the call. -/
def outIdx (c : Dev nD) : Buf (Elt F) ((c : Thread nD τ).loc main_v2_0) := (dat V c).arrAt 3 cfg0.N
def outLoss (c : Dev nD) : Buf (Elt F) ((c : Thread nD τ).loc main_v2_1) := (dat V c).arrAt 4 cfg0.N

/-- What the core owes the SparseCores, its waits so far at level zero. -/
def owing (c : Dev nD) : sProp 𝕄 :=
  iprop(∃ W, ⌜(K (F := F)).WBelow (SparseCore.T c) W 0⌝ ∗ owes (SparseCore.T c) ((K (F := F)).Otc c 0) W)

theorem otc_none (d : Dev nD) (g : GSem nD τ sig) : (K (F := F)).Otc d 0 g none = 0 := by
  by_contra h
  have := (K (F := F)).lev_of_Otc_pos (Nat.pos_of_ne_zero h)
  rw [(K (F := F)).lev_none] at this
  omega

variable (Vp : (c : Dev nD) → (b : Ref sig .tc) → Buf (Elt F) ((c : Thread nD τ).loc b))

-- the launch's lemmas are stated of the configuration fixed at the admission; they unify with it only by unfolding plain definitions
set_option backward.isDefEq.respectTransparency.types false in
def reg (R : Dev nD → sProp 𝕄) (hVp_i : ∀ c, Vp c main_v2_0 = outIdx V c) (hVp_l : ∀ c, Vp c main_v2_1 = outLoss V c)
    (hVp_ne : ∀ c (b : Ref sig .tc), b ≠ main_v2_0 → b ≠ main_v2_1 → Vp c b = V c b) :
    Pipeline.RegionSeg (pcfgs (F := F)) adm (pdats V adm) none defs₀ Variants.none (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ c fun w s t => (K (F := F)).mayWait_none _ (otc_none c)
  pre c := iprop(unscopedBufs c (V c) ∗ R c ∗ owing c)
  post c := iprop(unscopedBufs c (Vp c) ∗ R c ∗ owing c)
  X _ := BI.emp
  Y _ := BI.emp
  Z c := iprop(Pipeline.unscopedRest (Ix := HIx 1) (Name := ℕ) (U := UU F) (Lvl := ℕ) spec0 c (V c) ∗ R c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owing
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU F) (Lvl := ℕ) (launch0).win (launch0).arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_v0 (by decide) (by decide)).symm
        · exact ((pdats V adm 0 c).arrAt_in 1 rfl _).trans (hVp_ne c main_arg1 (by decide) (by decide)).symm
        · exact ((pdats V adm 0 c).arrAt_in 2 rfl _).trans (hVp_ne c main_v1 (by decide) (by decide)).symm
        · exact (hVp_i c).symm
        · exact (hVp_l c).symm)
      (fun b hb => hVp_ne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owing
    icases HO with ⟨%W, %hW, HO⟩; iexists W
    isplitr
    · ipureintro
      intro p hp
      rcases hW hp with h | ⟨w, s, rfl⟩
      · exact h
      · exact le_of_eq ((K (F := F)).lev_none _)
    iexact HO

/-! ## The call's program, at the top -/

/-- The call by itself. -/
abbrev tcCall : Prog (TpuEff nD τ sig (Elt F) (ΛP (F := F)) .tc) PUnit := .op (.customCall (Pipeline.entry 0) ()) .ret

theorem lift_tcCall : (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
    = SparseCore.liftProg (Q := 1) (tcCall (F := F)) := by
  unfold tcCall
  rw [SparseCore.liftProg_op]; rfl

theorem wp_lifted (d : Dev nD) (Q : PUnit → sProp 𝕄) :
    wp frame (wpE (D (F := F)) 𝒱 (SparseCore.T d) none) Set.univ tcCall Q ⊢
       wp frame (wpE ((K (F := F)).defs (D (F := F))) 𝒱 (SparseCore.T d) none) Set.univ
          (Prog.lift (.customCall (SparseCore.inner (Pipeline.entry 0)) ())) Q := by
  rw [lift_tcCall]
  exact (K (F := F)).wp_liftProg (D (F := F)) 𝒱 (SparseCore.T d) Set.univ none tcCall Q

/-- The call takes no tables: its admission is trivial. -/
abbrev adm₀ : (p : Fin 1) → (pcfgs (F := F) p).Adm := fun p => (cfgs p).toPCfg_adm

theorem wp_call [∀ e, Nonempty (Elt F e)] (d : Dev nD) (hVp_i : ∀ c, Vp c main_v2_0 = outIdx V c) (hVp_l : ∀ c, Vp c main_v2_1 = outLoss V c)
    (hVp_ne : ∀ c (b : Ref sig .tc), b ≠ main_v2_0 → b ≠ main_v2_1 → Vp c b = V c b) (Q : PUnit → sProp 𝕄) :
    (iprop((iprop(boundary (d : Thread nD τ) ∗ unscopedBufs d (Vp d) ∗ BI.emp ∗ owing (F := F) d) -∗ wp frame (wpE (D (F := F)) 𝒱 (d : Thread nD τ) none) Set.univ (.ret ⟨⟩) Q)
        ∗ boundary (d : Thread nD τ) ∗ (unscopedBufs d (V d) ∗ BI.emp ∗ owing (F := F) d) ∗ levAts (K (F := F)).L (K (F := F)).lev
        ∗ Pipeline.cellsGhost cfgs (EP (F := F)) 0 d ∗ Pipeline.toksInit cfgs (EP (F := F)) 0 d) : sProp 𝕄)
      ⊢ wp frame (wpE (D (F := F)) 𝒱 (d : Thread nD τ) none) Set.univ tcCall Q :=
  Pipeline.RegionSeg.wp (pcfgs (F := F)) adm₀ (pdats V adm₀) none cellOf_inj (EP (F := F)) defs₀ Variants.none (K (F := F)).L (K (F := F)).lev
    (reg V adm₀ Vp (fun _ => BI.emp) hVp_i hVp_l hVp_ne) d none (fun u h => nomatch h) .ret Q

/-- Started from @main, the call takes the arrays from the entry valuation to `Vp`. -/
theorem wp_tcCall [∀ e, Nonempty (Elt F e)] (d : Dev nD) (hVp_i : ∀ c, Vp c main_v2_0 = outIdx V c) (hVp_l : ∀ c, Vp c main_v2_1 = outLoss V c)
    (hVp_ne : ∀ c (b : Ref sig .tc), b ≠ main_v2_0 → b ≠ main_v2_1 → Vp c b = V c b) (Q : PUnit → sProp 𝕄) :
    (iprop((iprop(boundary (SparseCore.T d) ∗ unscopedBufs d (Vp d) ∗ owing (F := F) d) -∗ Q ⟨⟩)
        ∗ boundary (SparseCore.T d) ∗ unscopedBufs d (V d) ∗ owing (F := F) d ∗ levAts (K (F := F)).L (K (F := F)).lev
        ∗ Pipeline.cellsGhost cfgs (EP (F := F)) 0 d ∗ Pipeline.toksInit cfgs (EP (F := F)) 0 d) : sProp 𝕄)
      ⊢ wp frame (wpE ((K (F := F)).defs (D (F := F))) 𝒱 (SparseCore.T d) none) Set.univ
          (Prog.lift (.customCall (SparseCore.inner (Pipeline.entry 0)) ())) Q := by
  iintro ⟨Hk, Hb, Hu, Ho, Hl, Hg, Ht⟩
  iapply (wp_lifted d Q)
  iapply (wp_call V Vp d hVp_i hVp_l hVp_ne Q)
  isplitl [Hk]
  · iintro ⟨Hb, Hu, -, Ho⟩
    rw [wp_ret]; imodintro
    iapply Hk
    isplitl [Hb]; · iexact Hb
    isplitl [Hu]; · iexact Hu
    iexact Ho
  isplitl [Hb]; · iexact Hb
  isplitl [Hu Ho]
  · isplitl [Hu]; · iexact Hu
    isplitr; · iempintro
    iexact Ho
  isplitl [Hl]; · iexact Hl
  isplitl [Hg]; · iexact Hg
  iexact Ht

end Cert.Proof.WholeRegion
-- ==== Proof.WholeMath.lean ====
/-
  The mathematics of one point and 1024 centroids, apart from any program: which index is least, how a masked minimum and a fold of
  pairs each find it, and the loss of a point written two ways.
-/
module

public import Idealize.ShloMosaic.PureOps.Ideal
public import Idealize.ShloMosaic.PureOps.Ideal.Laws
public import Idealize.ShloMosaic.Lib.WordArith
public import Idealize.ShloMosaic.Lib.IdealHost

@[expose] public section

noncomputable section

namespace Cert.Proof.WholeMath

open Idealize.ShloMosaic
open scoped BigOperators

/-! ## The least index -/

/-- The word `v` is the first index at which `f` is least. -/
def IsLeast (f : Fin 1024 → EReal) (v : BitVec 32) : Prop :=
  ∃ h : v.toNat < 1024, (∀ k, f ⟨v.toNat, h⟩ ≤ f k) ∧ ∀ k : Fin 1024, f k ≤ f ⟨v.toNat, h⟩ → v.toNat ≤ k.val

theorem IsLeast.lt {f : Fin 1024 → EReal} {v : BitVec 32} (h : IsLeast f v) : v.toNat < 1024 := h.1

theorem IsLeast.eq {f : Fin 1024 → EReal} {v w : BitVec 32} (hv : IsLeast f v) (hw : IsLeast f w) : v = w := by
  obtain ⟨a, a1, a2⟩ := hv
  obtain ⟨b, b1, b2⟩ := hw
  have := a2 ⟨w.toNat, b⟩ (b1 _)
  have := b2 ⟨v.toNat, a⟩ (a1 _)
  exact BitVec.eq_of_toNat_eq (by simp only at *; omega)

/-- Adding the same real to every value moves no minimum. -/
theorem IsLeast.shift {f g : Fin 1024 → ℝ} {X : ℝ} (hg : ∀ k, g k = f k + X) {v : BitVec 32} (h : IsLeast (fun k => (f k : EReal)) v) :
    IsLeast (fun k => (g k : EReal)) v := by
  obtain ⟨a, a1, a2⟩ := h
  refine ⟨a, fun k => ?_, fun k hk => a2 k ?_⟩
  · have := EReal.coe_le_coe_iff.1 (a1 k)
    exact EReal.coe_le_coe_iff.2 (by rw [hg, hg]; linarith)
  · have := EReal.coe_le_coe_iff.1 hk
    rw [hg, hg] at this
    exact EReal.coe_le_coe_iff.2 (by linarith)

theorem fold_min_le_apply (f : Fin 1024 → EReal) (k : Fin 1024) : (Finset.univ : Finset (Fin 1024)).fold min ⊤ f ≤ f k :=
  (Finset.fold_min_le _).2 (Or.inr ⟨k, Finset.mem_univ _, le_rfl⟩)

theorem fold_min_attained (f : Fin 1024 → EReal) : ∃ k, f k = (Finset.univ : Finset (Fin 1024)).fold min ⊤ f := by
  obtain ⟨k, hk, h⟩ := Finset.exists_min_image (Finset.univ : Finset (Fin 1024)) f ⟨0, Finset.mem_univ _⟩
  exact ⟨k, le_antisymm ((Finset.le_fold_min _).2 ⟨le_top, fun x hx => h x hx⟩) (fold_min_le_apply f k)⟩

theorem IsLeast.min_eq {f : Fin 1024 → EReal} {v : BitVec 32} (h : IsLeast f v) :
    (Finset.univ : Finset (Fin 1024)).fold min ⊤ f = f ⟨v.toNat, h.lt⟩ :=
  le_antisymm (fold_min_le_apply f _) ((Finset.le_fold_min _).2 ⟨le_top, fun x _ => h.2.1 x⟩)

theorem toNat_fold_minsi (s : Finset (Fin 1024)) (w : Fin 1024 → BitVec 32) (hw : ∀ k, (w k).toNat < 2 ^ 31) :
    (s.fold IntOp.minsi 2147483647#32 w).toNat = s.fold min 2147483647 (fun k => (w k).toNat) := by
  classical
  have hb : ∀ s : Finset (Fin 1024), s.fold min 2147483647 (fun k => (w k).toNat) < 2 ^ 31 := fun s =>
    lt_of_le_of_lt ((Finset.fold_min_le _).2 (Or.inl le_rfl)) (by norm_num)
  induction s using Finset.induction_on with
  | empty => rfl
  | insert a s ha ih =>
    rw [Finset.fold_insert ha, Finset.fold_insert ha, WordArith.toNat_minsi_of_lt _ _ (hw a) (by rw [ih]; exact hb s), ih]

/-- The least row number whose value is the minimum — 1024 standing for the rows whose value is not — is the first least index. -/
theorem isLeast_masked (f : Fin 1024 → EReal) :
    IsLeast f ((Finset.univ : Finset (Fin 1024)).fold IntOp.minsi 2147483647#32
      (fun k => Scalar.select (Ideal.cmp .oeq (f k) ((Finset.univ : Finset (Fin 1024)).fold min ⊤ f)) (BitVec.ofNat 32 k.val) 1024#32)) := by
  set m := (Finset.univ : Finset (Fin 1024)).fold min ⊤ f with hm
  set w : Fin 1024 → BitVec 32 := fun k => Scalar.select (Ideal.cmp .oeq (f k) m) (BitVec.ofNat 32 k.val) 1024#32 with hw
  have w1 : ∀ k, f k = m → (w k).toNat = k.val := fun k hk => by
    have e : Ideal.cmp .oeq (f k) m = 1#1 := by simp [Ideal.cmp, hk]
    simp only [hw, e]
    show (BitVec.ofNat 32 k.val).toNat = k.val
    rw [BitVec.toNat_ofNat]; have := k.isLt; omega
  have w0 : ∀ k, f k ≠ m → (w k).toNat = 1024 := fun k hk => by
    have e : Ideal.cmp .oeq (f k) m = 0#1 := by simp [Ideal.cmp, hk]
    simp only [hw, e]
    rfl
  have wb : ∀ k, (w k).toNat < 2 ^ 31 := fun k => by
    by_cases h : f k = m
    · rw [w1 k h]; have := k.isLt; omega
    · rw [w0 k h]; norm_num
  set v := (Finset.univ : Finset (Fin 1024)).fold IntOp.minsi 2147483647#32 w with hv
  have ev : v.toNat = (Finset.univ : Finset (Fin 1024)).fold min 2147483647 (fun k => (w k).toNat) := toNat_fold_minsi _ _ wb
  clear_value v
  have le : ∀ k, v.toNat ≤ (w k).toNat := fun k => by
    rw [ev]; exact (Finset.fold_min_le _).2 (Or.inr ⟨k, Finset.mem_univ _, le_rfl⟩)
  obtain ⟨k0, h0⟩ := fold_min_attained f
  have lt : v.toNat < 1024 := by have := le k0; rw [w1 k0 h0] at this; have := k0.isLt; omega
  obtain ⟨x, hx, e⟩ : ∃ x, f x = m ∧ x.val = v.toNat := by
    rcases (Finset.fold_min_le (s := (Finset.univ : Finset (Fin 1024))) (f := fun k => (w k).toNat) (b := 2147483647) v.toNat).1 (le_of_eq ev.symm) with h | ⟨x, _, h⟩
    · omega
    · have hx : f x = m := by by_contra hn; have := w0 x hn; omega
      have := le x
      have := w1 x hx
      exact ⟨x, hx, by omega⟩
  have ex : (⟨v.toNat, lt⟩ : Fin 1024) = x := Fin.ext e.symm
  refine ⟨lt, fun k => ?_, fun k hk => ?_⟩
  · rw [ex, hx]; exact fold_min_le_apply f k
  · rw [ex, hx] at hk
    have := le k
    rwa [w1 k (le_antisymm hk (fold_min_le_apply f k))] at this

/-- The same with the selection written as a choice. -/
theorem isLeast_ite (f : Fin 1024 → EReal) (m : EReal) (hm : m = (Finset.univ : Finset (Fin 1024)).fold min ⊤ f) [∀ k, Decidable (f k = m)] :
    IsLeast f ((Finset.univ : Finset (Fin 1024)).fold IntOp.minsi 2147483647#32
      (fun k => if f k = m then BitVec.ofNat 32 k.val else 1024#32)) := by
  have e : (fun k : Fin 1024 => if f k = m then BitVec.ofNat 32 k.val else 1024#32)
      = fun k => Scalar.select (Ideal.cmp .oeq (f k) ((Finset.univ : Finset (Fin 1024)).fold min ⊤ f)) (BitVec.ofNat 32 k.val) 1024#32 := by
    funext k
    rw [← hm]
    by_cases h : f k = m <;> simp [Ideal.cmp, Scalar.select, h]
  rw [e]; exact isLeast_masked f

/-! ## A fold of (value, index) pairs -/

/-- `p` is no later than `q`: a lesser value, or an equal value and an index no greater. -/
def Before (p q : EReal × BitVec 32) : Prop := p.1 < q.1 ∨ p.1 = q.1 ∧ p.2.toNat ≤ q.2.toNat

theorem Before.refl (p : EReal × BitVec 32) : Before p p := Or.inr ⟨rfl, le_rfl⟩
theorem Before.trans {p q r : EReal × BitVec 32} (h : Before p q) (h' : Before q r) : Before p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A left fold by a choice of the earlier pair ends at the earliest of the start and the list. -/
theorem foldl_before (g : EReal × BitVec 32 → EReal × BitVec 32 → EReal × BitVec 32) (S : EReal × BitVec 32 → Prop)
    (hg : ∀ p q, S p → S q → (g p q = p ∨ g p q = q) ∧ Before (g p q) p ∧ Before (g p q) q) :
    ∀ (l : List (EReal × BitVec 32)) (z : EReal × BitVec 32), S z → (∀ p ∈ l, S p) →
      (l.foldl g z = z ∨ l.foldl g z ∈ l) ∧ Before (l.foldl g z) z ∧ ∀ p ∈ l, Before (l.foldl g z) p
  | [], z, _, _ => ⟨Or.inl rfl, Before.refl _, fun _ h => absurd h List.not_mem_nil⟩
  | a :: l, z, hz, hl => by
    obtain ⟨e, b1, b2⟩ := hg z a hz (hl a List.mem_cons_self)
    have hs : S (g z a) := by rcases e with e | e <;> rw [e]; exacts [hz, hl a List.mem_cons_self]
    obtain ⟨m, c1, c2⟩ := foldl_before g S hg l (g z a) hs fun p hp => hl p (List.mem_cons_of_mem _ hp)
    refine ⟨?_, c1.trans b1, fun p hp => ?_⟩
    · rcases m with m | m
      · rw [List.foldl_cons, m]
        rcases e with e | e <;> rw [e]
        · exact Or.inl rfl
        · exact Or.inr List.mem_cons_self
      · exact Or.inr (List.mem_cons_of_mem _ m)
    · rcases List.mem_cons.1 hp with rfl | hp
      · exact c1.trans b2
      · exact c2 p hp

/-- If the pairs folded are the values with their row numbers, from (∞, 0), the index found is the first least one. -/
theorem isLeast_of_before (f : Fin 1024 → EReal) (r : EReal × BitVec 32) (hr : r = (⊤, 0#32) ∨ ∃ k : Fin 1024, r = (f k, BitVec.ofNat 32 k.val))
    (hb : ∀ k : Fin 1024, Before r (f k, BitVec.ofNat 32 k.val)) : IsLeast f r.2 := by
  have en : ∀ k : Fin 1024, (BitVec.ofNat 32 k.val).toNat = k.val := fun k => by
    rw [BitVec.toNat_ofNat]; have := k.isLt; omega
  rcases hr with rfl | ⟨k, rfl⟩
  · have hf : ∀ k, f k = ⊤ := fun k => by
      rcases hb k with h | ⟨h, _⟩
      · exact absurd h not_top_lt
      · exact h.symm
    exact ⟨by simp, fun k => by rw [hf k]; exact le_top, fun k _ => by simp⟩
  · have hk := en k
    have ex : (⟨(BitVec.ofNat 32 k.val).toNat, by rw [hk]; exact k.isLt⟩ : Fin 1024) = k := Fin.ext hk
    refine ⟨by rw [hk]; exact k.isLt, fun j => ?_, fun j hj => ?_⟩
    · simp only [ex]
      rcases hb j with h | ⟨h, _⟩
      · exact le_of_lt h
      · exact le_of_eq h
    · simp only [ex] at hj
      rcases hb j with h | ⟨_, h⟩
      · exact absurd h (not_lt.2 hj)
      · rw [← en j]; exact h

/-! ## Sums of reals inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product with a column that is one at one row and zero elsewhere reads that row. -/
theorem sum_one_hot (c : Fin 1024 → EReal) (k : Fin 1024) (w : Fin 1024 → EReal) (h1 : w k = 1) (h0 : ∀ j, j ≠ k → w j = 0) :
    ∑ j, c j * w j = c k := by
  rw [Finset.sum_eq_single k (fun j _ hj => by rw [h0 j hj, mul_zero]) (fun h => absurd (Finset.mem_univ _) h), h1, mul_one]

theorem div_real {x y : ℝ} (hy : y ≠ 0) : Ideal.div (x : EReal) (y : EReal) = ((x / y : ℝ) : EReal) := by
  rw [Ideal.div_coe hy, ← EReal.coe_mul, mul_one_div]

/-! ## One point -/

section Point

variable (x : Fin 32 → ℝ) (c : Fin 1024 → Fin 32 → ℝ)

/-- The squared distance of the point to each centroid; -/
def dist (k : Fin 1024) : ℝ := ∑ j, (x j - c k j) * (x j - c k j)
/-- the part of it that depends on the centroid, as the product gives it; -/
def part (k : Fin 1024) : ℝ := ∑ j, c k j * c k j - (∑ j, c k j * x j + ∑ j, c k j * x j)
/-- and the part that does not. -/
def own : ℝ := ∑ j, x j * x j

theorem dist_eq (k : Fin 1024) : dist x c k = part x c k + own x := by
  unfold dist part own
  rw [← Finset.sum_add_distrib, ← Finset.sum_sub_distrib, ← Finset.sum_add_distrib]
  exact Finset.sum_congr rfl fun j _ => by ring

/-- The weight of each centroid, given the least distance's index. -/
def weight (v : Fin 1024) (k : Fin 1024) : ℝ := Real.exp (part x c v - part x c k)

theorem weight_eq (v k : Fin 1024) : Real.exp (-1 * (dist x c k - dist x c v)) = weight x c v k := by
  unfold weight; rw [dist_eq, dist_eq]; congr 1; ring

theorem weights_pos (v : Fin 1024) : 0 < ∑ k, weight x c v k :=
  Finset.sum_pos (fun _ _ => Real.exp_pos _) ⟨0, Finset.mem_univ _⟩

/-- One centroid's share of the point's loss. -/
def share (v k : Fin 1024) : ℝ := weight x c v k / (∑ k, weight x c v k) * dist x c k

/-- The shares sum to the weighted mean of the parts and the point's own part. -/
theorem sum_share (v : Fin 1024) :
    ∑ k, share x c v k = (∑ k, weight x c v k * part x c k) / (∑ k, weight x c v k) + own x := by
  have h := (weights_pos x c v).ne'
  unfold share
  have e : ∀ k, weight x c v k / (∑ k, weight x c v k) * dist x c k
      = (weight x c v k * part x c k) / (∑ k, weight x c v k) + weight x c v k * (own x / ∑ k, weight x c v k) := fun k => by
    rw [dist_eq]; field_simp
  rw [Finset.sum_congr rfl fun k _ => e k, Finset.sum_add_distrib, ← Finset.sum_div, ← Finset.sum_mul]
  field_simp

end Point

end Cert.Proof.WholeMath
-- ==== Proof.WholePayload.lean ====
/-
  The assignment kernel's body read element by element over the extended reals.
-/
module

public import proofs.«01_k».proof.Proof.WholeBody
public import proofs.«01_k».proof.Proof.WholeMath
public import Idealize.ShloMosaic.Lib.Pointwise

@[expose] public section

set_option maxRecDepth 4096

noncomputable section

namespace Cert.Proof.WholePayload

open Cert.KernelIdeal Cert.KernelIdeal.Gen
open Cert.Proof.WholeBody Cert.Proof.WholeMath
open Idealize.ShloMosaic

variable (x0 : FVec Ideal S32x1024 .f32) (x2 : FVec Ideal S1024x32 .f32) (x3 : FVec Ideal S32x1024 .f32)

theorem pay3_eq : k0_pay3 (F := Ideal) x0 = x0 := by
  simp only [k0_pay3, shapeCast_self]

theorem pay4_eq : k0_pay4 (F := Ideal) x0 = x0 := by
  simp only [k0_pay4, shapeCast_self]

theorem pay5_apply (k b : Fin 1024) : k0_pay5 (F := Ideal) x0 x2 (ix2 k b)
    = ∑ j, x2 (ix2 k j) * x2 (ix2 k j) - (∑ j, x2 (ix2 k j) * x0 (ix2 j b) + ∑ j, x2 (ix2 k j) * x0 (ix2 j b)) := by
  pointwise [k0_pay5, pay3_eq]

theorem inf_bits : Ideal.ofBits .f32 0x7F800000#32 = ⊤ := by
  simp [Ideal.ofBits, Ideal.ieee]

/-- The least value of each column. -/
def mins (v : FVec Ideal S1024x1024 .f32) : FVec Ideal S1x1024 .f32 :=
  shapeCast S1x1024 (multiReduction .minimumf [0] S1024 v 0x7F800000#32
    reduces_S1024x1024_S1024 (.inl rfl) rfl) shapeCasts_S1024_S1x1024

theorem mins_apply (v : FVec Ideal S1024x1024 .f32) (b : Fin 1024) :
    mins v (ix2 0 b) = Finset.univ.fold min ⊤ (fun k => v (ix2 k b)) := by
  pointwise [mins, inf_bits]

/-- The least row that holds the least value of each column. -/
def leasts (v : FVec Ideal S1024x1024 .f32) : IVec S1x1024 32 :=
  k0_pay11 rows (cmpf .oeq v (broadcastTo S1024x1024 (mins v) broadcasts_S1x1024_S1024x1024)) 1024#32

theorem leasts_isLeast (v : FVec Ideal S1024x1024 .f32) (b : Fin 1024) :
    IsLeast (fun k => v (ix2 k b)) (leasts v (ix2 0 b)) := by
  unfold leasts rows
  pointwise [k0_pay11]
  exact @isLeast_ite (fun k => v (ix2 k b)) _ (mins_apply v b) _

theorem cand0_isLeast (b : Fin 1024) :
    IsLeast (fun k => k0_pay5 (F := Ideal) x0 x2 (ix2 k b)) (cand0 (F := Ideal) x0 x2 (ix2 0 b)) :=
  leasts_isLeast (k0_pay5 (F := Ideal) x0 x2) b

theorem cand1_lt (b : Fin 1024) : (cand1 (F := Ideal) x0 x2 (ix2 0 b)).toNat < 1024 :=
  (leasts_isLeast (k0_pay8 (F := Ideal) x0 x2) b).lt

/-- The values the third candidate is the least of: those of the second with the second candidate's row taken out. -/
def rest : FVec Ideal S1024x1024 .f32 :=
  select (cmpi .eq rows (broadcastTo S1024x1024 (k0_pay9 (F := Ideal) x0 x2) broadcasts_S1x1024_S1024x1024))
    (broadcast S1024x1024 (Scalar.ofBits (F := Ideal) .f32 0x7F800000#32)) (k0_pay8 (F := Ideal) x0 x2)

theorem cand2_lt (b : Fin 1024) : (cand2 (F := Ideal) x0 x2 (ix2 0 b)).toNat < 1024 :=
  (leasts_isLeast (rest x0 x2) b).lt

theorem pay6_apply (b : Fin 1024) : k0_pay6 (F := Ideal) x0 x2 (ix2 0 b)
    = Finset.univ.fold min ⊤ (fun k => k0_pay5 (F := Ideal) x0 x2 (ix2 k b)) :=
  mins_apply (k0_pay5 (F := Ideal) x0 x2) b

def far (b : Fin 1024) (w : Fin 1024) : EReal :=
  ∑ i, (x0 (ix2 i b) - x3 (ix2 i w)) * (x0 (ix2 i b) - x3 (ix2 i w))

/-- A comparison for equality as a number: one or zero. -/
theorem hot_eq (v w : BitVec 32) :
    FloatOps.sitofp (F := Ideal) FTy.f32 (BitVec.setWidth 32 (IntOp.cmpi CmpIPredicate.eq v w)) = if v = w then (1 : EReal) else 0 := by
  by_cases h : v = w
  · subst h
    have e : BitVec.setWidth 32 (IntOp.cmpi CmpIPredicate.eq v v) = 1#32 := by simp [IntOp.cmpi]
    rw [e, if_pos rfl]
    show (((1#32).toInt : ℝ) : EReal) = 1
    simp
  · have e : BitVec.setWidth 32 (IntOp.cmpi CmpIPredicate.eq v w) = 0#32 := by
      have : (v == w) = false := by simpa using h
      simp [IntOp.cmpi, this]
    rw [e, if_neg h]
    show (((0#32).toInt : ℝ) : EReal) = 0
    simp

theorem pay12_apply (c : IVec S1x1024 32) (i : Fin 32) (b : Fin 1024) (h : (c (ix2 0 b)).toNat < 1024) :
    k0_pay12 (F := Ideal) x0 x3 rows c (ix2 i b)
      = (x0 (ix2 i b) - x3 (ix2 i ⟨(c (ix2 0 b)).toNat, h⟩)) * (x0 (ix2 i b) - x3 (ix2 i ⟨(c (ix2 0 b)).toNat, h⟩)) := by
  have e := sum_one_hot (fun k => x3 (ix2 i k)) ⟨(c (ix2 0 b)).toNat, h⟩
    (fun k => if BitVec.ofNat 32 k.val = c (ix2 0 b) then (1 : EReal) else 0) (if_pos (by simp)) (fun k hk => if_neg fun e => by
      have := congrArg BitVec.toNat e
      rw [BitVec.toNat_ofNat, Nat.mod_eq_of_lt (by have := k.isLt; omega)] at this
      exact hk (Fin.ext this))
  unfold rows
  pointwise [k0_pay12]
  simp only [hot_eq]
  rw [← e]

theorem tree (f : Fin 32 → EReal) :
    f 0 + f 4 + (f 2 + f 6) + (f 1 + f 5 + (f 3 + f 7)) + (f 8 + f 12 + (f 10 + f 14) + (f 9 + f 13 + (f 11 + f 15)))
      + (f 16 + f 20 + (f 18 + f 22) + (f 17 + f 21 + (f 19 + f 23)))
      + (f 24 + f 28 + (f 26 + f 30) + (f 25 + f 29 + (f 27 + f 31))) = ∑ i, f i := by
  have e : ∑ i, f i = f 0 + (f 1 + (f 2 + (f 3 + (f 4 + (f 5 + (f 6 + (f 7 + (f 8 + (f 9 + (f 10 + (f 11 + (f 12 + (f 13 + (f 14 + (f 15
      + (f 16 + (f 17 + (f 18 + (f 19 + (f 20 + (f 21 + (f 22 + (f 23 + (f 24 + (f 25 + (f 26 + (f 27 + (f 28 + (f 29 + (f 30 + (f 31
      + 0))))))))))))))))))))))))))))))) := by
    simp only [Fin.sum_univ_succ, Fin.sum_univ_zero]; rfl
  rw [e, add_zero]
  ac_rfl

theorem far_eq (b : Fin 1024) (c : IVec S1x1024 32) (h : (c (ix2 0 b)).toNat < 1024) :
    far x0 x3 b ⟨_, h⟩ = ∑ i, k0_pay12 (F := Ideal) x0 x3 rows c (ix2 i b) :=
  Finset.sum_congr rfl fun i _ => (pay12_apply x0 x3 c i b h).symm

theorem dist0_apply (b : Fin 1024) (c : IVec S1x1024 32) (h : (c (ix2 0 b)).toNat < 1024) :
    k0_pay14 (F := Ideal) (k0_pay12 x0 x3 rows c) (k0_pay13 (F := Ideal) x0 x3 rows c) (ix2 0 b) = far x0 x3 b ⟨_, h⟩ := by
  rw [far_eq, ← tree]
  pointwise [k0_pay13, k0_pay14]

theorem dist1_apply (b : Fin 1024) (c : IVec S1x1024 32) (h : (c (ix2 0 b)).toNat < 1024) :
    k0_pay22 (F := Ideal) (k0_pay15 x0 x3 rows c) (k0_pay16 x0 x3 rows c) (k0_pay17 x0 x3 rows c) (k0_pay18 x0 x3 rows c)
      (k0_pay19 x0 x3 rows c) (k0_pay20 x0 x3 rows c) (k0_pay21 x0 x3 rows c) (ix2 0 b) = far x0 x3 b ⟨_, h⟩ := by
  have e : far x0 x3 b ⟨_, h⟩ = ∑ i, k0_pay15 (F := Ideal) x0 x3 rows c (ix2 i b) := far_eq x0 x3 b c h
  rw [e, ← tree]
  pointwise [k0_pay22, k0_pay16, k0_pay17, k0_pay18, k0_pay19, k0_pay20, k0_pay21]

/-- The choice between two candidates keeps the one with the lesser distance and, of equal distances, the lesser index. -/
theorem choose {d0 d1 : EReal} {c0 c1 : BitVec 32} (hc0 : c0.toNat < 1024) (hc1 : c1.toNat < 1024) (hd : d0 ≤ d1)
    (he : d1 ≤ d0 → c0.toNat ≤ c1.toNat) :
    IntOp.ori (BitVec.ofBool (decide (d1 < d0))) (IntOp.andi (BitVec.ofBool (decide (d1 = d0))) (IntOp.cmpi CmpIPredicate.slt c1 c0)) = 0#1 := by
  have h1 : ¬ d1 < d0 := not_lt.2 hd
  by_cases h : d1 = d0
  · have h2 : IntOp.cmpi CmpIPredicate.slt c1 c0 = 0#1 := by
      have := he h.le
      have e : c1.slt c0 = false := by
        rw [BitVec.slt_eq_decide, decide_eq_false_iff_not, BitVec.toInt_eq_toNat_of_lt (by omega), BitVec.toInt_eq_toNat_of_lt (by omega)]
        omega
      simp [IntOp.cmpi, e]
    simp [h1, h2, IntOp.ori, IntOp.andi]
  · simp [h1, h, IntOp.ori, IntOp.andi]

theorem pay23_apply (b : Fin 1024) (c0 c1 : IVec S1x1024 32) (d : FVec Ideal S1x1024 .f32) (v121 : FVec Ideal S32x1024 .f32)
    (v152 v153 v154 v155 v156 v157 : FVec Ideal S1x1024 .f32) :
    k0_pay23 (F := Ideal) c0 c1 d v121 v152 v153 v154 v155 v156 v157 (ix2 0 b)
      = IntOp.ori (BitVec.ofBool (decide (k0_pay22 (F := Ideal) v121 v152 v153 v154 v155 v156 v157 (ix2 0 b) < d (ix2 0 b))))
          (IntOp.andi (BitVec.ofBool (decide (k0_pay22 (F := Ideal) v121 v152 v153 v154 v155 v156 v157 (ix2 0 b) = d (ix2 0 b))))
            (IntOp.cmpi CmpIPredicate.slt (c1 (ix2 0 b)) (c0 (ix2 0 b)))) := by
  pointwise [k0_pay23]

theorem pay31_apply (b : Fin 1024) (c p : IVec S1x1024 32) (d : FVec Ideal S1x1024 .f32) (h : (c (ix2 0 b)).toNat < 1024) :
    k0_pay31 (F := Ideal) c d p (k0_pay26 x0 x3 rows c) (k0_pay27 x0 x3 rows c) (k0_pay28 x0 x3 rows c) (k0_pay29 x0 x3 rows c)
      (k0_pay30 x0 x3 rows c) (ix2 0 b)
      = Scalar.select (IntOp.ori (BitVec.ofBool (decide (far x0 x3 b ⟨_, h⟩ < d (ix2 0 b))))
          (IntOp.andi (BitVec.ofBool (decide (far x0 x3 b ⟨_, h⟩ = d (ix2 0 b))))
            (IntOp.cmpi CmpIPredicate.slt (c (ix2 0 b)) (p (ix2 0 b))))) (c (ix2 0 b)) (p (ix2 0 b)) := by
  have e : far x0 x3 b ⟨_, h⟩ = ∑ i, k0_pay26 (F := Ideal) x0 x3 rows c (ix2 i b) := far_eq x0 x3 b c h
  rw [e, ← tree]
  pointwise [k0_pay31, k0_pay27, k0_pay28, k0_pay29, k0_pay30]

theorem pay24_apply (b : Fin 1024) (c0 c1 : IVec S1x1024 32) (d : FVec Ideal S1x1024 .f32) (v121 : FVec Ideal S32x1024 .f32)
    (v152 v153 v154 v155 v156 v157 : FVec Ideal S1x1024 .f32)
    (h : k0_pay23 (F := Ideal) c0 c1 d v121 v152 v153 v154 v155 v156 v157 (ix2 0 b) = 0#1) :
    k0_pay24 (F := Ideal) c0 c1 d v121 v152 v153 v154 v155 v156 v157 (ix2 0 b) = d (ix2 0 b)
      ∧ k0_pay25 (F := Ideal) c0 c1 d v121 v152 v153 v154 v155 v156 v157 (ix2 0 b) = c0 (ix2 0 b) := by
  constructor
  · show Scalar.select _ _ _ = _
    rw [h]; rfl
  · show Scalar.select _ _ _ = _
    rw [h]; rfl

/-- When the first of three candidates is the nearest centroid, it is the choice among the three. -/
theorem assign (b : Fin 1024) (c0 c1 c2 : IVec S1x1024 32) (hc : IsLeast (far x0 x3 b) (c0 (ix2 0 b)))
    (h1 : (c1 (ix2 0 b)).toNat < 1024) (h2 : (c2 (ix2 0 b)).toNat < 1024) :
    k0_pay31 (F := Ideal) c2
      (k0_pay24 (F := Ideal) c0 c1 (k0_pay14 (k0_pay12 x0 x3 rows c0) (k0_pay13 x0 x3 rows c0)) (k0_pay15 x0 x3 rows c1)
        (k0_pay16 x0 x3 rows c1) (k0_pay17 x0 x3 rows c1) (k0_pay18 x0 x3 rows c1) (k0_pay19 x0 x3 rows c1) (k0_pay20 x0 x3 rows c1)
        (k0_pay21 x0 x3 rows c1))
      (k0_pay25 (F := Ideal) c0 c1 (k0_pay14 (k0_pay12 x0 x3 rows c0) (k0_pay13 x0 x3 rows c0)) (k0_pay15 x0 x3 rows c1)
        (k0_pay16 x0 x3 rows c1) (k0_pay17 x0 x3 rows c1) (k0_pay18 x0 x3 rows c1) (k0_pay19 x0 x3 rows c1) (k0_pay20 x0 x3 rows c1)
        (k0_pay21 x0 x3 rows c1))
      (k0_pay26 x0 x3 rows c2) (k0_pay27 x0 x3 rows c2) (k0_pay28 x0 x3 rows c2) (k0_pay29 x0 x3 rows c2) (k0_pay30 x0 x3 rows c2)
      (ix2 0 b) = c0 (ix2 0 b) := by
  have e0 := dist0_apply x0 x3 b c0 hc.lt
  have e1 := dist1_apply x0 x3 b c1 h1
  have t := pay24_apply b c0 c1 (k0_pay14 (F := Ideal) (k0_pay12 x0 x3 rows c0) (k0_pay13 x0 x3 rows c0)) (k0_pay15 x0 x3 rows c1)
    (k0_pay16 x0 x3 rows c1) (k0_pay17 x0 x3 rows c1) (k0_pay18 x0 x3 rows c1) (k0_pay19 x0 x3 rows c1) (k0_pay20 x0 x3 rows c1)
    (k0_pay21 x0 x3 rows c1) (by rw [pay23_apply, e0, e1]; exact choose hc.lt h1 (hc.2.1 _) (hc.2.2 _))
  rw [pay31_apply x0 x3 b _ _ _ h2, t.1, t.2, e0, choose hc.lt h2 (hc.2.1 _) (hc.2.2 _)]
  rfl

/-- When the first candidate is the nearest centroid, the block's assignment is the first candidate. -/
theorem kIdx_apply (b : Fin 1024) (hc : IsLeast (far x0 x3 b) (cand0 (F := Ideal) x0 x2 (ix2 0 b))) :
    kIdx (F := Ideal) x0 x2 x3 (ix2 0 b) = cand0 (F := Ideal) x0 x2 (ix2 0 b) := by
  unfold kIdx best1 pick1 dist0
  rw [pay3_eq, pay4_eq]
  exact assign x0 x3 b _ _ _ hc (cand1_lt x0 x2 b) (cand2_lt x0 x2 b)

/-- Of whatever arguments, the block's assignment is one of the three candidates, so it names a row. -/
theorem kIdx_lt (b : Fin 1024) : (kIdx (F := Ideal) x0 x2 x3 (ix2 0 b)).toNat < 1024 := by
  have s : ∀ (p : BitVec 1) (v w : BitVec 32), v.toNat < 1024 → w.toNat < 1024 → (Scalar.select p v w).toNat < 1024 := fun p v w hv hw => by
    unfold Scalar.select
    split
    · exact hv
    · exact hw
  exact s _ _ _ (cand2_lt x0 x2 b) (s _ _ _ (cand1_lt x0 x2 b) (cand0_isLeast x0 x2 b).lt)

theorem pay2_apply (v1 : FVec Ideal S32x1024 .f32) (v11 v271 : FVec Ideal S1024x1024 .f32) (v272 : FVec Ideal S1024 .f32)
    (acc : FVec Ideal S1x1 .f32) : k0_pay2 (F := Ideal) v1 v11 v271 v272 acc (ix2 0 0)
      = acc (ix2 0 0) + ∑ b : Fin 1024, (Ideal.div (∑ k, v271 (ix2 k b) * v11 (ix2 k b)) (v272 (ix1 b)) + ∑ j, v1 (ix2 j b) * v1 (ix2 j b)) := by
  pointwise [k0_pay2]
  rw [Fin.sum_univ_one]

theorem pay32_apply (v11 : FVec Ideal S1024x1024 .f32) (v14 : FVec Ideal S1x1024 .f32) (k b : Fin 1024) :
    k0_pay32 (F := Ideal) v11 v14 (ix2 k b) = Ideal.exp (v14 (ix2 0 b) - v11 (ix2 k b)) := by
  pointwise [k0_pay32]

theorem pay33_apply (v11 : FVec Ideal S1024x1024 .f32) (v14 : FVec Ideal S1x1024 .f32) (b : Fin 1024) :
    k0_pay33 (F := Ideal) v11 v14 (ix1 b) = ∑ k : Fin 1024, k0_pay32 (F := Ideal) v11 v14 (ix2 k b) := by
  pointwise [k0_pay33]

theorem kLoss_apply (acc : FVec Ideal S1x1 .f32) : kLoss (F := Ideal) x0 x2 acc (ix2 0 0)
    = acc (ix2 0 0) + ∑ b : Fin 1024, (Ideal.div
        (∑ k, Ideal.exp (k0_pay6 (F := Ideal) x0 x2 (ix2 0 b) - k0_pay5 (F := Ideal) x0 x2 (ix2 k b)) * k0_pay5 (F := Ideal) x0 x2 (ix2 k b))
        (∑ k, Ideal.exp (k0_pay6 (F := Ideal) x0 x2 (ix2 0 b) - k0_pay5 (F := Ideal) x0 x2 (ix2 k b))) + ∑ j, x0 (ix2 j b) * x0 (ix2 j b)) := by
  unfold kLoss
  rw [pay2_apply, pay3_eq]
  simp only [pay33_apply, pay32_apply]

/-! ## On finite blocks -/

section Real

variable {x0 x2 x3} {x : Fin 1024 → Fin 32 → ℝ} {c : Fin 1024 → Fin 32 → ℝ}
variable (h0 : ∀ j b, x0 (ix2 j b) = ((x b j : ℝ) : EReal)) (h2 : ∀ k j, x2 (ix2 k j) = ((c k j : ℝ) : EReal))
  (h3 : ∀ j k, x3 (ix2 j k) = ((c k j : ℝ) : EReal))

include h0 h2 in
theorem pay5_real (k b : Fin 1024) : k0_pay5 (F := Ideal) x0 x2 (ix2 k b) = ((part (x b) c k : ℝ) : EReal) := by
  rw [pay5_apply]
  simp only [h0, h2, ← EReal.coe_mul, ← coe_sum, ← EReal.coe_add, ← EReal.coe_sub]
  rfl

include h0 h3 in
theorem far_real (b w : Fin 1024) : far x0 x3 b w = ((dist (x b) c w : ℝ) : EReal) := by
  unfold far
  simp only [h0, h3, ← EReal.coe_mul, ← coe_sum, ← EReal.coe_sub]
  rfl

include h0 h2 in
theorem cand0_real (b : Fin 1024) : IsLeast (fun k => ((dist (x b) c k : ℝ) : EReal)) (cand0 (F := Ideal) x0 x2 (ix2 0 b)) := by
  refine IsLeast.shift (dist_eq (x b) c) ?_
  have h := cand0_isLeast x0 x2 b
  simp only [pay5_real h0 h2] at h
  exact h

include h0 h2 h3 in
/-- The block's assignment is each point's nearest centroid. -/
theorem kIdx_real (b : Fin 1024) :
    IsLeast (fun k => ((dist (x b) c k : ℝ) : EReal)) (kIdx (F := Ideal) x0 x2 x3 (ix2 0 b)) := by
  have h := cand0_real h0 h2 b
  have e : far x0 x3 b = fun k => ((dist (x b) c k : ℝ) : EReal) := funext (far_real h0 h3 b)
  rw [kIdx_apply x0 x2 x3 b (by rw [e]; exact h)]
  exact h

include h0 h2 in
/-- The block's loss is the sum of its points' shares. -/
theorem kLoss_real (v : Fin 1024 → Fin 1024) (hv : ∀ b k, dist (x b) c (v b) ≤ dist (x b) c k) (acc : FVec Ideal S1x1 .f32) :
    kLoss (F := Ideal) x0 x2 acc (ix2 0 0) = acc (ix2 0 0) + ((∑ b, ∑ k, share (x b) c (v b) k : ℝ) : EReal) := by
  have hm : ∀ b, k0_pay6 (F := Ideal) x0 x2 (ix2 0 b) = ((part (x b) c (v b) : ℝ) : EReal) := fun b => by
    rw [pay6_apply]
    simp only [pay5_real h0 h2]
    refine le_antisymm (fold_min_le_apply _ (v b)) ((Finset.le_fold_min _).2 ⟨le_top, fun k _ => EReal.coe_le_coe_iff.2 ?_⟩)
    have := hv b k
    rw [dist_eq, dist_eq] at this
    linarith
  rw [kLoss_apply, coe_sum]
  refine congrArg (acc (ix2 0 0) + ·) (Finset.sum_congr rfl fun b _ => ?_)
  rw [sum_share]
  simp only [hm, pay5_real h0 h2, h0, ← EReal.coe_sub, Ideal.exp_coe, ← EReal.coe_mul, ← coe_sum]
  have e := div_real (x := ∑ k, weight (x b) c (v b) k * part (x b) c k) (weights_pos (x b) c (v b)).ne'
  unfold weight own at *
  rw [e, ← EReal.coe_add]

end Real

end Cert.Proof.WholePayload
-- ==== Proof.WholeBlocks.lean ====
/-
  The assignment call's arrays, element by element: what each block of the points, the table and the transposed table holds, what the
  index row holds after the four blocks, and the running loss after the last.
-/
module

public import proofs.«01_k».proof.Proof.WholeRegion
public import proofs.«01_k».proof.Proof.WholePayload
public import Idealize.ShloMosaic.Lib.Pipeline.ValueKit

@[expose] public section

set_option maxRecDepth 4096

noncomputable section

namespace Cert.Proof.WholeBlocks

open Cert.KernelIdeal Cert.KernelIdeal.Gen
open Cert.Proof.WholeBody Cert.Proof.WholeMath Cert.Proof.WholeRegion
open Idealize.ShloMosaic Idealize.ShloMosaic.TcCoe

variable {F : FTy → Type} [FloatOps F]
variable (V : (c : Dev nD) → (b : Ref sig .tc) → Buf (Elt F) ((c : Thread nD τ).loc b)) (d : Dev nD)

theorem index0 : ∀ t : Fin cfg0.N, win0_0.index t = ![0, t.val] ∧ win0_1.index t = ![0, 0] ∧ win0_2.index t = ![0, 0]
    ∧ win0_3.index t = ![0, t.val] ∧ win0_4.index t = ![0, 0] := by
  decide +kernel

theorem iblk0 (t : Fin cfg0.N) (j : Fin 32) (b : Fin 1024) : (iblk V d 0 t : S32x1024.Idx → Elt F .f32) (ix2 j b)
    = (V d main_v0 : S32x4096.Idx → Elt F .f32) (ix2 j ⟨t.val * 1024 + b.val, by have := t.isLt.trans_eq N_0; omega⟩) := by
  blk_ext [iblk, index0 t]

theorem iblk1 (t : Fin cfg0.N) (k : Fin 1024) (j : Fin 32) : (iblk V d 1 t : S1024x32.Idx → Elt F .f32) (ix2 k j)
    = (V d main_arg1 : S1024x32.Idx → Elt F .f32) (ix2 k j) := by
  blk_ext [iblk, index0 t]

theorem iblk2 (t : Fin cfg0.N) (j : Fin 32) (k : Fin 1024) : (iblk V d 2 t : S32x1024.Idx → Elt F .f32) (ix2 j k)
    = (V d main_v1 : S32x1024.Idx → Elt F .f32) (ix2 j k) := by
  blk_ext [iblk, index0 t]

/-- The index row after the call: each block's assignment at its place. -/
def idxRow : S1x4096.Idx → Elt F .i32 := fun i =>
  kIdx (iblk V d 0 (pt ((i 1).val / 1024))) (iblk V d 1 (pt ((i 1).val / 1024))) (iblk V d 2 (pt ((i 1).val / 1024)))
    (ix2 0 ⟨(i 1).val % 1024, Nat.mod_lt _ (by decide)⟩)

theorem idxRow_apply (t : Fin cfg0.N) (b : Fin 1024) (y : S1x1024.Idx) (hy : y = ix2 0 b) (i : S1x4096.Idx)
    (e : (i 1).val = t.val * 1024 + b.val) :
    idxRow V d i = kIdx (iblk V d 0 t) (iblk V d 1 t) (iblk V d 2 t) y := by
  have ht : pt ((i 1).val / 1024) = t := by rw [show (i 1).val / 1024 = t.val by omega, pt_val]
  have hb : (⟨(i 1).val % 1024, Nat.mod_lt _ (by decide)⟩ : Fin 1024) = b := Fin.ext (by change (i 1).val % 1024 = _; omega)
  unfold idxRow
  rw [ht, hb, hy]

theorem outIdx_eq : (outIdx V d : S1x4096.Idx → Elt F .i32) = idxRow V d := by
  refine (dat V d).arrAt_eq_of_covers 3 (idxRow V d) (by decide +kernel) fun t hf y => ?_
  have e : (((((cfg0.win 3).blk t).view.emb y) 1 : Fin _) : ℕ) = t.val * 1024 + (y 1).val := by blk_simp [index0 t]
  blk_simp
  refine (idxRow_apply V d t ⟨(y 1).val, (y 1).isLt⟩ _ ?_ _ e).symm
  funext a
  match a with
  | 0 => exact Fin.ext (Nat.lt_one_iff.mp (y 0).isLt)
  | 1 => exact Fin.ext rfl

theorem outLoss_eq : (outLoss V d : S1x1.Idx → Elt F .f32) = loss V d 3 := by
  refine (dat V d).arrAt_eq_of_after_last 4 (pt 3) (by decide +kernel) _ fun j => ?_
  blk_simp
  rfl

end Cert.Proof.WholeBlocks

end
-- ==== Proof.WholeLaunch.lean ====
/-
  The gather's launch: the SparseCore call among the threads that run it. The table and the list go out to the 32 tasks as
  read shares; the output goes out in write mode, each SparseCore's 16 tasks the two row blocks of each subcore at that core's
  half share, and comes back with every element marked written, so that the TensorCore, joining the halves, has it at the rows
  gathered.
-/
module

public import proofs.«01_k».proof.Proof.WholeTile

@[expose] public section

set_option maxRecDepth 4096

noncomputable section

namespace Cert.Proof.WholeLaunch

open Cert.KernelIdeal Cert.KernelIdeal.Gen
open Cert.Proof.WholeTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU F) ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The output's row blocks -/

/-- Block `b` of subcore `s`, as the output's elements; and as the list's. -/
abbrev oSet (s : Fin 16) (b : Fin 2) : Finset S4096x128.Idx := (oH s b).view.set
abbrev iSet (s : Fin 16) (b : Fin 2) : Finset S1x4096.Idx := (iH s b).view.set

theorem oSet_eq (s : Fin 16) (b : Fin 2) : oSet s b = (oR s b).set := by
  show ((View.whole (main_v7_scv : Ref sig .scVector)).slice (oR s b)).set = _
  rw [View.set_slice]; exact Finset.map_refl
theorem iSet_eq (s : Fin 16) (b : Fin 2) : iSet s b = (iR s b).set := by
  show ((View.whole (main_v6_scv : Ref sig .scVector)).slice (iR s b)).set = _
  rw [View.set_slice]; exact Finset.map_refl
theorem tSet_eq : (tA).view.set = (Finset.univ : Finset S1024x128.Idx) := by
  show ((View.whole (main_v5_scv : Ref sig .scVector)).slice _).set = _
  rw [View.set_slice, Rect.set_eq_univ_of_whole _ (by decide +kernel)]
  exact View.set_whole _

theorem mem_oSet (s : Fin 16) (b : Fin 2) (x : S4096x128.Idx) : x ∈ oSet s b ↔ (x 0).val / 128 = 2 * s.val + b.val := by
  rw [oSet_eq, Rect.mem_set_unit]
  have h1 : (x 1).val < 128 := (x 1).isLt
  constructor
  · intro h
    have h0 := h 0
    simp [blk] at h0
    omega
  · intro h a
    match a with
    | ⟨0, _⟩ => simp [blk]; omega
    | ⟨1, _⟩ => simp; omega

theorem mem_iSet (s : Fin 16) (b : Fin 2) (x : S1x4096.Idx) : x ∈ iSet s b ↔ (x 1).val / 128 = 2 * s.val + b.val := by
  rw [iSet_eq, Rect.mem_set_unit]
  have h1 : (x 0).val < 1 := (x 0).isLt
  constructor
  · intro h
    have h0 := h 1
    simp [blk] at h0
    omega
  · intro h a
    match a with
    | ⟨0, _⟩ => simp; omega
    | ⟨1, _⟩ => simp [blk]; omega

/-- The blocks, by subcore and block. -/
abbrev oBlk (p : Fin 16 × Fin 2) : Finset S4096x128.Idx := oSet p.1 p.2

theorem oBlk_disjoint : ∀ p ∈ (Finset.univ : Finset (Fin 16 × Fin 2)), ∀ p' ∈ (Finset.univ : Finset (Fin 16 × Fin 2)), p ≠ p' → Disjoint (oBlk p) (oBlk p') := by
  intro p _ p' _ hne
  rw [Finset.disjoint_left]
  intro x h h'
  have e := (mem_oSet _ _ x).mp h
  have e' := (mem_oSet _ _ x).mp h'
  have := p.2.isLt; have := p'.2.isLt
  exact hne (Prod.ext (Fin.ext (by omega)) (Fin.ext (by omega)))

theorem oBlk_cover : (Finset.univ : Finset (Fin 16 × Fin 2)).biUnion oBlk = Finset.univ := by
  ext x
  simp only [Finset.mem_biUnion, Finset.mem_univ, true_and, iff_true]
  have hx : (x 0).val < 4096 := (x 0).isLt
  exact ⟨(⟨(x 0).val / 128 / 2, by omega⟩, ⟨(x 0).val / 128 % 2, by omega⟩), (mem_oSet _ _ x).mpr (by simp; omega)⟩

theorem iSet_disjoint (s : Fin 16) : iSet s 1 ⊆ Finset.univ \ iSet s 0 := by
  intro x h
  rw [Finset.mem_sdiff]
  refine ⟨Finset.mem_univ _, fun h' => ?_⟩
  have e := (mem_iSet _ _ x).mp h
  have e' := (mem_iSet _ _ x).mp h'
  simp at e e'; omega

theorem sSet_disjoint : (sS 1).view.set ⊆ Finset.univ \ (sS 0).view.set := by
  decide +kernel

theorem rSet_eq (b : Fin 2) : (rS b).view.set = (rR b).set := by
  show (((View.whole (cc1_scoped2 : Ref sig .scVector)).slice (rR b)).reshape S128x128 squeezes_S1x128x128_S128x128.numel_eq).set = _
  rw [View.set_reshape, View.set_slice]; exact Finset.map_refl

theorem rSet_disjoint : (rS 1).view.set ⊆ Finset.univ \ (rS 0).view.set := by
  have key : (rR 1).set ⊆ (Finset.univ : Finset S2x128x128.Idx) \ (rR 0).set := by
    intro x h
    rw [Finset.mem_sdiff]
    refine ⟨Finset.mem_univ _, fun h' => ?_⟩
    rw [Rect.mem_set_unit] at h h'
    have e := h 0
    have e' := h' 0
    simp at e e'; omega
  rw [← rSet_eq 0, ← rSet_eq 1] at key
  exact key

/-! ## Write mode, split and joined -/

section WriteMode

variable {ℓ : Loc nD τ sig} {q : PosShare TreeShare} {f g : Buf (Elt F) ℓ} {W : Finset (Idx ℓ)}

theorem becomes_empty : (becomes ℓ ∅ q f g W : sProp 𝕄) = iprop(emp) := BI.Region.held_empty _

theorem becomes_union {I J : Finset (Idx ℓ)} (h : Disjoint I J) :
    (becomes ℓ (I ∪ J) q f g W : sProp 𝕄) = iprop(becomes ℓ I q f g W ∗ becomes ℓ J q f g W) :=
  BI.equiv_iff.mp ⟨(BI.Region.held_union h).1, (BI.Region.held_union h).2⟩

/-- Pairwise disjoint sets of elements in write mode are their union in write mode. -/
theorem becomes_biUnion {N : Type} [DecidableEq N] (A : Finset N) (I : N → Finset (Idx ℓ))
    (h : ∀ t ∈ A, ∀ t' ∈ A, t ≠ t' → Disjoint (I t) (I t')) :
    (becomes ℓ (A.biUnion I) q f g W : sProp 𝕄) = bigSep A fun t => becomes ℓ (I t) q f g W := by
  induction A using Finset.induction_on with
  | empty => rw [Finset.biUnion_empty, bigSep_empty]; exact becomes_empty
  | insert t A ht ih =>
    have hd : Disjoint (I t) (A.biUnion I) := (Finset.disjoint_biUnion_right _ _ _).mpr fun u hu =>
      h t (Finset.mem_insert_self _ _) u (Finset.mem_insert_of_mem hu) fun e => ht (e ▸ hu)
    rw [Finset.biUnion_insert, becomes_union hd, SparseCore.bigSep_insert' ht,
      ih fun t₁ h₁ t₂ h₂ => h t₁ (Finset.mem_insert_of_mem h₁) t₂ (Finset.mem_insert_of_mem h₂)]

/-- Which elements outside the set are marked does not matter. -/
theorem becomes_mark {I W' : Finset (Idx ℓ)} (hw : ∀ i ∈ I, i ∈ W ↔ i ∈ W') :
    (becomes ℓ I q f g W : sProp 𝕄) = becomes ℓ I q f g W' :=
  BI.Region.willBe_congr (fun _ _ => rfl) (fun _ _ => rfl) hw

end WriteMode

/-! ## What the handshakes carry -/

abbrev tLoc (d : Dev nD) : Loc nD τ sig := (SparseCore.T d).loc main_v5
abbrev iLoc (d : Dev nD) : Loc nD τ sig := (SparseCore.T d).loc main_v6
abbrev oLoc (d : Dev nD) : Loc nD τ sig := (SparseCore.T d).loc main_v7

/-- SparseCore `c`'s half of a share of everything, and its subcore `s`'s piece of that half. -/
def half (c : ℕ) : PosShare TreeShare := if c = 0 then fullShare.left else fullShare.right
abbrev piece (c : ℕ) (s : Fin 16) : PosShare TreeShare := Idealize.ShloMosaic.pieceOf (half c) 16 (by decide) s

variable (ft : Dev nD → S1024x128.Idx → Elt F .f32) (fi : Dev nD → S1x4096.Idx → Elt F .i32) (fo : Dev nD → S4096x128.Idx → Elt F .f32)

/-- What SparseCore `c` is handed, and hands back (`W` all of it). -/
def corePay (d : Dev nD) (c : ℕ) (W : Finset S4096x128.Idx) : sProp 𝕄 :=
  iprop((tLoc d ↦{half c} ft d) ∗ (iLoc d ↦{half c} fi d) ∗ becomes (oLoc d) Finset.univ (half c) (fo d) (gathered (ft d) (fi d)) W)

/-- What its subcore `s` is handed, and hands back. -/
def taskPay (d : Dev nD) (c : ℕ) (s : Fin 16) (W : Finset S4096x128.Idx) : sProp 𝕄 :=
  iprop((tLoc d ↦{piece c s} ft d) ∗ (iLoc d ↦{piece c s} fi d)
    ∗ becomes (oLoc d) (oSet s 0) (half c) (fo d) (gathered (ft d) (fi d)) W
    ∗ becomes (oLoc d) (oSet s 1) (half c) (fo d) (gathered (ft d) (fi d)) W)

theorem corePay_tasks (d : Dev nD) (c : ℕ) (W : Finset S4096x128.Idx) :
    (corePay ft fi fo d c W : sProp 𝕄) = bigSep Finset.univ fun s : Fin 16 => taskPay ft fi fo d c s W := by
  unfold corePay taskPay
  rw [bigSep_sep', bigSep_sep', pointsTo_piecesOf (ℓ := tLoc d) Finset.univ (ft d) (o := 16) (by decide) (half c),
    pointsTo_piecesOf (ℓ := iLoc d) Finset.univ (fi d) (o := 16) (by decide) (half c)]
  congr 2
  rw [← oBlk_cover, becomes_biUnion (ℓ := oLoc d) Finset.univ oBlk oBlk_disjoint, BI.bigSep_univ_prod]
  exact bigSep_congr fun s _ => bigSep_univ_two _

instance corePay_storable (d : Dev nD) (c : ℕ) (W : Finset S4096x128.Idx) :
    BI.Storable (upEmb : UEmb _ 𝕄) (corePay ft fi fo d c W) := by unfold corePay; infer_instance
instance taskPay_storable (d : Dev nD) (c : ℕ) (s : Fin 16) (W : Finset S4096x128.Idx) :
    BI.Storable (upEmb : UEmb _ 𝕄) (taskPay ft fi fo d c s W) := by unfold taskPay; infer_instance

theorem nSub_zero : (K (F := F)).nSub 0 = 16 := rfl
theorem nCore_zero : (K (F := F)).nCore 0 = 2 := rfl

def P : (K (F := F)).Pay (nD := nD) (Val := Elt F) (Name := ℕ) (U := UU F) where
  st := fun q d c => match q with | 0 => corePay ft fi fo d c.val ∅
  dn := fun q d c => match q with | 0 => corePay ft fi fo d c.val Finset.univ
  go := fun q d c i => match q with | 0 => taskPay ft fi fo d c.val (Fin.cast nSub_zero i) ∅
  td := fun q d c i => match q with | 0 => taskPay ft fi fo d c.val (Fin.cast nSub_zero i) Finset.univ
  x := fun _ _ => wm

instance P_storable : (P ft fi fo).IsStorable where
  st q d c := match q with | 0 => corePay_storable ft fi fo d c.val ∅
  dn q d c := match q with | 0 => corePay_storable ft fi fo d c.val Finset.univ
  go q d c i := match q with | 0 => taskPay_storable ft fi fo d c.val (Fin.cast nSub_zero i) ∅
  td q d c i := match q with | 0 => taskPay_storable ft fi fo d c.val (Fin.cast nSub_zero i) Finset.univ

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P ft fi fo) 0 := by
  intro d c
  show corePay ft fi fo d c.val ∅ ⊢ |={Set.univ}=> iprop(
      (bigSep Finset.univ fun i : Fin ((K (F := F)).nSub 0) => taskPay ft fi fo d c.val (Fin.cast nSub_zero i) ∅)
      ∗ ((bigSep Finset.univ fun i : Fin ((K (F := F)).nSub 0) => taskPay ft fi fo d c.val (Fin.cast nSub_zero i) Finset.univ)
          -∗ corePay ft fi fo d c.val Finset.univ))
  rw [bigSep_tasks (fun i => taskPay ft fi fo d c.val i ∅), bigSep_tasks (fun i => taskPay ft fi fo d c.val i Finset.univ),
    ← corePay_tasks, ← corePay_tasks]
  iintro H; imodintro
  isplitl [H]; · iexact H
  iintro H; iexact H

/-! ## The task, from what its subcore holds -/

section Task

variable [FloatOps F] (d : Dev nD) (L : grid1.Coords)

abbrev cell (d : Dev nD) (L : grid1.Coords) (sm : DmaSem sig) : GSem nD τ sig := (thr d L, .dma sm)

/-- The subcore's other semaphores, and its other buffers. -/
abbrev semRest (d : Dev nD) (L : grid1.Coords) : Finset (GSem nD τ sig) :=
  (((((ownCells (thr d L)).erase (cell d L (mI 0))).erase (cell d L (mI 1))).erase (cell d L (mO 0))).erase (cell d L (mO 1))).erase (cell d L mG)
abbrev bufRest (L : grid1.Coords) : Finset (DevRef τ sig) :=
  ((ownRefs (τ := τ) (.scVector (cV L) (jV L))).erase ((Proc.scVector (cV L) (jV L)).devRef cc1_scoped0)).erase
    ((Proc.scVector (cV L) (jV L)).devRef cc1_scoped2)

theorem mem_cell (sm : DmaSem sig) (h : (SemLoc.dma sm : SemLoc sig).isScoped .scVector = true) : cell d L sm ∈ ownCells (thr d L) :=
  mem_ownCells.mpr ⟨rfl, h⟩

theorem cell_ne {a b : DmaSem sig} (h : a ≠ b) : cell d L a ≠ cell d L b :=
  fun e => h (SemLoc.dma.inj (Prod.mk.inj e).2)

theorem ownSems0_V :
    (ownSems0 (thr d L) : sProp 𝕄)
      = iprop(free d L (mI 0) ∗ free d L (mI 1) ∗ free d L (mO 0) ∗ free d L (mO 1) ∗ free d L mG
          ∗ bigSep (semRest d L) fun g => semVal g 0) := by
  unfold SparseCore.Cfg.ownSems0
  rw [SparseCore.bigSep_erase' (mem_cell d L (mI 0) (by decide)),
    SparseCore.bigSep_erase' (Finset.mem_erase.mpr ⟨cell_ne d L (by decide), mem_cell d L (mI 1) (by decide)⟩),
    SparseCore.bigSep_erase' (Finset.mem_erase.mpr ⟨cell_ne d L (by decide), Finset.mem_erase.mpr ⟨cell_ne d L (by decide),
      mem_cell d L (mO 0) (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L (mO 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L mG (by decide)⟩⟩⟩⟩)]

theorem ownBufs_V :
    (ownBufs (thr d L) : sProp 𝕄)
      = iprop((∃ f, (thr d L).loc cc1_scoped0 ↦{fullShare} f) ∗ (∃ f, (thr d L).loc cc1_scoped2 ↦{fullShare} f)
          ∗ bigSep (bufRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-- A buffer whole is two disjoint parts and the rest, -/
theorem parts_split {ℓ : Loc nD τ sig} {q : PosShare TreeShare} {f : Buf (Elt F) ℓ} {A B : Finset (Idx ℓ)} (h : B ⊆ Finset.univ \ A) :
    (ℓ ↦{q} f : sProp 𝕄) ⊢ iprop((ℓ ↦[A]{q} f) ∗ (ℓ ↦[B]{q} f) ∗ ℓ ↦[(Finset.univ \ A) \ B]{q} f) := by
  iintro H
  ihave H := (pointsTo_split_subset (q := q) (f := f) (S := Finset.univ) (Finset.subset_univ A)).1 $$ H
  icases H with ⟨HA, H⟩
  ihave H := (pointsTo_split_subset (q := q) (f := f) (S := Finset.univ \ A) h).1 $$ H
  icases H with ⟨HB, HC⟩
  isplitl [HA]; · iexact HA
  isplitl [HB]; · iexact HB
  iexact HC

theorem parts_join {ℓ : Loc nD τ sig} {q : PosShare TreeShare} {f : Buf (Elt F) ℓ} {A B : Finset (Idx ℓ)} (h : B ⊆ Finset.univ \ A) :
    iprop((ℓ ↦[A]{q} f) ∗ (ℓ ↦[B]{q} f) ∗ ℓ ↦[(Finset.univ \ A) \ B]{q} f) ⊢ (ℓ ↦{q} f : sProp 𝕄) := by
  iintro ⟨HA, HB, HC⟩
  iapply (pointsTo_split_subset (q := q) (f := f) (S := Finset.univ) (Finset.subset_univ A)).2
  isplitl [HA]; · iexact HA
  iapply (pointsTo_split_subset (q := q) (f := f) (S := Finset.univ \ A) h).2
  isplitl [HB]; · iexact HB
  iexact HC

/-- and three parts at whatever they hold are the buffer at something. -/
theorem parts_some {ℓ : Loc nD τ sig} {q : PosShare TreeShare} {f f' f'' : Buf (Elt F) ℓ} {A B : Finset (Idx ℓ)} (h : B ⊆ Finset.univ \ A) :
    iprop((ℓ ↦[A]{q} f) ∗ (ℓ ↦[B]{q} f') ∗ ℓ ↦[(Finset.univ \ A) \ B]{q} f'') ⊢ (iprop(∃ g, ℓ ↦{q} g) : sProp 𝕄) := by
  iintro ⟨HA, HB, HC⟩
  iexists (A.piecewise f (B.piecewise f' f''))
  iapply (parts_join h)
  isplitl [HA]
  · iapply (Entails.of_eq (pointsTo_congr fun i hi => (Finset.piecewise_eq_of_mem A f _ hi).symm)); iexact HA
  isplitl [HB]
  · iapply (Entails.of_eq (pointsTo_congr fun i hi => by
      rw [Finset.piecewise_eq_of_notMem A _ _ (Finset.mem_sdiff.mp (h hi)).2, Finset.piecewise_eq_of_mem B _ _ hi])); iexact HB
  iapply (Entails.of_eq (pointsTo_congr fun i hi => by
    rw [Finset.piecewise_eq_of_notMem A _ _ (Finset.mem_sdiff.mp (Finset.mem_sdiff.mp hi).1).2, Finset.piecewise_eq_of_notMem B _ _ (Finset.mem_sdiff.mp hi).2])); iexact HC

local notation "tV" => (Memref.whole Cert.KernelIdeal.main_v5_scv : Memref Cert.KernelIdeal.sig Kind.scVector Space.hbm Cert.KernelIdeal.S1024x128 EltTy.f32)
local notation "iV" => (Memref.whole Cert.KernelIdeal.main_v6_scv : Memref Cert.KernelIdeal.sig Kind.scVector Space.hbm Cert.KernelIdeal.S1x4096 EltTy.i32)
local notation "oV" => (Memref.whole Cert.KernelIdeal.main_v7_scv : Memref Cert.KernelIdeal.sig Kind.scVector Space.hbm Cert.KernelIdeal.S4096x128 EltTy.f32)
local notation "sV" => (Memref.whole Cert.KernelIdeal.cc1_scoped0 : Memref Cert.KernelIdeal.sig Kind.scVector Space.vmem Cert.KernelIdeal.S2x1x128 EltTy.i32)
local notation "rV" => (Memref.whole Cert.KernelIdeal.cc1_scoped2 : Memref Cert.KernelIdeal.sig Kind.scVector Space.vmem Cert.KernelIdeal.S2x128x128 EltTy.f32)

variable {ft fi fo}

theorem tile_body (hF : (K (F := F)).Facts) (hfi : Named (fi d)) (O : CellTallies nD τ sig (HIx 1)) (W : Waits sig (HIx 1)) (hO : ∀ g, O g none = 0) :
    iprop(levAts (K (F := F)).L (K (F := F)).lev ∗ wm ∗ taskPay ft fi fo d (L 0).val (sub L) ∅
        ∗ scopedBufs (thr d L) ∗ scopedSems0 (thr d L) ∗ owes (thr d L) O W)
      ⊢ wp frame (wpE (defs₀ (F := F)) 𝒱₀ (thr d L) none) Set.univ
          (cc1_gather_kernel L tV (Memref.isWhole_whole _) iV (Memref.isWhole_whole _) oV (Memref.isWhole_whole _)
            sV (Memref.isWhole_whole _) cc1_scoped1 rV (Memref.isWhole_whole _) cc1_scoped3 cc1_scoped4)
          fun _ => iprop(taskPay ft fi fo d (L 0).val (sub L) Finset.univ
            ∗ scopedBufs (thr d L) ∗ scopedSems0 (thr d L)
            ∗ ∃ W', ⌜∀ p ∈ W', p ∈ W ∨ p.2 = none⌝ ∗ owes (thr d L) O W') := by
  unfold taskPay
  rw [(K (F := F)).scopedBufs_V hF d (cV L) (jV L), SparseCore.Cfg.scopedSems0_V (Val := Elt F) d (cV L) (jV L), ownSems0_V, ownBufs_V]
  iintro ⟨#Hlv, #Hwm, ⟨Ht, Hi, Ho0, Ho1⟩, ⟨⟨%fs, Hs⟩, ⟨%fr, Hr⟩, Hbufs⟩, ⟨Hmi0, Hmi1, Hmo0, Hmo1, Hmg, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (parts_split (iSet_disjoint (sub L))) $$ Hi
  icases Hi with ⟨Hi0, Hi1, Hi⟩
  ihave Hs := (parts_split (ℓ := (thr d L).loc cc1_scoped0) sSet_disjoint) $$ Hs
  icases Hs with ⟨Hs0, Hs1, Hs⟩
  ihave Hr := (parts_split (ℓ := (thr d L).loc cc1_scoped2) rSet_disjoint) $$ Hr
  icases Hr with ⟨Hr0, Hr1, Hr⟩
  iapply (task_wp d L (piece (L 0).val (sub L)) (half (L 0).val) (ft d) (fo d) hfi fs fs fr fr O W)
  isplitl [Hmw]; · iexact Hmw
  isplitr; · iexact Hwm
  isplitl [Hi0]; · iexact Hi0
  isplitl [Hi1]; · iexact Hi1
  isplitl [Ht]; · unfold tPt; rw [tSet_eq]; iexact Ht
  isplitl [Hs0]; · iexact Hs0
  isplitl [Hs1]; · iexact Hs1
  isplitl [Hr0]; · iexact Hr0
  isplitl [Hr1]; · iexact Hr1
  isplitl [Hmi0]; · iexact Hmi0
  isplitl [Hmi1]; · iexact Hmi1
  isplitl [Hmo0]; · iexact Hmo0
  isplitl [Hmo1]; · iexact Hmo1
  isplitl [Hmg]; · iexact Hmg
  isplitl [Ho0]; · iexact Ho0
  isplitl [Ho1]; · iexact Ho1
  isplitl [HO]; · iexact HO
  iintro ⟨Hi0, Hi1, Ht, ⟨%fs0, Hs0⟩, ⟨%fs1, Hs1⟩, ⟨%fr0, Hr0⟩, ⟨%fr1, Hr1⟩, Hmi0, Hmi1, Hmo0, Hmo1, Hmg, Ho0, Ho1, HO⟩
  isplitl [Hi0 Hi1 Hi Ht Ho0 Ho1]
  · isplitl [Ht]; · unfold tPt; rw [tSet_eq]; iexact Ht
    isplitl [Hi0 Hi1 Hi]
    · iapply (parts_join (iSet_disjoint (sub L)))
      isplitl [Hi0]; · iexact Hi0
      isplitl [Hi1]; · iexact Hi1
      iexact Hi
    isplitl [Ho0]
    · iapply (Entails.of_eq (becomes_mark (ℓ := oLoc d) (I := oSet (sub L) 0) (W := ∅ ∪ oSet (sub L) 0) fun i hi => by simp [hi])); iexact Ho0
    · iapply (Entails.of_eq (becomes_mark (ℓ := oLoc d) (I := oSet (sub L) 1) (W := ∅ ∪ oSet (sub L) 1) fun i hi => by simp [hi])); iexact Ho1
  isplitl [Hs0 Hs1 Hs Hr0 Hr1 Hr Hbufs]
  · isplitl [Hs0 Hs1 Hs]
    · iapply (parts_some (ℓ := (thr d L).loc cc1_scoped0) sSet_disjoint)
      isplitl [Hs0]; · iexact Hs0
      isplitl [Hs1]; · iexact Hs1
      iexact Hs
    isplitl [Hr0 Hr1 Hr]
    · iapply (parts_some (ℓ := (thr d L).loc cc1_scoped2) rSet_disjoint)
      isplitl [Hr0]; · iexact Hr0
      isplitl [Hr1]; · iexact Hr1
      iexact Hr
    iexact Hbufs
  isplitr [HO]
  · isplitl [Hmi0]; · iexact Hmi0
    isplitl [Hmi1]; · iexact Hmi1
    isplitl [Hmo0]; · iexact Hmo0
    isplitl [Hmo1]; · iexact Hmo1
    isplitl [Hmg]; · iexact Hmg
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) cc1_scoped1 rV (Memref.isWhole_whole _) cc1_scoped3 cc1_scoped4) ⟨⟩ c s := rfl

theorem obl_post {θ : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes θ O W')
      ⊢ iprop(A ∗ B ∗ C ∗ ∃ W', ⌜∀ p ∈ W', p ∈ W ∨ p.2 = none ∨ p.2 = some q⌝ ∗ owes θ O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (ft fi fo)

set_option maxRecDepth 16384 in
theorem tileObl (hF : (K (F := F)).Facts) (hfi : ∀ d, Named (fi d)) : (K (F := F)).TileObl (D (F := F)) 𝒱 (P ft fi fo) v₀ 0 := by
  intro d c i O W hO _ _
  simp only [show (P ft fi fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (hfi d) O W hO).trans (wp_mono frame _ _ fun _ => obl_post)

end Task

end Cert.Proof.WholeLaunch
-- ==== Proof.WholeRun.lean ====
/-
  The whole kernel's run: the TensorCore transposes its arguments, runs the assignment call, pads the table, reshapes the assignment,
  starts the SparseCores' call and slices its output; every run ends with the three results at their values, the arguments as they
  were and every counter at zero, the assignment's words naming rows of the table.
-/
module

public import proofs.«01_k».proof.Proof.WholeLaunch
public import proofs.«01_k».proof.Proof.WholeRegion

@[expose] public section

set_option maxRecDepth 4096

noncomputable section

namespace Cert.Proof.WholeRun

open Cert.KernelIdeal Cert.KernelIdeal.Gen
open Cert.Proof.WholeTile Cert.Proof.WholeLaunch Cert.Proof.WholeRegion

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ (UU F) ℕ

variable (m : (ℓ : Loc nD τ sig) → Buf (Elt F) ℓ) (ρ : Dev nD → PrngReg)

variable [FloatOps F]

/-! ## The launch's ghost state -/

def u₀ : UU F := (initOf (K (F := F)).hsCells (K (F := F)).hsToks,
  (initOf (Pipeline.cells (nD := nD) (τ := τ) cfgs cellOf_inj) (Pipeline.launchToks cfgs cellOf_inj), (wm₀ nD τ sig (Elt F), 1)))

/-- What the assignment call's pipeline starts from on a device. -/
abbrev staged (d : Dev nD) : sProp 𝕄 := iprop(Pipeline.cellsGhost cfgs (EP (F := F)) 0 d ∗ Pipeline.toksInit cfgs (EP (F := F)) 0 d)

include m ρ in
theorem start : (ownU (u₀ (F := F)) : sProp 𝕄)
    ⊢ |={Set.univ}=> iprop(BI.own (EH (initOf (K (F := F)).hsCells (K (F := F)).hsToks)) ∗ wm ∗ bigSep Finset.univ fun d : Dev nD => staged (F := F) d) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), (wm₀ nD τ sig (Elt F), 1)) : UR sig nD τ × (WmRA nD τ sig (Elt F) × Counters))) $$ Hu
  icases H with ⟨HH, HR⟩
  ihave H := (own_pair_emb embR (initOf (Pipeline.cells (nD := nD) (τ := τ) cfgs cellOf_inj) (Pipeline.launchToks cfgs cellOf_inj))
    ((wm₀ nD τ sig (Elt F), 1) : WmRA nD τ sig (Elt F) × Counters)) $$ HR
  icases H with ⟨HP, HW⟩
  ihave HP := (show (BI.own ((Emb.inl.trans embR) (initOf (Pipeline.cells (nD := nD) (τ := τ) cfgs cellOf_inj) (Pipeline.launchToks cfgs cellOf_inj))) : sProp 𝕄)
    ⊢ BI.own (EP (F := F) (initOf (Pipeline.cells (nD := nD) (τ := τ) cfgs cellOf_inj) (Pipeline.launchToks cfgs cellOf_inj))) from Entails.rfl) $$ HP
  ihave HW := (show (BI.own ((Emb.inr.trans embR) ((wm₀ nD τ sig (Elt F), 1) : WmRA nD τ sig (Elt F) × Counters)) : sProp 𝕄)
    ⊢ ownU ((wmE (F := F)) (wm₀ nD τ sig (Elt F))) from Entails.rfl) $$ HW
  imod (wmInv_alloc (emb := wmE (F := F)) ⟨m, fun _ => 0, ρ⟩ ∅) $$ HW with ⟨%ι, -, #Hwm⟩
  imod (Pipeline.fund_ghost cfgs (EP (F := F)) cellOf_inj) $$ HP with ⟨Hc, Ht⟩
  imodintro
  isplitl [HH]; · iexact HH
  isplitr
  · unfold wm
    iexists ι; iexact Hwm
  iapply (Entails.of_eq (bigSep_sep' Finset.univ (fun d : Dev nD => Pipeline.cellsGhost cfgs (EP (F := F)) 0 d) (fun d : Dev nD => Pipeline.toksInit cfgs (EP (F := F)) 0 d)).symm)
  isplitl [Hc]
  · iapply (show (bigSep Finset.univ fun d : Dev nD => bigSep Finset.univ fun p => Pipeline.cellsGhost cfgs (EP (F := F)) p d) ⊢ _ from
      bigSep_mono fun d _ => bigSep_elim (Φ := fun p => Pipeline.cellsGhost cfgs (EP (F := F)) p d) (Finset.mem_univ (0 : Fin 1)))
    iexact Hc
  iapply (show (bigSep Finset.univ fun d : Dev nD => bigSep Finset.univ fun p => Pipeline.toksInit cfgs (EP (F := F)) p d) ⊢ _ from
    bigSep_mono fun d _ => bigSep_elim (Φ := fun p => Pipeline.toksInit cfgs (EP (F := F)) p d) (Finset.mem_univ (0 : Fin 1)))
  iexact Ht

/-! ## The TensorCore's operations -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev y' : DevRef τ sig := Proc.devRef .tc (main_v1 : Ref sig .tc)
abbrev n' : DevRef τ sig := Proc.devRef .tc (main_v2_0 : Ref sig .tc)
abbrev l' : DevRef τ sig := Proc.devRef .tc (main_v2_1 : Ref sig .tc)
abbrev k' : DevRef τ sig := Proc.devRef .tc (main_v3 : Ref sig .tc)
abbrev s' : DevRef τ sig := Proc.devRef .tc (main_v4 : Ref sig .tc)
abbrev c' : DevRef τ sig := Proc.devRef .tc (main_c : Ref sig .tc)
abbrev p' : DevRef τ sig := Proc.devRef .tc (main_call0_v0 : Ref sig .tc)
abbrev t' : DevRef τ sig := Proc.devRef .tc (main_v5 : Ref sig .tc)
abbrev i' : DevRef τ sig := Proc.devRef .tc (main_v6 : Ref sig .tc)
abbrev o' : DevRef τ sig := Proc.devRef .tc (main_v7 : Ref sig .tc)
abbrev r' : DevRef τ sig := Proc.devRef .tc (main_v8 : Ref sig .tc)
abbrev e' : DevRef τ sig := Proc.devRef .tc (main_cst : Ref sig .tc)
abbrev q' : DevRef τ sig := Proc.devRef .tc (main_v9 : Ref sig .tc)

abbrev opX : HloOp τ sig (Elt F) := StableHlo.unary main_arg0 main_v0 ((transpose S32x4096 [1, 0] · transposes_S4096x32_S32x4096_1_0) : (⟨S4096x32, .f32⟩ : BufTy).Contents (Elt F) → (⟨S32x4096, .f32⟩ : BufTy).Contents (Elt F))
abbrev opY : HloOp τ sig (Elt F) := StableHlo.unary main_arg1 main_v1 ((transpose S32x1024 [1, 0] · transposes_S1024x32_S32x1024_1_0) : (⟨S1024x32, .f32⟩ : BufTy).Contents (Elt F) → (⟨S32x1024, .f32⟩ : BufTy).Contents (Elt F))
abbrev opIdx : HloOp τ sig (Elt F) := StableHlo.reshape main_v2_0 main_v3 (rfl : (.i32 : EltTy) = .i32) shapeCasts_S1x4096_S4096
abbrev opSum : HloOp τ sig (Elt F) := StableHlo.reshape main_v2_1 main_v4 (rfl : (.f32 : EltTy) = .f32) shapeCasts_S1x1_S_
abbrev opZero : HloOp τ sig (Elt F) := StableHlo.nullary main_c (constantI S_ 32 0#32)
abbrev opCvt : HloOp τ sig (Elt F) := StableHlo.TRef.unary (.of main_c : StableHlo.TRef sig ⟨S_, .i32⟩) main_call0.v0 (sitofp .f32)
abbrev opPad : HloOp τ sig (Elt F) := StableHlo.TRef.binary (.of main_arg1 : StableHlo.TRef sig ⟨S1024x32, .f32⟩) main_call0.v0 main_call0.v1
  (fun x v => pad S1024x128 ![0, 0] ![0, 96] ![0, 0] x v pads_S1024x32_S1024x128_000_0960 h_S_)
abbrev opList : HloOp τ sig (Elt F) := StableHlo.reshape main_v3 main_v6 (rfl : (.i32 : EltTy) = .i32) shapeCasts_S4096_S1x4096
abbrev opSlice : HloOp τ sig (Elt F) := StableHlo.unary main_v7 main_v8
  ((extractStridedSlice S4096x32 ![0, 0] · slices_S4096x128_S4096x32_0_0) : (⟨S4096x128, .f32⟩ : BufTy).Contents (Elt F) → (⟨S4096x32, .f32⟩ : BufTy).Contents (Elt F))
abbrev opSize : HloOp τ sig (Elt F) := StableHlo.nullary main_cst (constant S_ .f32 0x44800000#32)
abbrev opMean : HloOp τ sig (Elt F) := StableHlo.binary main_v4 main_cst main_v9 (Host.divf : (⟨S_, .f32⟩ : BufTy).Contents (Elt F) → (⟨S_, .f32⟩ : BufTy).Contents (Elt F) → (⟨S_, .f32⟩ : BufTy).Contents (Elt F))

/-- The TensorCore's arrays. -/
abbrev SB : Finset (DevRef τ sig) := {x', y', n', l', s', c', p', e'}
abbrev SA : Finset (DevRef τ sig) := {a0', a1', r', k', q', t', i', o', x', y', n', l', s', c', p', e'}

/-- What they hold at the launch, and after each step: before the assignment call `V2`, after it `V3`; before the SparseCores' call
    `V9`, after it `V10`; at the end `V13`. -/
def V0 (d : Dev nD) : Valuation τ sig (Elt F) := fun b => m (d, b)
def V1 (d : Dev nD) : Valuation τ sig (Elt F) := (opX (F := F)).result (V0 m d)
def V2 (d : Dev nD) : Valuation τ sig (Elt F) := (opY (F := F)).result (V1 m d)
/-- The same, buffer by buffer, as the call takes it. -/
abbrev V2b : (c : Dev nD) → (b : Ref sig .tc) → Buf (Elt F) ((c : Thread nD τ).loc b) := fun c b => V2 m c (Proc.devRef .tc b)
def V3 (d : Dev nD) : Valuation τ sig (Elt F) :=
  Function.update (Function.update (V2 m d) n' (outIdx (V2b m) d)) l' (outLoss (V2b m) d)
abbrev V3b : (c : Dev nD) → (b : Ref sig .tc) → Buf (Elt F) ((c : Thread nD τ).loc b) := fun c b => V3 m c (Proc.devRef .tc b)
def V4 (d : Dev nD) : Valuation τ sig (Elt F) := (opIdx (F := F)).result (V3 m d)
def V5 (d : Dev nD) : Valuation τ sig (Elt F) := (opSum (F := F)).result (V4 m d)
def V6 (d : Dev nD) : Valuation τ sig (Elt F) := (opZero (F := F)).result (V5 m d)
def V7 (d : Dev nD) : Valuation τ sig (Elt F) := (opCvt (F := F)).result (V6 m d)
def V8 (d : Dev nD) : Valuation τ sig (Elt F) := (opPad (F := F)).result (V7 m d)
def V9 (d : Dev nD) : Valuation τ sig (Elt F) := (opList (F := F)).result (V8 m d)
def tab (d : Dev nD) : S1024x128.Idx → Elt F .f32 := V9 m d t'
def lst (d : Dev nD) : S1x4096.Idx → Elt F .i32 := V9 m d i'
def old (d : Dev nD) : S4096x128.Idx → Elt F .f32 := V9 m d o'
def V10 (d : Dev nD) : Valuation τ sig (Elt F) := Function.update (V9 m d) o' (gathered (tab m d) (lst m d))
def V11 (d : Dev nD) : Valuation τ sig (Elt F) := (opSlice (F := F)).result (V10 m d)
def V12 (d : Dev nD) : Valuation τ sig (Elt F) := (opSize (F := F)).result (V11 m d)
def V13 (d : Dev nD) : Valuation τ sig (Elt F) := (opMean (F := F)).result (V12 m d)

/-! ## Each step leaves every array but the one it writes -/

theorem V1_ne (d : Dev nD) {b : DevRef τ sig} (h : b ≠ x') : V1 m d b = V0 m d b := (opX (F := F)).result_of_not_mem _ (show b ∉ ({x'} : Finset (DevRef τ sig)) by simpa using h)
theorem V2_ne (d : Dev nD) {b : DevRef τ sig} (h : b ≠ y') : V2 m d b = V1 m d b := (opY (F := F)).result_of_not_mem _ (show b ∉ ({y'} : Finset (DevRef τ sig)) by simpa using h)
theorem V3_l (d : Dev nD) : V3 m d l' = outLoss (V2b m) d := Function.update_self _ _ _
theorem V3_n (d : Dev nD) : V3 m d n' = outIdx (V2b m) d := (Function.update_of_ne (show n' ≠ l' by decide) _ _).trans (Function.update_self _ _ _)
theorem V3_ne (d : Dev nD) {b : DevRef τ sig} (h₁ : b ≠ n') (h₂ : b ≠ l') : V3 m d b = V2 m d b :=
  (Function.update_of_ne h₂ _ _).trans (Function.update_of_ne h₁ _ _)
theorem V4_ne (d : Dev nD) {b : DevRef τ sig} (h : b ≠ k') : V4 m d b = V3 m d b := (opIdx (F := F)).result_of_not_mem _ (show b ∉ ({k'} : Finset (DevRef τ sig)) by simpa using h)
theorem V5_ne (d : Dev nD) {b : DevRef τ sig} (h : b ≠ s') : V5 m d b = V4 m d b := (opSum (F := F)).result_of_not_mem _ (show b ∉ ({s'} : Finset (DevRef τ sig)) by simpa using h)
theorem V6_ne (d : Dev nD) {b : DevRef τ sig} (h : b ≠ c') : V6 m d b = V5 m d b := (opZero (F := F)).result_of_not_mem _ (show b ∉ ({c'} : Finset (DevRef τ sig)) by simpa using h)
theorem V7_ne (d : Dev nD) {b : DevRef τ sig} (h : b ≠ p') : V7 m d b = V6 m d b := (opCvt (F := F)).result_of_not_mem _ (show b ∉ ({p'} : Finset (DevRef τ sig)) by simpa using h)
theorem V8_ne (d : Dev nD) {b : DevRef τ sig} (h : b ≠ t') : V8 m d b = V7 m d b := (opPad (F := F)).result_of_not_mem _ (show b ∉ ({t'} : Finset (DevRef τ sig)) by simpa using h)
theorem V9_ne (d : Dev nD) {b : DevRef τ sig} (h : b ≠ i') : V9 m d b = V8 m d b := (opList (F := F)).result_of_not_mem _ (show b ∉ ({i'} : Finset (DevRef τ sig)) by simpa using h)
theorem V10_o (d : Dev nD) : V10 m d o' = gathered (tab m d) (lst m d) := Function.update_self _ _ _
theorem V10_ne (d : Dev nD) {b : DevRef τ sig} (h : b ≠ o') : V10 m d b = V9 m d b := Function.update_of_ne h _ _
theorem V11_ne (d : Dev nD) {b : DevRef τ sig} (h : b ≠ r') : V11 m d b = V10 m d b := (opSlice (F := F)).result_of_not_mem _ (show b ∉ ({r'} : Finset (DevRef τ sig)) by simpa using h)
theorem V12_ne (d : Dev nD) {b : DevRef τ sig} (h : b ≠ e') : V12 m d b = V11 m d b := (opSize (F := F)).result_of_not_mem _ (show b ∉ ({e'} : Finset (DevRef τ sig)) by simpa using h)
theorem V13_ne (d : Dev nD) {b : DevRef τ sig} (h : b ≠ q') : V13 m d b = V12 m d b := (opMean (F := F)).result_of_not_mem _ (show b ∉ ({q'} : Finset (DevRef τ sig)) by simpa using h)

/-! ## What the arrays hold -/

/-- The points and the table, transposed. -/
theorem V2_x (d : Dev nD) : V2 m d x' = transpose S32x4096 [1, 0] (m (d, a0') : S4096x32.Idx → Elt F .f32) transposes_S4096x32_S32x4096_1_0 := by
  rw [V2_ne m d (by decide)]
  exact StableHlo.unary_result _ _ _ _ _ _
theorem V2_y (d : Dev nD) : V2 m d y' = transpose S32x1024 [1, 0] (m (d, a1') : S1024x32.Idx → Elt F .f32) transposes_S1024x32_S32x1024_1_0 := by
  refine (StableHlo.unary_result _ _ _ _ _ _).trans ?_
  rw [show V1 m d (Proc.devRef .tc main_arg1) = m (d, a1') from V1_ne m d (by decide)]
theorem V2_a1 (d : Dev nD) : V2 m d a1' = m (d, a1') := by rw [V2_ne m d (by decide), V1_ne m d (by decide)]; rfl

/-- The assignment, as a list. -/
def near (d : Dev nD) : S4096.Idx → Elt F .i32 := shapeCast S4096 (outIdx (V2b m) d : S1x4096.Idx → Elt F .i32) shapeCasts_S1x4096_S4096

theorem V4_k (d : Dev nD) : V4 m d k' = near m d := by
  rw [show V4 m d k' = _ from StableHlo.reshape_result _ _ _ _ _ _ _]
  rw [V3_n]; rfl

theorem lst_eq (d : Dev nD) : lst m d = shapeCast S1x4096 (near m d) shapeCasts_S4096_S1x4096 := by
  unfold lst
  rw [show V9 m d i' = _ from StableHlo.reshape_result _ _ _ _ _ _ _]
  rw [V8_ne m d (b := k') (by decide), V7_ne m d (b := k') (by decide), V6_ne m d (b := k') (by decide), V5_ne m d (b := k') (by decide), V4_k]
  rfl

/-- The table is the second argument, padded on the right. -/
theorem tab_eq (d : Dev nD) : ∃ v : S_.Idx → Elt F .f32, tab m d
    = pad S1024x128 ![0, 0] ![0, 96] ![0, 0] (m (d, a1') : S1024x32.Idx → Elt F .f32) v pads_S1024x32_S1024x128_000_0960 h_S_ := by
  refine ⟨V7 m d p', ?_⟩
  unfold tab
  rw [V9_ne m d (by decide)]
  rw [show V8 m d t' = _ from StableHlo.binary_result _ _ _ _ _ _ _ _]
  have e : V7 m d a1' = m (d, a1') := by
    rw [V7_ne m d (by decide), V6_ne m d (by decide), V5_ne m d (by decide), V4_ne m d (by decide), V3_ne m d (by decide) (by decide), V2_a1]
  rw [show V7 m d (Proc.devRef .tc (StableHlo.TRef.of main_arg1 : StableHlo.TRef sig ⟨S1024x32, .f32⟩).ref) = m (d, a1') from e]
  rfl

/-- The first result: the rows gathered, without the padding. -/
def res (d : Dev nD) : S4096x32.Idx → Elt F .f32 :=
  extractStridedSlice S4096x32 ![0, 0] (gathered (tab m d) (lst m d)) slices_S4096x128_S4096x32_0_0
/-- The third: the running loss after the last block, over 1024. -/
def mean (d : Dev nD) : S_.Idx → Elt F .f32 :=
  Host.divf (shapeCast S_ (outLoss (V2b m) d : S1x1.Idx → Elt F .f32) shapeCasts_S1x1_S_) (constant S_ .f32 0x44800000#32)

theorem V13_r (d : Dev nD) : V13 m d r' = res m d := by
  rw [V13_ne m d (by decide), V12_ne m d (by decide)]
  exact (StableHlo.unary_result _ _ _ _ _ _).trans (by rw [V10_o]; rfl)
theorem V13_k (d : Dev nD) : V13 m d k' = near m d := by
  rw [V13_ne m d (by decide), V12_ne m d (by decide), V11_ne m d (by decide), V10_ne m d (by decide), V9_ne m d (by decide), V8_ne m d (by decide),
    V7_ne m d (by decide), V6_ne m d (by decide), V5_ne m d (by decide), V4_k]
theorem V12_e (d : Dev nD) : V12 m d e' = (constant S_ .f32 0x44800000#32 : S_.Idx → Elt F .f32) := StableHlo.nullary_result _ _ _ _
theorem V5_s (d : Dev nD) : V5 m d s' = shapeCast S_ (outLoss (V2b m) d : S1x1.Idx → Elt F .f32) shapeCasts_S1x1_S_ := by
  rw [show V5 m d s' = _ from StableHlo.reshape_result _ _ _ _ _ _ _]
  rw [V4_ne m d (b := l') (by decide), V3_l]; rfl
theorem V12_s (d : Dev nD) : V12 m d s' = shapeCast S_ (outLoss (V2b m) d : S1x1.Idx → Elt F .f32) shapeCasts_S1x1_S_ := by
  rw [V12_ne m d (by decide), V11_ne m d (by decide), V10_ne m d (by decide), V9_ne m d (by decide), V8_ne m d (by decide),
    V7_ne m d (by decide), V6_ne m d (by decide), V5_s]
theorem V13_q (d : Dev nD) : V13 m d q' = mean m d := by
  refine (StableHlo.binary_result _ _ _ _ _ _ _ _).trans ?_
  rw [V12_e, V12_s]; rfl
theorem V13_a (d : Dev nD) {b : DevRef τ sig} (hx : b ≠ x') (hy : b ≠ y') (hn : b ≠ n') (hl : b ≠ l') (hk : b ≠ k') (hs : b ≠ s') (hc : b ≠ c') (hp : b ≠ p')
    (ht : b ≠ t') (hi : b ≠ i') (ho : b ≠ o') (hr : b ≠ r') (he : b ≠ e') (hq : b ≠ q') : V13 m d b = m (d, b) := by
  rw [V13_ne m d hq, V12_ne m d he, V11_ne m d hr, V10_ne m d ho, V9_ne m d hi, V8_ne m d ht, V7_ne m d hp, V6_ne m d hc, V5_ne m d hs, V4_ne m d hk,
    V3_ne m d hn hl, V2_ne m d hy, V1_ne m d hx]; rfl
theorem V13_a0 (d : Dev nD) : V13 m d a0' = m (d, a0') := by apply V13_a <;> decide
theorem V13_a1 (d : Dev nD) : V13 m d a1' = m (d, a1') := by apply V13_a <;> decide

/-! ## The arrays held -/

theorem held_SA (d : Dev nD) (W : Valuation τ sig (Elt F)) :
    (held (SparseCore.T d) SA W : sProp 𝕄)
      = iprop(((SparseCore.T d).loc main_arg0 ↦{fullShare} W a0') ∗ ((SparseCore.T d).loc main_arg1 ↦{fullShare} W a1')
          ∗ ((SparseCore.T d).loc main_v8 ↦{fullShare} W r') ∗ ((SparseCore.T d).loc main_v3 ↦{fullShare} W k')
          ∗ ((SparseCore.T d).loc main_v9 ↦{fullShare} W q') ∗ (tLoc d ↦{fullShare} W t') ∗ (iLoc d ↦{fullShare} W i')
          ∗ (oLoc d ↦{fullShare} W o') ∗ held (SparseCore.T d) SB W) := by
  unfold held SA
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide)]

theorem SA_eq : (StableHlo.tcRefs τ sig).filter (fun b => ¬ b.isScoped) = SA := by
  rw [show SA = ({main_arg0, main_arg1, main_v8, main_v3, main_v9, main_v5, main_v6, main_v7, main_v0, main_v1, main_v2_0, main_v2_1, main_v4, main_c,
      main_call0_v0, main_cst} : Finset (Ref sig .tc)).map ⟨Proc.devRef (sig := sig) (.tc : Proc τ), Proc.devRef_injective _⟩ by simp only [Finset.map_insert, Finset.map_singleton]; rfl,
    ← show (Finset.univ.filter fun b : Ref sig .tc => ¬ b.isScoped) = {main_arg0, main_arg1, main_v8, main_v3, main_v9, main_v5, main_v6, main_v7, main_v0, main_v1,
      main_v2_0, main_v2_1, main_v4, main_c, main_call0_v0, main_cst} by decide]
  unfold StableHlo.tcRefs
  rw [Finset.filter_map]
  rfl

theorem unscoped_held (d : Dev nD) (W : Valuation τ sig (Elt F)) :
    (unscopedBufs d (fun b => W (Proc.devRef .tc b)) : sProp 𝕄) = held (SparseCore.T d) SA W := by
  rw [← SA_eq]
  unfold unscopedBufs StableHlo.held StableHlo.tcRefs
  rw [Finset.filter_map, bigSep_map]
  rfl

abbrev PP : (K (F := F)).Pay (nD := nD) (Val := Elt F) (Name := ℕ) (U := UU F) := P (tab m) (lst m) (old m)

theorem halves {ℓ : Loc nD τ sig} (f : Buf (Elt F) ℓ) :
    (ℓ ↦{fullShare} f : sProp 𝕄) = iprop((ℓ ↦{half 0} f) ∗ ℓ ↦{half 1} f) :=
  BI.Entails.antisymm (pointsTo_share (PosShare.mem_left_op_right fullShare)).1 (pointsTo_share (PosShare.mem_left_op_right fullShare)).2

theorem st0_eq (d : Dev nD) : (bigSep Finset.univ fun c : Fin ((K (F := F)).nCore 0) => (PP m).st 0 d c)
    = iprop(corePay (tab m) (lst m) (old m) d 0 ∅ ∗ corePay (tab m) (lst m) (old m) d 1 ∅) :=
  bigSep_univ_two fun c : Fin 2 => corePay (tab m) (lst m) (old m) d c.val ∅
theorem dn0_eq (d : Dev nD) : (bigSep Finset.univ fun c : Fin ((K (F := F)).nCore 0) => (PP m).dn 0 d c)
    = iprop(corePay (tab m) (lst m) (old m) d 0 Finset.univ ∗ corePay (tab m) (lst m) (old m) d 1 Finset.univ) :=
  bigSep_univ_two fun c : Fin 2 => corePay (tab m) (lst m) (old m) d c.val Finset.univ

/-- Table, list and output, whole, are what the two SparseCores are handed; and back. -/
theorem cores_start (d : Dev nD) (ft : Dev nD → S1024x128.Idx → Elt F .f32) (fi : Dev nD → S1x4096.Idx → Elt F .i32) (fo : Dev nD → S4096x128.Idx → Elt F .f32) :
    iprop(wm ∗ (tLoc d ↦{fullShare} ft d) ∗ (iLoc d ↦{fullShare} fi d) ∗ (oLoc d ↦{fullShare} fo d))
      ⊢ (iprop(|={Set.univ}=> (corePay ft fi fo d 0 ∅ ∗ corePay ft fi fo d 1 ∅)) : sProp 𝕄) := by
  unfold corePay wm
  rw [halves (ℓ := tLoc d), halves (ℓ := iLoc d)]
  iintro ⟨⟨%ι, #Hwm⟩, ⟨Ht0, Ht1⟩, ⟨Hi0, Hi1⟩, Ho⟩
  imod (pointsTo_castIn (emb := wmE (F := F)) (ℓ := oLoc d) (fun i => some (gathered (ft d) (fi d) i))) $$ [Ho] with Hw
  · isplitr; · iexact Hwm
    iexact Ho
  icases Hw with ⟨Hw0, Hw1⟩
  imodintro
  isplitl [Ht0 Hi0 Hw0]
  · isplitl [Ht0]; · iexact Ht0
    isplitl [Hi0]; · iexact Hi0
    iexact Hw0
  isplitl [Ht1]; · iexact Ht1
  isplitl [Hi1]; · iexact Hi1
  iexact Hw1

theorem becomes_halves (ℓ : Loc nD τ sig) (f g : Buf (Elt F) ℓ) (W : Finset (Idx ℓ)) :
    (iprop(becomes ℓ Finset.univ (half 0) f g W ∗ becomes ℓ Finset.univ (half 1) f g W) : sProp 𝕄)
      ⊢ willBeTo (wmE (F := F)) ℓ Finset.univ fullShare f (fun i => some (g i)) W := by
  show (iprop(becomes ℓ Finset.univ fullShare.left f g W ∗ becomes ℓ Finset.univ fullShare.right f g W) : sProp 𝕄) ⊢ _
  iintro ⟨H₁, H₂⟩
  icombine H₁ H₂ as H
  iapply (Entails.of_eq (congrArg (fun W => (willBeTo (wmE (F := F)) ℓ Finset.univ fullShare f (fun i => some (g i)) W : sProp 𝕄)) (Finset.union_self W)))
  iexact H

theorem cores_end (d : Dev nD) (ft : Dev nD → S1024x128.Idx → Elt F .f32) (fi : Dev nD → S1x4096.Idx → Elt F .i32) (fo : Dev nD → S4096x128.Idx → Elt F .f32) :
    iprop(wm ∗ corePay ft fi fo d 0 Finset.univ ∗ corePay ft fi fo d 1 Finset.univ)
      ⊢ (iprop(|={Set.univ}=> ((tLoc d ↦{fullShare} ft d) ∗ (iLoc d ↦{fullShare} fi d) ∗ (oLoc d ↦{fullShare} gathered (ft d) (fi d)))) : sProp 𝕄) := by
  unfold corePay wm
  rw [halves (ℓ := tLoc d), halves (ℓ := iLoc d)]
  iintro ⟨⟨%ι, #Hwm⟩, ⟨Ht0, Hi0, Hw0⟩, ⟨Ht1, Hi1, Hw1⟩⟩
  ihave Hw := (becomes_halves (oLoc d) (fo d) (gathered (ft d) (fi d)) Finset.univ) $$ [Hw0 Hw1]
  · isplitl [Hw0] <;> iassumption
  imod (willBeTo_castOut_some (emb := wmE (F := F)) (ℓ := oLoc d) (f := fo d) (g := gathered (ft d) (fi d)) (W := Finset.univ)) $$ [Hw] with Ho
  · isplitr; · iexact Hwm
    iexact Hw
  imodintro
  isplitl [Ht0 Ht1]; · isplitl [Ht0] <;> iassumption
  isplitl [Hi0 Hi1]; · isplitl [Hi0] <;> iassumption
  rw [Finset.piecewise_univ]
  iexact Ho

theorem rest_eq (d : Dev nD) : (held (SparseCore.T d) SB (V10 m d) : sProp 𝕄) = held (SparseCore.T d) SB (V9 m d) := by
  unfold held
  refine bigSep_congr fun b hb => ?_
  rw [V10_ne m d fun h => (show o' ∉ SB by decide) (h ▸ hb)]

include ρ in
theorem hu₀ : (ownU (u₀ (F := F)) : sProp 𝕄)
    ⊢ |={Set.univ}=> iprop(BI.own (EH (initOf (K (F := F)).hsCells (K (F := F)).hsToks)) ∗ (bigSep Finset.univ fun d : Dev nD => iprop(wm ∗ staged (F := F) d))
        ∗ bigSep Finset.univ fun thr : Thread nD τ => bigSep Finset.univ fun q : Fin 1 => (PP m).x q thr) := by
  iintro Hu
  imod (start m ρ) $$ Hu with ⟨HH, #Hwm, Hst⟩
  imodintro
  isplitl [HH]; · iexact HH
  isplitl [Hst]
  · iapply (Entails.of_eq (bigSep_sep' Finset.univ (fun _ : Dev nD => wm (F := F)) (fun d : Dev nD => staged (F := F) d)).symm)
    isplitr
    · iapply (bigSep_of_persistent Finset.univ (wm (F := F))); iexact Hwm
    iexact Hst
  · iapply (bigSep_of_persistent Finset.univ (bigSep Finset.univ fun _ : Fin 1 => wm (F := F)))
    iapply (bigSep_of_persistent Finset.univ (wm (F := F))); iexact Hwm

theorem hX : (opX (F := F)).bufs ⊆ SA := show ({a0', x'} : Finset (DevRef τ sig)) ⊆ SA by decide
theorem hY : (opY (F := F)).bufs ⊆ SA := show ({a1', y'} : Finset (DevRef τ sig)) ⊆ SA by decide
theorem hIdx : (opIdx (F := F)).bufs ⊆ SA := show ({n', k'} : Finset (DevRef τ sig)) ⊆ SA by decide
theorem hSum : (opSum (F := F)).bufs ⊆ SA := show ({l', s'} : Finset (DevRef τ sig)) ⊆ SA by decide
theorem hZero : (opZero (F := F)).bufs ⊆ SA := show ({c'} : Finset (DevRef τ sig)) ⊆ SA by decide
theorem hCvt : (opCvt (F := F)).bufs ⊆ SA := show ({c', p'} : Finset (DevRef τ sig)) ⊆ SA by decide
theorem hPad : (opPad (F := F)).bufs ⊆ SA := show ({a1', p', t'} : Finset (DevRef τ sig)) ⊆ SA by decide
theorem hList : (opList (F := F)).bufs ⊆ SA := show ({k', i'} : Finset (DevRef τ sig)) ⊆ SA by decide
theorem hSlice : (opSlice (F := F)).bufs ⊆ SA := show ({o', r'} : Finset (DevRef τ sig)) ⊆ SA by decide
theorem hSize : (opSize (F := F)).bufs ⊆ SA := show ({e'} : Finset (DevRef τ sig)) ⊆ SA by decide
theorem hMean : (opMean (F := F)).bufs ⊆ SA := show ({s', e', q'} : Finset (DevRef τ sig)) ⊆ SA by decide

/-- The assignment call, run on device `d`'s TensorCore. -/
theorem wp_assign [∀ e, Nonempty (Elt F e)] (d : Dev nD) (Q : PUnit → sProp 𝕄) :
    iprop((iprop(boundary (SparseCore.T d) ∗ held (SparseCore.T d) SA (V3 m d) ∗ owing (F := F) d) -∗ Q ⟨⟩)
        ∗ boundary (SparseCore.T d) ∗ held (SparseCore.T d) SA (V2 m d) ∗ owing (F := F) d ∗ levAts (K (F := F)).L (K (F := F)).lev ∗ staged (F := F) d)
      ⊢ wp frame (wpE ((K (F := F)).defs (D (F := F))) 𝒱 (SparseCore.T d) none) Set.univ
          (Prog.lift (.customCall (SparseCore.inner (Pipeline.entry 0)) ())) Q := by
  rw [← unscoped_held, ← unscoped_held]
  exact wp_tcCall (V2b m) (V3b m) d (fun c => V3_n m c) (fun c => V3_l m c)
    (fun c b h₁ h₂ => V3_ne m c (fun h => h₁ (Proc.devRef_injective _ h)) (fun h => h₂ (Proc.devRef_injective _ h))) Q

/-- What @main leaves the claims. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ ((SparseCore.T d).loc main_v8 ↦{fullShare} res m d)
  ∗ ((SparseCore.T d).loc main_v3 ↦{fullShare} near m d) ∗ (SparseCore.T d).loc main_v9 ↦{fullShare} mean m d)

/-- @main on device `d`'s TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ (wm ∗ staged (F := F) d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) SA (V0 m d) from unscoped_held d (V0 m d)]
  simp only [main, fn_pad.body, wp_bind, wp_pure]
  iintro ⟨#Hctx, Hst, ⟨Hb, Hheld, Hts, -⟩, #Hwm, Hstaged⟩
  iapply (wp_hlo_within 𝒱 (SparseCore.T d) none Set.univ (op := opX) (S := SA) hX (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opY) (S := SA) hY (V := V1 m d)) $$ [Hb Hheld]
  · isplitl [Hb]; · iexact Hb
    iexact Hheld
  iintro ⟨Hb, Hheld⟩
  rw [wp_ret]; imodintro
  iapply (show _ ⊢ wp frame (wpE ((K (F := F)).defs (D (F := F))) 𝒱 (SparseCore.T d) none) Set.univ
          (Prog.lift (.customCall (SparseCore.inner (Pipeline.entry 0)) ())) _ from wp_assign m d _)
  ihave Hst' := (show (K (F := F)).tcSt EH d 0 ⊢ iprop(owing (F := F) d ∗ _) from by unfold SparseCore.Cfg.tcSt owing; exact Entails.rfl) $$ Hst
  icases Hst' with ⟨Ho, Hst⟩
  isplitl [Hst Hts]
  · iintro ⟨Hb, Hheld, Ho⟩
    ihave Hst := (show iprop(owing (F := F) d ∗ _) ⊢ (K (F := F)).tcSt EH d 0 from by unfold SparseCore.Cfg.tcSt owing; exact Entails.rfl) $$ [Ho Hst]
    · isplitl [Ho]; · iexact Ho
      iexact Hst
    iapply (wp_hlo_within 𝒱 (SparseCore.T d) none Set.univ (op := opIdx) (S := SA) hIdx (V := V3 m d)) $$ [Hb Hheld]
    · isplitl [Hb]; · iexact Hb
      iexact Hheld
    iintro ⟨Hb, Hheld⟩
    rw [wp_ret]; imodintro
    iapply (wp_hlo_within 𝒱 (SparseCore.T d) none Set.univ (op := opSum) (S := SA) hSum (V := V4 m d)) $$ [Hb Hheld]
    · isplitl [Hb]; · iexact Hb
      iexact Hheld
    iintro ⟨Hb, Hheld⟩
    rw [wp_ret]; imodintro
    iapply (wp_hlo_within 𝒱 (SparseCore.T d) none Set.univ (op := opZero) (S := SA) hZero (V := V5 m d)) $$ [Hb Hheld]
    · isplitl [Hb]; · iexact Hb
      iexact Hheld
    iintro ⟨Hb, Hheld⟩
    rw [wp_ret]; imodintro
    iapply (wp_hlo_within 𝒱 (SparseCore.T d) none Set.univ (op := opCvt) (S := SA) hCvt (V := V6 m d)) $$ [Hb Hheld]
    · isplitl [Hb]; · iexact Hb
      iexact Hheld
    iintro ⟨Hb, Hheld⟩
    rw [wp_ret]; imodintro
    iapply (wp_hlo_within 𝒱 (SparseCore.T d) none Set.univ (op := opPad) (S := SA) hPad (V := V7 m d)) $$ [Hb Hheld]
    · isplitl [Hb]; · iexact Hb
      iexact Hheld
    iintro ⟨Hb, Hheld⟩
    rw [wp_ret]; imodintro; imodintro
    iapply (wp_hlo_within 𝒱 (SparseCore.T d) none Set.univ (op := opList) (S := SA) hList (V := V8 m d)) $$ [Hb Hheld]
    · isplitl [Hb]; · iexact Hb
      iexact Hheld
    iintro ⟨Hb, Hheld⟩
    rw [wp_ret]; imodintro
    ihave Hh := (show held (SparseCore.T d) SA ((opList (F := F)).result (V8 m d)) ⊢ _ from Entails.of_eq (held_SA (F := F) d (V9 m d))) $$ Hheld
    icases Hh with ⟨Ha0, Ha1, Hr, Hk, Hq, Ht, Hi, Ho, Hrest⟩
    imod (cores_start d (tab m) (lst m) (old m)) $$ [Ht Hi Ho] with Hcores
    · isplitr; · iexact Hwm
      isplitl [Ht]; · iexact Ht
      isplitl [Hi]; · iexact Hi
      iexact Ho
    iapply ((K (F := F)).wp_run (D (F := F)) 𝒱 (EH := EH) (P := PP m) κ d 0) $$ [Hst Hcores Hb Hts Ha0 Ha1 Hr Hk Hq Hrest]
    isplitr; · iexact Hctx
    isplitl [Hst]; · iexact Hst
    isplitl [Hcores]
    · rw [st0_eq]; iexact Hcores
    iintro ⟨Hst, Hdn⟩
    ihave Hdn' := (Entails.of_eq (dn0_eq m d)) $$ Hdn
    imod (cores_end d (tab m) (lst m) (old m)) $$ [Hdn'] with ⟨Ht, Hi, Ho⟩
    · isplitr; · iexact Hwm
      iexact Hdn'
    iapply (wp_hlo_within 𝒱 (SparseCore.T d) none Set.univ (op := opSlice) (S := SA) hSlice (V := V10 m d)) $$ [Hb Ha0 Ha1 Hr Hk Hq Ht Hi Ho Hrest]
    · isplitl [Hb]; · iexact Hb
      rw [held_SA, V10_o, V10_ne m d (b := a0') (by decide), V10_ne m d (b := a1') (by decide), V10_ne m d (b := r') (by decide),
        V10_ne m d (b := k') (by decide), V10_ne m d (b := q') (by decide), V10_ne m d (b := t') (by decide), V10_ne m d (b := i') (by decide), rest_eq]
      isplitl [Ha0]; · iexact Ha0
      isplitl [Ha1]; · iexact Ha1
      isplitl [Hr]; · iexact Hr
      isplitl [Hk]; · iexact Hk
      isplitl [Hq]; · iexact Hq
      isplitl [Ht]; · iexact Ht
      isplitl [Hi]; · iexact Hi
      isplitl [Ho]; · iexact Ho
      iexact Hrest
    iintro ⟨Hb, Hheld⟩
    rw [wp_ret]; imodintro
    iapply (wp_hlo_within 𝒱 (SparseCore.T d) none Set.univ (op := opSize) (S := SA) hSize (V := V11 m d)) $$ [Hb Hheld]
    · isplitl [Hb]; · iexact Hb
      iexact Hheld
    iintro ⟨Hb, Hheld⟩
    rw [wp_ret]; imodintro
    iapply (wp_hlo_within 𝒱 (SparseCore.T d) none Set.univ (op := opMean) (S := SA) hMean (V := V12 m d)) $$ [Hb Hheld]
    · isplitl [Hb]; · iexact Hb
      iexact Hheld
    iintro ⟨Hb, Hheld⟩
    rw [wp_ret]; imodintro
    ihave Hh := (show held (SparseCore.T d) SA ((opMean (F := F)).result (V12 m d)) ⊢ _ from Entails.of_eq (held_SA (F := F) d (V13 m d))) $$ Hheld
    rw [V13_a0, V13_a1, V13_r, V13_k, V13_q]
    icases Hh with ⟨Ha0, Ha1, Hr, Hk, Hq, -, -, -, -⟩
    imodintro
    isplitl [Hst]; · iexact Hst
    isplitr [Hb Hts]
    · isplitl [Ha0]; · iexact Ha0
      isplitl [Ha1]; · iexact Ha1
      isplitl [Hr]; · iexact Hr
      isplitl [Hk]; · iexact Hk
      iexact Hq
    isplitl [Hb] <;> iassumption
  isplitl [Hb]; · iexact Hb
  isplitl [Hheld]; · iexact Hheld
  isplitl [Ho]; · iexact Ho
  isplitr
  · iapply ((K (F := F)).ctx_levAts κ); iexact Hctx
  iexact Hstaged

/-- What the claims read of device `d`'s final state. -/
def fq (d : Dev nD) (s' : Phys nD τ sig (Elt F)) : Prop :=
  s'.mem.mem ((SparseCore.T d).loc main_v8) = res m d
    ∧ s'.mem.mem ((SparseCore.T d).loc main_v3) = near m d
    ∧ s'.mem.mem ((SparseCore.T d).loc main_v9) = mean m d
    ∧ s'.mem.mem ((SparseCore.T d).loc main_arg0) = m ((SparseCore.T d).loc main_arg0)
    ∧ s'.mem.mem ((SparseCore.T d).loc main_arg1) = m ((SparseCore.T d).loc main_arg1)

set_option maxRecDepth 16384 in
theorem hfin (d : Dev nD) (s' : Phys nD τ sig (Elt F)) : iprop(FIN m d ∗ SI s') ⊢ (⌜fq m d s'⌝ : sProp 𝕄) := by
  iintro ⟨⟨H0, H1, H8, H3, H9⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_v8) (I := Finset.univ) (q := fullShare)
    (f := res m d))) $$ [HSI H8]
  · isplitl [HSI] <;> iassumption
  icases H with ⟨%h8, HSI, -⟩
  ihave H := (persistent_entails_right (SI_pointsTo_agree (st := s') (ℓ := (SparseCore.T d).loc main_v3) (I := Finset.univ) (q := fullShare)
    (f := near m d))) $$ [HSI H3]
  · isplitl [HSI] <;> iassumption
  icases H with ⟨%h3, HSI, -⟩
  ihave H := (persistent_entails_right (SI_pointsTo_agree (st := s') (ℓ := (SparseCore.T d).loc main_v9) (I := Finset.univ) (q := fullShare)
    (f := mean m d))) $$ [HSI H9]
  · isplitl [HSI] <;> iassumption
  icases H with ⟨%h9, HSI, -⟩
  ipureintro
  exact ⟨funext fun i => h8 i (Finset.mem_univ i), funext fun i => h3 i (Finset.mem_univ i), funext fun i => h9 i (Finset.mem_univ i),
    funext fun i => h0 i (Finset.mem_univ i), funext fun i => h1 i (Finset.mem_univ i)⟩

/-! ## The run -/

def QC : PUnit × MemSt nD τ sig (Elt F) → Prop := fun r =>
  (∀ d : Dev nD, r.2.mem ((SparseCore.T d).loc main_v8) = res m d
    ∧ r.2.mem ((SparseCore.T d).loc main_v3) = near m d
    ∧ r.2.mem ((SparseCore.T d).loc main_v9) = mean m d
    ∧ r.2.mem ((SparseCore.T d).loc main_arg0) = m ((SparseCore.T d).loc main_arg0)
    ∧ r.2.mem ((SparseCore.T d).loc main_arg1) = m ((SparseCore.T d).loc main_arg1)) ∧ r.2.sem = fun _ => 0

theorem run_main [∀ e, Nonempty (Elt F e)] (hfi : ∀ d, Named (lst m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (lst m) (old m) facts hfi)
    (fun q _ => match q with | 0 => SparseCore.Cfg.VecSplit.of_plain (vecSplit (tab m) (lst m) (old m)))
    m ρ main (fun d => iprop(wm ∗ staged (F := F) d)) (FIN m) (u₀ (F := F)) (sep_elim_left.trans (hu₀ m ρ)) (hmain m ρ) (fq m) (hfin m) (QC m) (fun _ h hz => ⟨h, hz⟩)

end Cert.Proof.WholeRun
-- ==== Proof.WholeResults.lean ====
/-
  The whole kernel's results over the extended reals, of real arguments: the assignment is each point's nearest centroid, the first of
  them; the rows are those the assignment names; the mean loss is the sum of the points' shares over 1024.
-/
module

public import proofs.«01_k».proof.Proof.WholeBlocks
public import proofs.«01_k».proof.Proof.WholeRun
public import proofs.«01_k».proof.Proof.GatherValue

@[expose] public section

set_option maxRecDepth 4096

noncomputable section

namespace Cert.Proof.WholeResults

open Cert.KernelIdeal Cert.KernelIdeal.Gen
open Cert.Proof.WholeBody Cert.Proof.WholeMath Cert.Proof.WholeRegion Cert.Proof.WholeBlocks Cert.Proof.WholeRun Cert.Proof.WholeTile
open Cert.Proof.WholePayload
open Idealize.ShloMosaic Idealize.ShloMosaic.TcCoe

variable {F : FTy → Type} [FloatOps F] (m : (ℓ : Loc nD τ sig) → Buf (Elt F) ℓ) (d : Dev nD)

/-! ## Reading the arrays -/

/-- The point that lane `b` of block `t` holds. -/
def lane (t : Fin cfg0.N) (b : Fin 1024) : Fin 4096 := ⟨t.val * 1024 + b.val, by have := t.isLt.trans_eq N_0; omega⟩

theorem eq_lane (i : Fin 4096) : ∃ t b, i = lane t b :=
  ⟨pt (i.val / 1024), ⟨i.val % 1024, Nat.mod_lt _ (by decide)⟩, Fin.ext (by
    show i.val = i.val / 1024 % 4 * 1024 + i.val % 1024; have := i.isLt; omega)⟩

theorem block_points (t : Fin cfg0.N) (j : Fin 32) (b : Fin 1024) : (iblk (V2b m) d 0 t : S32x1024.Idx → Elt F .f32) (ix2 j b)
    = (m (d, a0') : S4096x32.Idx → Elt F .f32) (ix2 (lane t b) j) := by
  rw [iblk0]
  refine (congrFun (V2_x m d) _).trans ?_
  generalize (m (d, a0') : S4096x32.Idx → Elt F .f32) = x
  pointwise
  rfl

theorem block_table (t : Fin cfg0.N) (k : Fin 1024) (j : Fin 32) : (iblk (V2b m) d 1 t : S1024x32.Idx → Elt F .f32) (ix2 k j)
    = (m (d, a1') : S1024x32.Idx → Elt F .f32) (ix2 k j) := by
  rw [iblk1]
  exact congrFun (V2_a1 m d) _

theorem block_columns (t : Fin cfg0.N) (j : Fin 32) (k : Fin 1024) : (iblk (V2b m) d 2 t : S32x1024.Idx → Elt F .f32) (ix2 j k)
    = (m (d, a1') : S1024x32.Idx → Elt F .f32) (ix2 k j) := by
  rw [iblk2]
  refine (congrFun (V2_y m d) _).trans ?_
  generalize (m (d, a1') : S1024x32.Idx → Elt F .f32) = x
  pointwise

theorem row_apply {α : Type} (x : S1x4096.Idx → α) (i : Fin 4096) : shapeCast S4096 x shapeCasts_S1x4096_S4096 (ix1 i) = x (ix2 0 i) := by
  pointwise

theorem near_apply (t : Fin cfg0.N) (b : Fin 1024) : near m d (ix1 (lane t b))
    = kIdx (iblk (V2b m) d 0 t) (iblk (V2b m) d 1 t) (iblk (V2b m) d 2 t) (ix2 0 b) := by
  unfold near
  rw [outIdx_eq]
  rw [row_apply]
  exact idxRow_apply (V2b m) d t b _ rfl (ix2 0 (lane t b)) rfl

theorem mean_apply : mean m d ix0 = FloatOps.hostDivf (loss (V2b m) d 3 (ix2 0 0)) (FloatOps.ofBits .f32 0x44800000#32) := by
  unfold mean
  rw [outLoss_eq]
  generalize loss (V2b m) d 3 = x
  pointwise

theorem lst_apply (y : S1x4096.Idx) : lst m d y = near m d (ix1 (y 1)) := by
  rw [lst_eq, eq_ix2 y]
  generalize near m d = x
  pointwise

/-! ## The assignment names rows -/

theorem near_lt (m : (ℓ : Loc nD τ sig) → Buf (Elt Ideal) ℓ) (d : Dev nD) (i : Fin 4096) : (near (F := Ideal) m d (ix1 i)).toNat < 1024 := by
  obtain ⟨t, b, rfl⟩ := eq_lane i
  rw [near_apply]
  exact kIdx_lt _ _ _ b

theorem named (m : (ℓ : Loc nD τ sig) → Buf (Elt Ideal) ℓ) (d : Dev nD) : Named (lst (F := Ideal) m d) := fun y => by
  rw [lst_apply]
  exact near_lt m d (y 1)

/-! ## Real arguments -/

section Real

variable {m : (ℓ : Loc nD τ sig) → Buf (Elt Ideal) ℓ} {d : Dev nD} {X : Fin 4096 → Fin 32 → ℝ} {C : Fin 1024 → Fin 32 → ℝ}
  (hx : ∀ i j, (m (d, a0') : S4096x32.Idx → Elt Ideal .f32) (ix2 i j) = ((X i j : ℝ) : EReal))
  (hc : ∀ k j, (m (d, a1') : S1024x32.Idx → Elt Ideal .f32) (ix2 k j) = ((C k j : ℝ) : EReal))

include hx hc

theorem near_real (i : Fin 4096) : IsLeast (fun k => ((WholeMath.dist (X i) C k : ℝ) : EReal)) (near (F := Ideal) m d (ix1 i)) := by
  obtain ⟨t, b, rfl⟩ := eq_lane i
  rw [near_apply]
  exact kIdx_real (x := fun b => X (lane t b)) (c := C) (fun j b => (block_points m d t j b).trans (hx _ _))
    (fun k j => (block_table m d t k j).trans (hc _ _)) (fun j k => (block_columns m d t j k).trans (hc _ _)) b

variable {v : Fin 4096 → Fin 1024} (hv : ∀ i k, WholeMath.dist (X i) C (v i) ≤ WholeMath.dist (X i) C k)

include hv

/-- What a block adds to the running loss. -/
theorem added (t : Fin cfg0.N) (acc : S1x1.Idx → Elt Ideal .f32) :
    kLoss (F := Ideal) (iblk (V2b m) d 0 t) (iblk (V2b m) d 1 t) acc (ix2 0 0)
      = acc (ix2 0 0) + ((∑ b, ∑ k, share (X (lane t b)) C (v (lane t b)) k : ℝ) : EReal) :=
  kLoss_real (x := fun b => X (lane t b)) (c := C) (fun j b => (block_points m d t j b).trans (hx _ _))
    (fun k j => (block_table m d t k j).trans (hc _ _)) (fun b => v (lane t b)) (fun b k => hv _ k) acc

omit hx hc hv in
theorem sum_blocks (f : Fin 4096 → ℝ) (g : Fin 4 → Fin 1024 → ℝ) (h : ∀ n b (i : Fin 4096), i.val = b.val + 1024 * n.val → f i = g n b) :
    ∑ i, f i = ∑ n, ∑ b, g n b := by
  rw [← Fintype.sum_prod_type' (f := g)]
  exact (Fintype.sum_equiv (finProdFinEquiv (m := 4) (n := 1024)) _ f fun p => (h p.1 p.2 _ rfl).symm).symm

omit hx hc hv in
theorem sum_lanes (f : Fin 4096 → ℝ) : ∑ i, f i = ∑ b, f (lane (pt 0) b) + ∑ b, f (lane (pt 1) b) + ∑ b, f (lane (pt 2) b) + ∑ b, f (lane (pt 3) b) := by
  rw [sum_blocks f (fun n b => f (lane (pt n.val) b)) fun n b i hi => congrArg f (Fin.ext ?_), Fin.sum_univ_four]
  · rfl
  · have e : (lane (pt n.val) b).val = n.val % 4 * 1024 + b.val := rfl
    rw [e, hi]
    have := n.isLt
    omega

theorem loss_real : loss (F := Ideal) (V2b m) d 3 (ix2 0 0) = ((∑ i, ∑ k, share (X i) C (v i) k : ℝ) : EReal) := by
  have e : ∀ n, loss (F := Ideal) (V2b m) d (n + 1) = kLoss (iblk (V2b m) d 0 (pt (n + 1))) (iblk (V2b m) d 1 (pt (n + 1))) (loss (V2b m) d n) := fun _ => rfl
  have e0 : loss (F := Ideal) (V2b m) d 0 = kLoss (iblk (V2b m) d 0 (pt 0)) (iblk (V2b m) d 1 (pt 0)) (k0_pay1 (F := Ideal)) := by rw [loss]
  have z : k0_pay1 (F := Ideal) (ix2 0 0) = ((0 : ℝ) : EReal) := Ideal.ofBits_zero_f32
  rw [e 2, added hx hc hv, e 1, added hx hc hv, e 0, added hx hc hv, e0, added hx hc hv, z,
    ← EReal.coe_add, ← EReal.coe_add, ← EReal.coe_add, ← EReal.coe_add, sum_lanes fun i => ∑ k, share (X i) C (v i) k, zero_add]

theorem mean_real : mean (F := Ideal) m d ix0
    = Ideal.div ((∑ i, ∑ k, share (X i) C (v i) k : ℝ) : EReal) (Ideal.ofBits .f32 0x44800000#32) := by
  rw [mean_apply, loss_real hx hc hv]
  rfl

end Real

/-! ## The rows -/

open GatherValue (Rows taken taken_apply)

theorem res_apply (hi : Rows (near m d)) (r : Fin 4096) (c : Fin 32) :
    res m d (ValueIdx.ix2 r c) = (m (d, a1') : S1024x32.Idx → F .f32) (ValueIdx.ix2 ⟨(near m d (ValueIdx.ix1 r)).toNat, hi _⟩ c) := by
  unfold res extractStridedSlice gathered
  obtain ⟨w, e⟩ := tab_eq m d
  rw [e]
  refine pad_apply_of_inside _ _ _ _ _ _ _ _ _ fun a => ?_
  match a with
  | ⟨0, _⟩ =>
    have h : ∀ y : S1x4096.Idx, (y 1).val = r.val → lst m d y = near m d (ValueIdx.ix1 r) := fun y hy => by
      rw [lst_apply, show y 1 = r from Fin.ext hy, ix1_eq_valueIdx]
    show (Fin.ofNat 1024 (show BitVec 32 from lst m d _).toNat).val = _
    rw [h _ (Nat.zero_add r.val)]
    show _ % 1024 = 0 + (near m d (ValueIdx.ix1 r)).toNat * 1
    rw [Nat.mod_eq_of_lt]
    · simp
    · exact hi _
  | ⟨1, _⟩ =>
    show (0 + c.val : ℕ) = 0 + c.val * 1
    omega

/-- The rows gathered are the rows the assignment names. -/
theorem res_eq (hi : Rows (near m d)) : res m d = taken (m (d, a1') : S1024x32.Idx → F .f32) (near m d) := by
  funext y
  obtain ⟨r, c, rfl⟩ : ∃ (r : Fin 4096) (c : Fin 32), y = ValueIdx.ix2 r c :=
    ⟨y 0, y 1, funext fun a => match a with | ⟨0, _⟩ => rfl | ⟨1, _⟩ => rfl⟩
  exact (res_apply m d hi r c).trans (taken_apply hi _ r c).symm

end Cert.Proof.WholeResults

end
-- ==== Proof.WholeReference.lean ====
/-
  The plain-jax program's run, for any float values: its operations in order, and what the three results hold when it ends — the rows
  taken, the assignment and the mean loss, each as the composed term of the arguments.
-/
module

public import proofs.«01_k».proof.Proof.Gen.ReferenceIdeal
public import proofs.«01_k».proof.Proof.GatherValue
public import Idealize.ShloMosaic.Lib.StableHlo.Run

@[expose] public section

set_option maxRecDepth 4096

noncomputable section

namespace Cert.Proof.WholeReference

open Cert.ReferenceIdeal Cert.ReferenceIdeal.Gen
open Idealize.ShloMosaic Idealize.ShloMosaic.TcCoe Idealize.SL.Sem Idealize.ShloMosaic.StableHlo
open Cert.Proof.GatherValue (taken)

variable {F : FTy → Type} [FloatOps F]

/-! ## The results, as terms of the arguments -/

/-- The distances: row `k`, column `i` holds the squared distance of point `i` to centroid `k`. -/
def far (x : S4096x32.Idx → F .f32) (c : S1024x32.Idx → F .f32) : S1024x4096.Idx → F .f32 :=
  let d := subf (broadcastInDim S4096x1024x32 ![0, 1, 2] bcast_S4096x1x32_S4096x1024x32_0_1_2 (broadcastInDim S4096x1x32 ![0, 2] bcast_S4096x32_S4096x1x32_0_2 x))
    (broadcastInDim S4096x1024x32 ![0, 1, 2] bcast_S1x1024x32_S4096x1024x32_0_1_2 (broadcastInDim S1x1024x32 ![1, 2] bcast_S1024x32_S1x1024x32_1_2 c))
  transpose S1024x4096 [1, 0] (Host.reduceAdd (mulf d d) (constant S_ .f32 0x00000000#32) reducesTo_S4096x1024x32_S4096x1024_d2 h_S_) transposes_S4096x1024_S1024x4096_1_0

/-- The least distance of each point. -/
def low (d : S1024x4096.Idx → F .f32) : S4096.Idx → F .f32 :=
  Host.reduce FloatOps.minimumf d (constant S_ .f32 0x7F800000#32) reducesTo_S1024x4096_S4096_d0 h_S_

/-- The centroid at which each point's distance is least. -/
def arg (d : S1024x4096.Idx → F .f32) : S4096.Idx → BitVec 32 := fun j =>
  (Host.argReduce reducer_argmin_f32_i32 d (iotaInDim S1024x4096 32 0) (constant S_ .f32 0x7F800000#32) (constantI S_ 32 0#32) reducesTo_S1024x4096_S4096_d0 h_S_ j).2

/-- A value per point, for every centroid. -/
def spread (v : S4096.Idx → F .f32) : S1024x4096.Idx → F .f32 :=
  broadcastInDim S1024x4096 ![0, 1] bcast_S1x4096_S1024x4096_0_1 (broadcastInDim S1x4096 ![1] bcast_S4096_S1x4096_1 v)

/-- The unnormalised weights. -/
def heat (d : S1024x4096.Idx → F .f32) : S1024x4096.Idx → F .f32 :=
  Host.exp (mulf (broadcastInDim S1024x4096 ![] bcast_S_S1024x4096 (constant S_ .f32 0xBF800000#32)) (subf d (spread (low d))))

/-- The weighted distances. -/
def terms (d : S1024x4096.Idx → F .f32) : S1024x4096.Idx → F .f32 :=
  mulf (Host.divf (heat d) (spread (Host.reduceAdd (heat d) (constant S_ .f32 0x00000000#32) reducesTo_S1024x4096_S4096_d0 h_S_))) d

/-- Their sum. -/
def total (d : S1024x4096.Idx → F .f32) : S_.Idx → F .f32 :=
  Host.reduceAdd (Host.reduceAdd (terms d) (constant S_ .f32 0x00000000#32) reducesTo_S1024x4096_S1024_d1 h_S_) (constant S_ .f32 0x00000000#32) reducesTo_S1024_S_d0 h_S_

/-- The loss. -/
def cost (d : S1024x4096.Idx → F .f32) : S_.Idx → F .f32 :=
  addf (constant S_ .f32 0x00000000#32) (mulf (constant S_ .f32 0x3F800000#32) (Host.divf (total d) (constant S_ .f32 0x44800000#32)))

/-! ## The run -/

/-- @main's operations, in order. -/
abbrev ops : List (HloOp τ sig (Elt F)) :=
  [ unary main_arg0 main_v0 (broadcastInDim S4096x1x32 ![0, 2] bcast_S4096x32_S4096x1x32_0_2 : (⟨S4096x32, .f32⟩ : BufTy).Contents (Elt F) → (⟨S4096x1x32, .f32⟩ : BufTy).Contents (Elt F)),
    unary main_arg1 main_v1 (broadcastInDim S1x1024x32 ![1, 2] bcast_S1024x32_S1x1024x32_1_2 : (⟨S1024x32, .f32⟩ : BufTy).Contents (Elt F) → (⟨S1x1024x32, .f32⟩ : BufTy).Contents (Elt F)),
    unary main_v0 main_v2 (broadcastInDim S4096x1024x32 ![0, 1, 2] bcast_S4096x1x32_S4096x1024x32_0_1_2 : (⟨S4096x1x32, .f32⟩ : BufTy).Contents (Elt F) → (⟨S4096x1024x32, .f32⟩ : BufTy).Contents (Elt F)),
    unary main_v1 main_v3 (broadcastInDim S4096x1024x32 ![0, 1, 2] bcast_S1x1024x32_S4096x1024x32_0_1_2 : (⟨S1x1024x32, .f32⟩ : BufTy).Contents (Elt F) → (⟨S4096x1024x32, .f32⟩ : BufTy).Contents (Elt F)),
    binary main_v2 main_v3 main_v4 (subf : (⟨S4096x1024x32, .f32⟩ : BufTy).Contents (Elt F) → (⟨S4096x1024x32, .f32⟩ : BufTy).Contents (Elt F) → (⟨S4096x1024x32, .f32⟩ : BufTy).Contents (Elt F)),
    binary main_v4 main_v4 main_v5 (mulf : (⟨S4096x1024x32, .f32⟩ : BufTy).Contents (Elt F) → (⟨S4096x1024x32, .f32⟩ : BufTy).Contents (Elt F) → (⟨S4096x1024x32, .f32⟩ : BufTy).Contents (Elt F)),
    nullary main_cst (constant S_ .f32 0x00000000#32),
    binary main_v5 main_cst main_v6 ((fun x v => Host.reduceAdd x v reducesTo_S4096x1024x32_S4096x1024_d2 h_S_) : (⟨S4096x1024x32, .f32⟩ : BufTy).Contents (Elt F) → (⟨S_, .f32⟩ : BufTy).Contents (Elt F) → (⟨S4096x1024, .f32⟩ : BufTy).Contents (Elt F)),
    unary main_v6 main_v7 ((transpose S1024x4096 [1, 0] · transposes_S4096x1024_S1024x4096_1_0) : (⟨S4096x1024, .f32⟩ : BufTy).Contents (Elt F) → (⟨S1024x4096, .f32⟩ : BufTy).Contents (Elt F)),
    nullary main_cst_0 (constant S_ .f32 0x7F800000#32),
    binary main_v7 main_cst_0 main_v8 ((fun x v => Host.reduce FloatOps.minimumf x v reducesTo_S1024x4096_S4096_d0 h_S_) : (⟨S1024x4096, .f32⟩ : BufTy).Contents (Elt F) → (⟨S_, .f32⟩ : BufTy).Contents (Elt F) → (⟨S4096, .f32⟩ : BufTy).Contents (Elt F)),
    TRef.nullary (TRef.of (T := ⟨S1024x4096, .i32⟩) main_call0_v0) (iotaInDim S1024x4096 32 0),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S1024x4096, .f32⟩) main_v7) (TRef.of (T := ⟨S1024x4096, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmin_f32_i32 x y u v reducesTo_S1024x4096_S4096_d0 h_S_ j).1),
    TRef.quaternary (TRef.of (T := ⟨S1024x4096, .f32⟩) main_v7) (TRef.of (T := ⟨S1024x4096, .i32⟩) main_call0_v0) (TRef.of (T := ⟨S_, .f32⟩) main_call0_cst) (TRef.of (T := ⟨S_, .i32⟩) main_call0_c) (TRef.of (T := ⟨S4096, .i32⟩) main_v9) (fun x y u v j => (Host.argReduce reducer_argmin_f32_i32 x y u v reducesTo_S1024x4096_S4096_d0 h_S_ j).2),
    TRef.nullary (TRef.of (T := ⟨S_, .i32⟩) main_call1_c) (constantI S_ 32 0#32),
    TRef.unary (TRef.of (T := ⟨S_, .i32⟩) main_call1_c) (TRef.of (T := ⟨S4096, .i32⟩) main_call1_v0) (broadcastInDim S4096 ![] bcast_S_S4096),
    TRef.binary (TRef.of (T := ⟨S4096, .i32⟩) main_v9) (TRef.of (T := ⟨S4096, .i32⟩) main_call1_v0) (TRef.of (T := ⟨S4096, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S4096, .i32⟩) main_call1_v2) (broadcastInDim S4096 ![] bcast_S_S4096),
    TRef.binary (TRef.of (T := ⟨S4096, .i32⟩) main_v9) (TRef.of (T := ⟨S4096, .i32⟩) main_call1_v2) (TRef.of (T := ⟨S4096, .i32⟩) main_call1_v3) addi,
    TRef.ternary (TRef.of (T := ⟨S4096, .i1⟩) main_call1_v1) (TRef.of (T := ⟨S4096, .i32⟩) main_call1_v3) (TRef.of (T := ⟨S4096, .i32⟩) main_v9) (TRef.of (T := ⟨S4096, .i32⟩) main_call1_v4) select,
    TRef.unary (TRef.of (T := ⟨S4096, .i32⟩) main_call1_v4) (TRef.of (T := ⟨S4096x1, .i32⟩) main_call1_v5) (broadcastInDim S4096x1 ![0] bcast_S4096_S4096x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S4096x1, .i32⟩) main_call1_v6) (broadcastInDim S4096x1 ![] bcast_S_S4096x1),
    TRef.binary (TRef.of (T := ⟨S4096x1, .i32⟩) main_call1_v5) (TRef.of (T := ⟨S4096x1, .i32⟩) main_call1_v6) (TRef.of (T := ⟨S4096x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4096x1, .i32⟩) main_call1_v9) (broadcastInDim S4096x1 ![0, 1] bcast_S1x1_S4096x1_0_1),
    TRef.binary (TRef.of (T := ⟨S4096x1, .i32⟩) main_call1_v5) (TRef.of (T := ⟨S4096x1, .i32⟩) main_call1_v9) (TRef.of (T := ⟨S4096x1, .i1⟩) main_call1_v10) (cmpi .sle),
    TRef.binary (TRef.of (T := ⟨S4096x1, .i1⟩) main_call1_v7) (TRef.of (T := ⟨S4096x1, .i1⟩) main_call1_v10) (TRef.of (T := ⟨S4096x1, .i1⟩) main_call1_v11) andi,
    TRef.nullary (TRef.of (T := ⟨S_, .i1⟩) main_call1_c_3) (constantI S_ 1 1#1),
    TRef.binary (TRef.of (T := ⟨S4096x1, .i1⟩) main_call1_v11) (TRef.of (T := ⟨S_, .i1⟩) main_call1_c_3) (TRef.of (T := ⟨S4096, .i1⟩) main_call1_v12) (fun x v => Host.reduce IntOp.andi x v reducesTo_S4096x1_S4096_d1 h_S_),
    TRef.binary (TRef.of (T := ⟨S1024x32, .f32⟩) main_arg1) (TRef.of (T := ⟨S4096x1, .i32⟩) main_call1_v5) (TRef.of (T := ⟨S4096x32, .f32⟩) main_call1_v13) (fun x i => Host.gather gather_S1024x32_S4096x1_S4096x32_1_0_n_n_0_1_132 x i),
    TRef.unary (TRef.of (T := ⟨S4096, .i1⟩) main_call1_v12) (TRef.of (T := ⟨S4096x32, .i1⟩) main_call1_v14) (broadcastInDim S4096x32 ![0] bcast_S4096_S4096x32_0),
    TRef.nullary (TRef.of (T := ⟨S_, .f32⟩) main_call1_cst) (constant S_ .f32 0x7FC00000#32),
    TRef.unary (TRef.of (T := ⟨S_, .f32⟩) main_call1_cst) (TRef.of (T := ⟨S4096x32, .f32⟩) main_call1_v15) (broadcastInDim S4096x32 ![] bcast_S_S4096x32),
    TRef.ternary (TRef.of (T := ⟨S4096x32, .i1⟩) main_call1_v14) (TRef.of (T := ⟨S4096x32, .f32⟩) main_call1_v13) (TRef.of (T := ⟨S4096x32, .f32⟩) main_call1_v15) (TRef.of (T := ⟨S4096x32, .f32⟩) main_v10) select,
    unary main_v8 main_v11 (broadcastInDim S1x4096 ![1] bcast_S4096_S1x4096_1 : (⟨S4096, .f32⟩ : BufTy).Contents (Elt F) → (⟨S1x4096, .f32⟩ : BufTy).Contents (Elt F)),
    unary main_v11 main_v12 (broadcastInDim S1024x4096 ![0, 1] bcast_S1x4096_S1024x4096_0_1 : (⟨S1x4096, .f32⟩ : BufTy).Contents (Elt F) → (⟨S1024x4096, .f32⟩ : BufTy).Contents (Elt F)),
    binary main_v7 main_v12 main_v13 (subf : (⟨S1024x4096, .f32⟩ : BufTy).Contents (Elt F) → (⟨S1024x4096, .f32⟩ : BufTy).Contents (Elt F) → (⟨S1024x4096, .f32⟩ : BufTy).Contents (Elt F)),
    nullary main_cst_1 (constant S_ .f32 0xBF800000#32),
    unary main_cst_1 main_v14 (broadcastInDim S1024x4096 ![] bcast_S_S1024x4096 : (⟨S_, .f32⟩ : BufTy).Contents (Elt F) → (⟨S1024x4096, .f32⟩ : BufTy).Contents (Elt F)),
    binary main_v14 main_v13 main_v15 (mulf : (⟨S1024x4096, .f32⟩ : BufTy).Contents (Elt F) → (⟨S1024x4096, .f32⟩ : BufTy).Contents (Elt F) → (⟨S1024x4096, .f32⟩ : BufTy).Contents (Elt F)),
    unary main_v15 main_v16 (Host.exp : (⟨S1024x4096, .f32⟩ : BufTy).Contents (Elt F) → (⟨S1024x4096, .f32⟩ : BufTy).Contents (Elt F)),
    nullary main_cst_2 (constant S_ .f32 0x00000000#32),
    binary main_v16 main_cst_2 main_v17 ((fun x v => Host.reduceAdd x v reducesTo_S1024x4096_S4096_d0 h_S_) : (⟨S1024x4096, .f32⟩ : BufTy).Contents (Elt F) → (⟨S_, .f32⟩ : BufTy).Contents (Elt F) → (⟨S4096, .f32⟩ : BufTy).Contents (Elt F)),
    unary main_v17 main_v18 (broadcastInDim S1x4096 ![1] bcast_S4096_S1x4096_1 : (⟨S4096, .f32⟩ : BufTy).Contents (Elt F) → (⟨S1x4096, .f32⟩ : BufTy).Contents (Elt F)),
    unary main_v18 main_v19 (broadcastInDim S1024x4096 ![0, 1] bcast_S1x4096_S1024x4096_0_1 : (⟨S1x4096, .f32⟩ : BufTy).Contents (Elt F) → (⟨S1024x4096, .f32⟩ : BufTy).Contents (Elt F)),
    binary main_v16 main_v19 main_v20 (Host.divf : (⟨S1024x4096, .f32⟩ : BufTy).Contents (Elt F) → (⟨S1024x4096, .f32⟩ : BufTy).Contents (Elt F) → (⟨S1024x4096, .f32⟩ : BufTy).Contents (Elt F)),
    binary main_v20 main_v7 main_v21 (mulf : (⟨S1024x4096, .f32⟩ : BufTy).Contents (Elt F) → (⟨S1024x4096, .f32⟩ : BufTy).Contents (Elt F) → (⟨S1024x4096, .f32⟩ : BufTy).Contents (Elt F)),
    nullary main_cst_3 (constant S_ .f32 0x00000000#32),
    binary main_v21 main_cst_3 main_v22 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    nullary main_cst_4 (constant S_ .f32 0x00000000#32),
    binary main_v22 main_cst_4 main_v23 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_5 (constant S_ .f32 0x44800000#32),
    binary main_v23 main_cst_5 main_v24 (Host.divf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v24 main_v25 (mulf : (⟨S_, .f32⟩ : BufTy).Contents (Elt F) → (⟨S_, .f32⟩ : BufTy).Contents (Elt F) → (⟨S_, .f32⟩ : BufTy).Contents (Elt F)),
    nullary main_cst_7 (constant S_ .f32 0x00000000#32),
    binary main_cst_7 main_v25 main_v26 (addf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., unary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

set_option maxHeartbeats 4000000 in
/-- From any memory with zero counters, every run ends with the three results at their values and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v10) = taken (m ((c : Thread nD τ).loc main_arg1)) (arg (far (m ((c : Thread nD τ).loc main_arg0)) (m ((c : Thread nD τ).loc main_arg1))))
      ∧ r.2.mem ((c : Thread nD τ).loc main_v9) = arg (far (m ((c : Thread nD τ).loc main_arg0)) (m ((c : Thread nD τ).loc main_arg1)))
      ∧ r.2.mem ((c : Thread nD τ).loc main_v26) = cost (far (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c main_v10).trans (by simp only [ops, TRef.quaternary, TRef.binary, TRef.nullary, TRef.ternary, TRef.unary, TRef.toBuf, TRef.ofBuf, cast_eq]; after_results <;> rfl),
      (h c main_v9).trans (by simp only [ops, TRef.quaternary, TRef.binary, TRef.nullary, TRef.ternary, TRef.unary, TRef.toBuf, TRef.ofBuf, cast_eq]; after_results <;> rfl),
      (h c main_v26).trans (by simp only [ops, TRef.quaternary, TRef.binary, TRef.nullary, TRef.ternary, TRef.unary, TRef.toBuf, TRef.ofBuf, cast_eq]; after_results <;> rfl),
      (h c main_arg0).trans (by simp only [ops, TRef.quaternary, TRef.binary, TRef.nullary, TRef.ternary, TRef.unary, TRef.toBuf, TRef.ofBuf, cast_eq]; after_results <;> rfl),
      (h c main_arg1).trans (by simp only [ops, TRef.quaternary, TRef.binary, TRef.nullary, TRef.ternary, TRef.unary, TRef.toBuf, TRef.ofBuf, cast_eq]; after_results <;> rfl)⟩)
    (run_seq scopedRefs_eq scopedSems_eq defs main (fun _ => ops) main_eq (fun _ => ops_sub) m ρ)

end Cert.Proof.WholeReference

end
-- ==== Proof.WholeReferenceMath.lean ====
/-
  The plain-jax program's results over the extended reals, element by element: the distances, the least of them and the row at which
  it is met, the weights and the loss; and, when the arguments are real, the loss as a sum of the points' shares.
-/
module

public import proofs.«01_k».proof.Proof.WholeReference
public import proofs.«01_k».proof.Proof.WholePayload
public import Idealize.ShloMosaic.Lib.Pointwise

@[expose] public section

set_option maxRecDepth 4096

noncomputable section

namespace Cert.Proof.WholeReferenceMath

open Cert.ReferenceIdeal Cert.ReferenceIdeal.Gen
open Idealize.ShloMosaic
open Cert.Proof.WholeMath Cert.Proof.WholeReference
open Cert.Proof.WholePayload (inf_bits)

/-! ## The operations -/

theorem far_apply (x : S4096x32.Idx → Ideal .f32) (c : S1024x32.Idx → Ideal .f32) (k : Fin 1024) (i : Fin 4096) :
    far (F := Ideal) x c (ix2 k i) = (∑ j : Fin 32, ((x (ix2 i j) : EReal) - c (ix2 k j)) * (x (ix2 i j) - c (ix2 k j)) : EReal) := by
  unfold far
  pointwise

theorem low_apply (d : S1024x4096.Idx → Ideal .f32) (i : Fin 4096) :
    low (F := Ideal) d (ix1 i) = (Finset.univ : Finset (Fin 1024)).fold min (⊤ : EReal) fun k => d (ix2 k i) := by
  unfold low
  pointwise
  rw [inf_bits]

theorem spread_apply (v : S4096.Idx → Ideal .f32) (k : Fin 1024) (i : Fin 4096) : spread (F := Ideal) v (ix2 k i) = v (ix1 i) := by
  unfold spread
  pointwise

theorem neg_bits : Ideal.ofBits .f32 0xBF800000#32 = ((-1 : ℝ) : EReal) := by
  simp [Ideal.ofBits, Ideal.ieee, -EReal.coe_mul, -EReal.coe_neg]; norm_num

theorem heat_apply (d : S1024x4096.Idx → Ideal .f32) (k : Fin 1024) (i : Fin 4096) :
    heat (F := Ideal) d (ix2 k i) = Ideal.exp (((-1 : ℝ) : EReal) * ((d (ix2 k i) : EReal) - low (F := Ideal) d (ix1 i))) := by
  unfold heat
  generalize low d = v
  pointwise
  rw [neg_bits, spread_apply]

theorem terms_apply (d : S1024x4096.Idx → Ideal .f32) (k : Fin 1024) (i : Fin 4096) :
    terms (F := Ideal) d (ix2 k i) = (Ideal.div (heat (F := Ideal) d (ix2 k i)) (∑ k : Fin 1024, (heat (F := Ideal) d (ix2 k i) : EReal)) * d (ix2 k i) : EReal) := by
  unfold terms
  generalize heat d = h
  pointwise [spread]

theorem total_apply (d : S1024x4096.Idx → Ideal .f32) :
    total (F := Ideal) d ix0 = (∑ k : Fin 1024, ∑ i : Fin 4096, (terms (F := Ideal) d (ix2 k i) : EReal) : EReal) := by
  unfold total
  generalize terms d = h
  pointwise

theorem cost_apply (d : S1024x4096.Idx → Ideal .f32) :
    cost (F := Ideal) d ix0 = Ideal.div (total (F := Ideal) d ix0) (Ideal.ofBits .f32 0x44800000#32) := by
  unfold cost
  generalize total d = h
  pointwise

/-! ## The assignment -/

/-- The choice between two pairs takes the earlier. -/
theorem choice_before (p q : EReal × BitVec 32) (hp : p.2.toNat < 1024) (hq : q.2.toNat < 1024) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, v⟩ := p
  obtain ⟨b, w⟩ := q
  have e : IntOp.cmpi .slt v w = BitVec.ofBool (decide (v.toNat < w.toNat)) := by
    simp only [IntOp.cmpi]
    rw [BitVec.slt_eq_decide, BitVec.toInt_eq_toNat_cond, BitVec.toInt_eq_toNat_cond]
    simp only at hp hq
    rw [if_pos (by omega), if_pos (by omega)]
    simp
  have f : reducer_argmin_f32_i32 (F := Ideal) (a, v) (b, w)
      = (if a < b then a else b, if a < b ∨ a = b ∧ v.toNat < w.toNat then v else w) := by
    have h1 : FloatOps.cmpf (F := Ideal) (φ := .f32) .olt a b = BitVec.ofBool (decide (a < b)) := rfl
    have h2 : FloatOps.cmpf (F := Ideal) (φ := .f32) .oeq a b = BitVec.ofBool (decide (a = b)) := rfl
    have h3 : FloatOps.cmpf (F := Ideal) (φ := .f32) .une a a = 0#1 := by
      change BitVec.ofBool (decide (a ≠ a)) = 0#1
      simp
    simp only [reducer_argmin_f32_i32, h1, h2, h3, e]
    by_cases hab : a < b <;> by_cases hab' : a = b <;> by_cases hvw : v.toNat < w.toNat <;>
      simp [hab, hab', hvw, IntOp.ori, IntOp.andi, Scalar.select]
  rw [f]
  rcases lt_trichotomy a b with h | h | h
  · rw [if_pos h, if_pos (Or.inl h)]
    exact ⟨Or.inl rfl, Before.refl _, Or.inl h⟩
  · subst h
    rw [if_neg (lt_irrefl _)]
    by_cases hvw : v.toNat < w.toNat
    · rw [if_pos (Or.inr ⟨rfl, hvw⟩)]
      exact ⟨Or.inl rfl, Before.refl _, Or.inr ⟨rfl, hvw.le⟩⟩
    · rw [if_neg (by rintro (h | ⟨_, h⟩); exacts [lt_irrefl _ h, hvw h])]
      exact ⟨Or.inr rfl, Or.inr ⟨rfl, not_lt.1 hvw⟩, Before.refl _⟩
  · rw [if_neg h.not_gt, if_neg (by rintro (h' | ⟨h', _⟩); exacts [h.not_gt h', h.ne' h'])]
    exact ⟨Or.inr rfl, Or.inl h, Before.refl _⟩

theorem drop_apply (k : Fin 1024) (i : Fin 4096) : reducesTo_S1024x4096_S4096_d0.drop (ix2 k i) = ix1 i := by
  funext a
  match a with
  | ⟨0, _⟩ => exact Fin.ext rfl

/-- The pairs that a reduction to `j` folds. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply, hi], by rw [Equiv.symm_apply_apply]⟩

theorem toNat_row (k : Fin 1024) : (BitVec.ofNat 32 k.val).toNat < 1024 := by
  rw [BitVec.toNat_ofNat]; have := k.isLt; omega

theorem iota_apply (k : Fin 1024) (i : Fin 4096) : iotaInDim S1024x4096 32 0 (ix2 k i) = BitVec.ofNat 32 k.val := rfl

theorem mem_column (d : S1024x4096.Idx → EReal) (i : Fin 4096) (p : EReal × BitVec 32)
    (hp : p ∈ Host.argReduceFiber d (iotaInDim S1024x4096 32 0) reducesTo_S1024x4096_S4096_d0 (ix1 i)) :
    ∃ k : Fin 1024, p = (d (ix2 k i), BitVec.ofNat 32 k.val) := by
  obtain ⟨n, hn, rfl⟩ := (mem_fiber _ _ _ _ _).1 hp
  obtain ⟨k, b, rfl⟩ : ∃ (k : Fin 1024) (b : Fin 4096), n = ix2 k b := ⟨n 0, n 1, eq_ix2 n⟩
  obtain rfl : b = i := congrFun ((drop_apply k b).symm.trans hn) 0
  exact ⟨k, by rw [iota_apply]⟩

theorem column_mem (d : S1024x4096.Idx → EReal) (i : Fin 4096) (k : Fin 1024) :
    (d (ix2 k i), BitVec.ofNat 32 k.val) ∈ Host.argReduceFiber d (iotaInDim S1024x4096 32 0) reducesTo_S1024x4096_S4096_d0 (ix1 i) :=
  (mem_fiber _ _ _ _ _).2 ⟨ix2 k i, drop_apply k i, by rw [iota_apply]⟩

/-- A fold by the choice over pairs that are the values with their row numbers ends at the first least row. -/
theorem isLeast_foldl (f : Fin 1024 → EReal) (l : List (EReal × BitVec 32)) (hl : ∀ p ∈ l, ∃ k : Fin 1024, p = (f k, BitVec.ofNat 32 k.val))
    (hf : ∀ k : Fin 1024, (f k, BitVec.ofNat 32 k.val) ∈ l) (z : EReal × BitVec 32) (hz : z = (⊤, 0#32)) :
    IsLeast f (l.foldl (reducer_argmin_f32_i32 (F := Ideal)) z).2 := by
  obtain ⟨r1, _, r3⟩ := foldl_before (reducer_argmin_f32_i32 (F := Ideal)) (fun p => p.2.toNat < 1024)
    (fun p q hp hq => choice_before p q hp hq) l z (by rw [hz]; decide)
    (fun p hp => by obtain ⟨k, rfl⟩ := hl p hp; exact toNat_row k)
  refine isLeast_of_before f _ ?_ fun k => r3 _ (hf k)
  rcases r1 with h | h
  · exact Or.inl (h.trans hz)
  · exact Or.inr (hl _ h)

theorem start_eq : ((constant (F := Ideal) S_ .f32 0x7F800000#32) (Shape.Idx.first h_S_), (constantI S_ 32 0#32) (Shape.Idx.first h_S_))
    = ((⊤ : EReal), 0#32) := Prod.ext inf_bits rfl

/-- An arg-reduction over the extended reals is its plain fold. -/
theorem argReduce_fold {s t u : Shape} {axes : List (Fin s.rank)} (f : EReal × BitVec 32 → EReal × BitVec 32 → EReal × BitVec 32)
    (x : s.Idx → EReal) (y : s.Idx → BitVec 32) (ix : u.Idx → EReal) (iy : u.Idx → BitVec 32) (h : s.ReducesTo axes t) (hu : 0 < u.numel) (j : t.Idx) :
    Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

theorem arg_eq (d : S1024x4096.Idx → EReal) : arg (F := Ideal) d
    = fun j => (Host.argReduce (F := Ideal) (φ := .f32) (reducer_argmin_f32_i32 (F := Ideal)) d (iotaInDim S1024x4096 32 0)
      (constant (F := Ideal) S_ .f32 0x7F800000#32) (constantI S_ 32 0#32) reducesTo_S1024x4096_S4096_d0 h_S_ j).2 := rfl

theorem found_isLeast (d : S1024x4096.Idx → EReal) (i : Fin 4096) (r : EReal × BitVec 32)
    (hr : r = (Host.argReduceFiber d (iotaInDim S1024x4096 32 0) reducesTo_S1024x4096_S4096_d0 (ix1 i)).foldl (reducer_argmin_f32_i32 (F := Ideal))
      ((constant (F := Ideal) S_ .f32 0x7F800000#32) (Shape.Idx.first h_S_), (constantI S_ 32 0#32) (Shape.Idx.first h_S_))) :
    IsLeast (fun k => d (ix2 k i)) r.2 := by
  rw [hr]
  exact isLeast_foldl (fun k => d (ix2 k i)) _ (fun p hp => mem_column d i p hp) (fun k => column_mem d i k) _ start_eq

/-- The assignment is the first row at which the column's distance is least. -/
theorem arg_isLeast (d : S1024x4096.Idx → EReal) (i : Fin 4096) : IsLeast (fun k => d (ix2 k i)) (arg (F := Ideal) d (ix1 i)) := by
  rw [congrFun (arg_eq d) (ix1 i)]
  exact found_isLeast d i _ (argReduce_fold _ _ _ _ _ _ _ _)

/-! ## Real arguments -/

section Real

variable {x : S4096x32.Idx → Ideal .f32} {c : S1024x32.Idx → Ideal .f32} {X : Fin 4096 → Fin 32 → ℝ} {C : Fin 1024 → Fin 32 → ℝ}
  (hx : ∀ i j, x (ix2 i j) = ((X i j : ℝ) : EReal)) (hc : ∀ k j, c (ix2 k j) = ((C k j : ℝ) : EReal))

include hx hc

theorem far_real (k : Fin 1024) (i : Fin 4096) : far (F := Ideal) x c (ix2 k i) = ((dist (X i) C k : ℝ) : EReal) := by
  rw [far_apply]
  unfold WholeMath.dist
  rw [coe_sum]
  refine Finset.sum_congr rfl fun j _ => ?_
  rw [hx, hc, EReal.coe_mul, EReal.coe_sub]

theorem arg_real (i : Fin 4096) : IsLeast (fun k => ((dist (X i) C k : ℝ) : EReal)) (arg (F := Ideal) (far (F := Ideal) x c) (ix1 i)) := by
  have h := arg_isLeast (far (F := Ideal) x c) i
  rwa [show (fun k => far (F := Ideal) x c (ix2 k i)) = fun k => ((dist (X i) C k : ℝ) : EReal) from funext fun k => far_real hx hc k i] at h

variable {v : Fin 4096 → Fin 1024} (hv : ∀ i k, dist (X i) C (v i) ≤ dist (X i) C k)

include hv

theorem low_real (i : Fin 4096) : low (F := Ideal) (far (F := Ideal) x c) (ix1 i) = ((dist (X i) C (v i) : ℝ) : EReal) := by
  rw [low_apply, show (fun k => far (F := Ideal) x c (ix2 k i)) = fun k => ((dist (X i) C k : ℝ) : EReal) from funext fun k => far_real hx hc k i]
  exact le_antisymm (fold_min_le_apply (fun k => ((dist (X i) C k : ℝ) : EReal)) (v i))
    ((Finset.le_fold_min _).2 ⟨le_top, fun k _ => EReal.coe_le_coe_iff.2 (hv i k)⟩)

theorem heat_real (k : Fin 1024) (i : Fin 4096) : heat (F := Ideal) (far (F := Ideal) x c) (ix2 k i) = ((weight (X i) C (v i) k : ℝ) : EReal) := by
  rw [heat_apply, far_real hx hc, low_real hx hc hv, ← EReal.coe_sub, ← EReal.coe_mul, Ideal.exp_coe, weight_eq]

theorem terms_real (k : Fin 1024) (i : Fin 4096) : terms (F := Ideal) (far (F := Ideal) x c) (ix2 k i) = ((share (X i) C (v i) k : ℝ) : EReal) := by
  rw [terms_apply, heat_real hx hc hv, far_real hx hc,
    show (∑ k : Fin 1024, (heat (F := Ideal) (far (F := Ideal) x c) (ix2 k i) : EReal)) = ((∑ k, weight (X i) C (v i) k : ℝ) : EReal) from
      (Finset.sum_congr rfl fun k _ => heat_real hx hc hv k i).trans (coe_sum _ _).symm,
    div_real (weights_pos _ _ _).ne', ← EReal.coe_mul]
  rfl

theorem total_real : total (F := Ideal) (far (F := Ideal) x c) ix0 = ((∑ i, ∑ k, share (X i) C (v i) k : ℝ) : EReal) := by
  rw [total_apply, Finset.sum_comm, coe_sum]
  exact Finset.sum_congr rfl fun i _ => (Finset.sum_congr rfl fun k _ => terms_real hx hc hv k i).trans (coe_sum _ _).symm

theorem cost_real : cost (F := Ideal) (far (F := Ideal) x c) ix0
    = Ideal.div ((∑ i, ∑ k, share (X i) C (v i) k : ℝ) : EReal) (Ideal.ofBits .f32 0x44800000#32) := by
  rw [cost_apply, total_real hx hc hv]

end Real

end Cert.Proof.WholeReferenceMath

end
-- ==== Proof.WholeValue.lean ====
/-
  The whole kernel against the plain-jax program, over the extended reals and of finite arguments: the same assignment, the same rows
  and the same loss; and the claims of both.
-/
module

public import proofs.«01_k».proof.Proof.WholeResults
public import proofs.«01_k».proof.Proof.WholeReferenceMath
public import proofs.«01_k».proof.Proof.Gen.Pre_finite
public import proofs.«01_k».proof.Defs

@[expose] public section

set_option maxRecDepth 4096

noncomputable section

namespace Cert.Proof.WholeValue

open Idealize.ShloMosaic Idealize.ShloMosaic.TcCoe Idealize.SL.Sem
open Cert.Proof.WholeMath Cert.Proof.WholeRun Cert.Proof.WholeResults

/-! ## The precondition -/

/-- A value whose magnitude is below infinity is real. -/
theorem real_of_below (x : EReal) (h : BitVec.ofBool (decide (max x (-x) < Ideal.ofBits .f32 0x7F800000#32)) = 1#1) : ∃ r : ℝ, x = (r : EReal) := by
  rw [WholePayload.inf_bits] at h
  have h' : max x (-x) < ⊤ := by
    by_contra hn
    rw [decide_eq_false hn] at h
    exact absurd h (by decide)
  induction x using EReal.rec with
  | bot => simp at h'
  | top => simp at h'
  | coe r => exact ⟨r, rfl⟩

/-- The precondition's test of one array, as a fold, makes every element real. -/
theorem real_of_all {s : Shape} {axes : List (Fin s.rank)} (x : s.Idx → EReal) (hb : Cert.Pre_finite.S_.BroadcastsInDim s ![])
    (h : s.ReducesTo axes Cert.Pre_finite.S_) (hu : 0 < Cert.Pre_finite.S_.numel) (j : Cert.Pre_finite.S_.Idx)
    (e : Host.reduce IntOp.andi (cmpf (F := Ideal) (φ := .f32) .olt (Host.absf (F := Ideal) (φ := .f32) x)
      (broadcastInDim s ![] hb (constant (F := Ideal) Cert.Pre_finite.S_ .f32 0x7F800000#32))) (constantI Cert.Pre_finite.S_ 1 1#1) h hu j = 1#1)
    (i : s.Idx) : ∃ r : ℝ, x i = (r : EReal) := by
  have : Subsingleton Cert.Pre_finite.S_.Idx := ⟨fun a b => funext fun k => k.elim0⟩
  exact real_of_below (x i) (Host.reduce_andi_all _ _ h hu j e i)

theorem reals_of_pre (x : Cert.Pre_finite.S4096x32.Idx → EReal) (c : Cert.Pre_finite.S1024x32.Idx → EReal)
    (h : (Cert.Pre_finite.fn (F := Ideal) x c).1 = (fun _ => 1#1) ∧ (Cert.Pre_finite.fn (F := Ideal) x c).2 = (fun _ => 1#1)) :
    (∃ X : Fin 4096 → Fin 32 → ℝ, ∀ i j, x (ix2 i j) = ((X i j : ℝ) : EReal))
      ∧ ∃ C : Fin 1024 → Fin 32 → ℝ, ∀ k j, c (ix2 k j) = ((C k j : ℝ) : EReal) := by
  unfold Cert.Pre_finite.fn at h
  dsimp only at h
  obtain ⟨h1, h2⟩ := h
  have e1 := real_of_all x _ _ _ ix0 (congrFun h1 ix0)
  have e2 := real_of_all c _ _ _ ix0 (congrFun h2 ix0)
  exact ⟨⟨fun i j => (e1 (ix2 i j)).choose, fun i j => (e1 (ix2 i j)).choose_spec⟩,
    ⟨fun k j => (e2 (ix2 k j)).choose, fun k j => (e2 (ix2 k j)).choose_spec⟩⟩

/-! ## The two programs' results -/

section Results

open Cert.KernelIdeal

variable (m : (ℓ : Loc nD τ sig) → Buf (Elt Ideal) ℓ)

/-- Every element of the arguments is real. -/
def Finite (d : Dev nD) : Prop :=
  (∃ X : Fin 4096 → Fin 32 → ℝ, ∀ i j, (m (d, a0') : S4096x32.Idx → EReal) (ix2 i j) = ((X i j : ℝ) : EReal))
    ∧ ∃ C : Fin 1024 → Fin 32 → ℝ, ∀ k j, (m (d, a1') : S1024x32.Idx → EReal) (ix2 k j) = ((C k j : ℝ) : EReal)

theorem finite_of_pre (h : Cert.Pre_KernelIdeal_finite m) (d : Dev nD) : Finite m d := reals_of_pre _ _ (h d)

variable {m} {d : Dev nD}

/-- The assignments agree, -/
theorem near_eq (h : Finite m d) : near (F := Ideal) m d = WholeReference.arg (F := Ideal) (WholeReference.far (F := Ideal) (m (d, a0')) (m (d, a1'))) := by
  obtain ⟨⟨X, hx⟩, C, hc⟩ := h
  funext i
  rw [eq_ix1 i]
  exact (near_real hx hc (i 0)).eq (WholeReferenceMath.arg_real hx hc (i 0))

/-- the rows too, -/
theorem rows_eq (h : Finite m d) : res (F := Ideal) m d
    = GatherValue.taken (F := Ideal) (m (d, a1')) (WholeReference.arg (F := Ideal) (WholeReference.far (F := Ideal) (m (d, a0')) (m (d, a1')))) := by
  rw [← near_eq h]
  refine res_eq m d fun i => ?_
  obtain ⟨⟨X, hx⟩, C, hc⟩ := h
  rw [eq_ix1 i]
  exact (near_real hx hc (i 0)).lt

/-- and the losses. -/
theorem loss_eq (h : Finite m d) : mean (F := Ideal) m d = WholeReference.cost (F := Ideal) (WholeReference.far (F := Ideal) (m (d, a0')) (m (d, a1'))) := by
  obtain ⟨⟨X, hx⟩, C, hc⟩ := h
  have hv : ∀ i k, WholeMath.dist (X i) C ⟨(near (F := Ideal) m d (ix1 i)).toNat, (near_real hx hc i).lt⟩ ≤ WholeMath.dist (X i) C k :=
    fun i k => EReal.coe_le_coe_iff.1 ((near_real hx hc i).2.1 k)
  funext i
  obtain rfl : i = ix0 := funext fun a => a.elim0
  exact (mean_real hx hc hv).trans (WholeReferenceMath.cost_real hx hc hv).symm

end Results

/-! ## The claims -/

theorem frame_kernel : Cert.quiescent_KernelIdeal := fun m g _ =>
  (θ_run Cert.KernelIdeal.defs _ _).mono (fun _ r => ⟨fun c => (r.1 c).2.2.2, r.2⟩)
    (run_main (F := Ideal) m g fun d => named m d)

theorem frame_reference : Cert.quiescent_ReferenceIdeal := fun m g _ =>
  (θ_run Cert.ReferenceIdeal.defs _ _).mono (fun r h => ⟨fun c => (h c).2.2.2, sem_eq_zero_of_no_sems (by decide) r.2⟩)
    (WholeReference.run (F := Ideal) m g)

theorem algebraic : Cert.algebraic_KernelIdeal_ReferenceIdeal_pre_finite := by
  intro m g m' g' hpre hagree
  have h := finite_of_pre m hpre
  refine ⟨fun c => res (F := Ideal) m c, fun c => near (F := Ideal) m c, fun c => mean (F := Ideal) m c, ?_, ?_⟩
  · exact (θ_run Cert.KernelIdeal.defs _ _).mono (fun _ r => r.1) (run_main (F := Ideal) m g fun d => named m d)
  · refine (θ_run Cert.ReferenceIdeal.defs _ _).mono (fun _ r c => ?_) (WholeReference.run (F := Ideal) m' g')
    obtain ⟨r1, r2, r3, r4⟩ := r c
    rw [(hagree c).1, (hagree c).2] at r1 r2 r3
    exact ⟨r1.trans (rows_eq (h c)).symm, r2.trans (near_eq (h c)).symm, r3.trans (loss_eq (h c)).symm, r4⟩

end Cert.Proof.WholeValue

end
-- ==== Proof.lean ====
/-
  The claims of this certificate, from the modules that prove them: the SparseCore gather's frames and its two value claims
  (Proof/GatherValue.lean, over the run in Proof/GatherRun.lean), and the whole kernel's frame and its value claim
  (Proof/WholeValue.lean, over the run in Proof/WholeRun.lean).
-/
module

public import proofs.«01_k».proof.Defs
public import proofs.«01_k».proof.Proof.Gen.Gather
public import proofs.«01_k».proof.Proof.Gen.GatherIdeal
public import proofs.«01_k».proof.Proof.Gen.GatherReference
public import proofs.«01_k».proof.Proof.Gen.GatherReference.Run
public import proofs.«01_k».proof.Proof.Gen.GatherReferenceIdeal
public import proofs.«01_k».proof.Proof.Gen.GatherReferenceIdeal.Run
public import proofs.«01_k».proof.Proof.Gen.Pre_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.GatherValue
public import proofs.«01_k».proof.Proof.WholeValue
public import Idealize.ShloMosaic.Adequacy
public import Idealize.ShloMosaic.Init

@[expose] public section

noncomputable section

namespace Cert.Proof

theorem claim : Cert.Claim :=
  ⟨Cert.Gather.Gen.facts, Cert.GatherIdeal.Gen.facts, Cert.GatherReference.Gen.facts, Cert.GatherReferenceIdeal.Gen.facts,
    Cert.KernelIdeal.Gen.facts, Cert.ReferenceIdeal.Gen.facts, Cert.Pre_in_range.Gen.facts, Cert.Pre_finite.Gen.facts,
    GatherValue.frame_kernel, GatherValue.frame_ideal, GatherValue.frame_reference, fun m g _ => GatherValue.frame_reference m g trivial,
    GatherValue.frame_reference_ideal, fun m g _ => GatherValue.frame_reference_ideal m g trivial,
    WholeValue.frame_kernel, fun m g _ => WholeValue.frame_kernel m g trivial, WholeValue.frame_reference, fun m g _ => WholeValue.frame_reference m g trivial,
    trivial, GatherValue.bitexact, GatherValue.algebraic, WholeValue.algebraic⟩

end Cert.Proof

end
